-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_experts_in_range : Cert.Pre_experts_in_range.Facts) (hPre_finite_and_in_range : Cert.Pre_finite_and_in_range.Facts),
    quiescent_Kernel (hKernel := hKernel) (hPre_experts_in_range := hPre_experts_in_range)
    ∧ quiescent_KernelIdeal (hKernelIdeal := hKernelIdeal) (hPre_experts_in_range := hPre_experts_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_experts_in_range.lean ====
abbrev S2048x768 : Shape := ⟨2, ![2048, 768]⟩
abbrev S2048x2 : Shape := ⟨2, ![2048, 2]⟩
abbrev S8x768x1536 : Shape := ⟨3, ![8, 768, 1536]⟩
abbrev S8x1536x768 : Shape := ⟨3, ![8, 1536, 768]⟩
abbrev S8x1536 : Shape := ⟨2, ![8, 1536]⟩
abbrev S8x768 : Shape := ⟨2, ![8, 768]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel

variable [Facts]

def fn {F : FTy → Type} [FloatOps F] (main_arg0 : FVec F S2048x768 .f32) (main_arg1 : FVec F S2048x2 .f32) (main_arg2 : IVec S2048x2 32) (main_arg3 : FVec F S8x768x1536 .f32) (main_arg4 : FVec F S8x1536x768 .f32) (main_arg5 : FVec F S8x1536 .f32) (main_arg6 : FVec F S8x768 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 8#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  main_v5
-- ==== Pre_finite_and_in_range.lean ====
abbrev S2048x768 : Shape := ⟨2, ![2048, 768]⟩
abbrev S2048x2 : Shape := ⟨2, ![2048, 2]⟩
abbrev S8x768x1536 : Shape := ⟨3, ![8, 768, 1536]⟩
abbrev S8x1536x768 : Shape := ⟨3, ![8, 1536, 768]⟩
abbrev S8x1536 : Shape := ⟨2, ![8, 1536]⟩
abbrev S8x768 : Shape := ⟨2, ![8, 768]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S8x768x1536 : S_.BroadcastsInDim S8x768x1536 (![] : Fin 0 → Fin S8x768x1536.rank)
  reducesTo_S8x768x1536_S_d0_1_2 : S8x768x1536.ReducesTo [0, 1, 2] S_
  bcast_S_S8x1536x768 : S_.BroadcastsInDim S8x1536x768 (![] : Fin 0 → Fin S8x1536x768.rank)
  reducesTo_S8x1536x768_S_d0_1_2 : S8x1536x768.ReducesTo [0, 1, 2] S_
  bcast_S_S8x1536 : S_.BroadcastsInDim S8x1536 (![] : Fin 0 → Fin S8x1536.rank)
  reducesTo_S8x1536_S_d0_1 : S8x1536.ReducesTo [0, 1] S_
  bcast_S_S8x768 : S_.BroadcastsInDim S8x768 (![] : Fin 0 → Fin S8x768.rank)
  reducesTo_S8x768_S_d0_1 : S8x768.ReducesTo [0, 1] S_

variable [Facts]

def fn_part2 {F : FTy → Type} [FloatOps F] (main_v30 : IVec S_ 1) (main_v33 : IVec S8x768 1) : IVec S_ 1 :=
  let main_c_12 : IVec S_ 1 := constantI S_ 1 1#1
  let main_v34 : IVec S_ 1 := (fun x v => Host.reduce IntOp.andi x v reducesTo_S8x768_S_d0_1 h_S_) main_v33 main_c_12
  let main_v35 : IVec S_ 1 := andi main_v30 main_v34
  main_v35

def fn_part1 {F : FTy → Type} [FloatOps F] (main_arg4 : FVec F S8x1536x768 .f32) (main_arg5 : FVec F S8x1536 .f32) (main_arg6 : FVec F S8x768 .f32) (main_v15 : IVec S_ 1) (main_v16 : FVec F S8x768x1536 .f32) : IVec S_ 1 :=
  let main_cst_5 : FVec F S_ .f32 := constant S_ .f32 0x7F800000#32
  let main_v17 : FVec F S8x768x1536 .f32 := broadcastInDim S8x768x1536 ![] bcast_S_S8x768x1536 main_cst_5
  let main_v18 : IVec S8x768x1536 1 := cmpf .olt main_v16 main_v17
  let main_c_6 : IVec S_ 1 := constantI S_ 1 1#1
  let main_v19 : IVec S_ 1 := (fun x v => Host.reduce IntOp.andi x v reducesTo_S8x768x1536_S_d0_1_2 h_S_) main_v18 main_c_6
  let main_v20 : IVec S_ 1 := andi main_v15 main_v19
  let main_v21 : FVec F S8x1536x768 .f32 := Host.absf main_arg4
  let main_cst_7 : FVec F S_ .f32 := constant S_ .f32 0x7F800000#32
  let main_v22 : FVec F S8x1536x768 .f32 := broadcastInDim S8x1536x768 ![] bcast_S_S8x1536x768 main_cst_7
  let main_v23 : IVec S8x1536x768 1 := cmpf .olt main_v21 main_v22
  let main_c_8 : IVec S_ 1 := constantI S_ 1 1#1
  let main_v24 : IVec S_ 1 := (fun x v => Host.reduce IntOp.andi x v reducesTo_S8x1536x768_S_d0_1_2 h_S_) main_v23 main_c_8
  let main_v25 : IVec S_ 1 := andi main_v20 main_v24
  let main_v26 : FVec F S8x1536 .f32 := Host.absf main_arg5
  let main_cst_9 : FVec F S_ .f32 := constant S_ .f32 0x7F800000#32
  let main_v27 : FVec F S8x1536 .f32 := broadcastInDim S8x1536 ![] bcast_S_S8x1536 main_cst_9
  let main_v28 : IVec S8x1536 1 := cmpf .olt main_v26 main_v27
  let main_c_10 : IVec S_ 1 := constantI S_ 1 1#1
  let main_v29 : IVec S_ 1 := (fun x v => Host.reduce IntOp.andi x v reducesTo_S8x1536_S_d0_1 h_S_) main_v28 main_c_10
  let main_v30 : IVec S_ 1 := andi main_v25 main_v29
  let main_v31 : FVec F S8x768 .f32 := Host.absf main_arg6
  let main_cst_11 : FVec F S_ .f32 := constant S_ .f32 0x7F800000#32
  let main_v32 : FVec F S8x768 .f32 := broadcastInDim S8x768 ![] bcast_S_S8x768 main_cst_11
  let main_v33 : IVec S8x768 1 := cmpf .olt main_v31 main_v32
  fn_part2 (F := F) main_v30 main_v33

def fn {F : FTy → Type} [FloatOps F] (main_arg0 : FVec F S2048x768 .f32) (main_arg1 : FVec F S2048x2 .f32) (main_arg2 : IVec S2048x2 32) (main_arg3 : FVec F S8x768x1536 .f32) (main_arg4 : FVec F S8x1536x768 .f32) (main_arg5 : FVec F S8x1536 .f32) (main_arg6 : FVec F S8x768 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 8#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x768 .f32 := Host.absf main_arg0
  let main_cst : FVec F S_ .f32 := constant S_ .f32 0x7F800000#32
  let main_v7 : FVec F S2048x768 .f32 := broadcastInDim S2048x768 ![] bcast_S_S2048x768 main_cst
  let main_v8 : IVec S2048x768 1 := cmpf .olt main_v6 main_v7
  let main_c_2 : IVec S_ 1 := constantI S_ 1 1#1
  let main_v9 : IVec S_ 1 := (fun x v => Host.reduce IntOp.andi x v reducesTo_S2048x768_S_d0_1 h_S_) main_v8 main_c_2
  let main_v10 : IVec S_ 1 := andi main_v5 main_v9
  let main_v11 : FVec F S2048x2 .f32 := Host.absf main_arg1
  let main_cst_3 : FVec F S_ .f32 := constant S_ .f32 0x7F800000#32
  let main_v12 : FVec F S2048x2 .f32 := broadcastInDim S2048x2 ![] bcast_S_S2048x2 main_cst_3
  let main_v13 : IVec S2048x2 1 := cmpf .olt main_v11 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v10 main_v14
  let main_v16 : FVec F S8x768x1536 .f32 := Host.absf main_arg3
  fn_part1 (F := F) main_arg4 main_arg5 main_arg6 main_v15 main_v16
-- ==== Kernel.lean ====
abbrev S2048x768 : Shape := ⟨2, ![2048, 768]⟩
abbrev S2048x2 : Shape := ⟨2, ![2048, 2]⟩
abbrev S8x768x1536 : Shape := ⟨3, ![8, 768, 1536]⟩
abbrev S8x1536x768 : Shape := ⟨3, ![8, 1536, 768]⟩
abbrev S8x1536 : Shape := ⟨2, ![8, 1536]⟩
abbrev S8x768 : Shape := ⟨2, ![8, 768]⟩
abbrev S4096 : Shape := ⟨1, ![4096]⟩
abbrev S8192x768 : Shape := ⟨2, ![8192, 768]⟩
abbrev S32 : Shape := ⟨1, ![32]⟩
abbrev S128 : Shape := ⟨1, ![128]⟩
abbrev S64 : Shape := ⟨1, ![64]⟩
abbrev S64x768 : Shape := ⟨2, ![64, 768]⟩
abbrev S_ : Shape := ⟨0, ![]⟩
abbrev S16 : Shape := ⟨1, ![16]⟩
abbrev S64x128 : Shape := ⟨2, ![64, 128]⟩
abbrev S8192x128 : Shape := ⟨2, ![8192, 128]⟩
abbrev S8x1x1536 : Shape := ⟨3, ![8, 1, 1536]⟩
abbrev S8x1x768 : Shape := ⟨3, ![8, 1, 768]⟩
abbrev S512x768 : Shape := ⟨2, ![512, 768]⟩
abbrev S1x768x1536 : Shape := ⟨3, ![1, 768, 1536]⟩
abbrev S1 : Shape := ⟨1, ![1]⟩
abbrev S1x1536x768 : Shape := ⟨3, ![1, 1536, 768]⟩
abbrev S1x1x1536 : Shape := ⟨3, ![1, 1, 1536]⟩
abbrev S1x1x768 : Shape := ⟨3, ![1, 1, 768]⟩
abbrev S768x1536 : Shape := ⟨2, ![768, 1536]⟩
abbrev S512x1536 : Shape := ⟨2, ![512, 1536]⟩
abbrev S1x1536 : Shape := ⟨2, ![1, 1536]⟩
abbrev S1536x768 : Shape := ⟨2, ![1536, 768]⟩
abbrev S1x768 : Shape := ⟨2, ![1, 768]⟩
abbrev S144 : Shape := ⟨1, ![144]⟩
abbrev S1x16 : Shape := ⟨2, ![1, 16]⟩

abbrev nBuf : Table → Nat
  | .hbm => 18
  | .local .tc .vmem => 12
  | .local .tc .smem => 1
  | .local .scVector .vmem => 12
  | _ => 0

abbrev bufTy : (tb : Table) → Fin (nBuf tb) → BufTy
  | .hbm, ⟨0, _⟩ => ⟨S2048x768, .f32⟩
  | .hbm, ⟨1, _⟩ => ⟨S2048x2, .f32⟩
  | .hbm, ⟨2, _⟩ => ⟨S2048x2, .i32⟩
  | .hbm, ⟨3, _⟩ => ⟨S8x768x1536, .f32⟩
  | .hbm, ⟨4, _⟩ => ⟨S8x1536x768, .f32⟩
  | .hbm, ⟨5, _⟩ => ⟨S8x1536, .f32⟩
  | .hbm, ⟨6, _⟩ => ⟨S8x768, .f32⟩
  | .hbm, ⟨7, _⟩ => ⟨S4096, .i32⟩
  | .hbm, ⟨8, _⟩ => ⟨S8192x768, .f32⟩
  | .hbm, ⟨9, _⟩ => ⟨S4096, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S8x1x1536, .f32⟩
  | .hbm, ⟨14, _⟩ => ⟨S8x1x768, .f32⟩
  | .hbm, ⟨15, _⟩ => ⟨S8192x768, .f32⟩
  | .hbm, ⟨16, _⟩ => ⟨S4096, .f32⟩
  | .hbm, ⟨17, _⟩ => ⟨S2048x768, .f32⟩
  | .local .tc .vmem, ⟨0, _⟩ => ⟨S512x768, .f32⟩
  | .local .tc .vmem, ⟨1, _⟩ => ⟨S512x768, .f32⟩
  | .local .tc .vmem, ⟨2, _⟩ => ⟨S1x768x1536, .f32⟩
  | .local .tc .vmem, ⟨3, _⟩ => ⟨S1x768x1536, .f32⟩
  | .local .tc .vmem, ⟨4, _⟩ => ⟨S1x1536x768, .f32⟩
  | .local .tc .vmem, ⟨5, _⟩ => ⟨S1x1536x768, .f32⟩
  | .local .tc .vmem, ⟨6, _⟩ => ⟨S1x1x1536, .f32⟩
  | .local .tc .vmem, ⟨7, _⟩ => ⟨S1x1x1536, .f32⟩
  | .local .tc .vmem, ⟨8, _⟩ => ⟨S1x1x768, .f32⟩
  | .local .tc .vmem, ⟨9, _⟩ => ⟨S1x1x768, .f32⟩
  | .local .tc .vmem, ⟨10, _⟩ => ⟨S512x768, .f32⟩
  | .local .tc .vmem, ⟨11, _⟩ => ⟨S512x768, .f32⟩
  | .local .tc .smem, ⟨0, _⟩ => ⟨S32, .i32⟩
  | .local .scVector .vmem, ⟨0, _⟩ => ⟨S4096, .i32⟩
  | .local .scVector .vmem, ⟨1, _⟩ => ⟨S128, .i32⟩
  | .local .scVector .vmem, ⟨2, _⟩ => ⟨S64, .i32⟩
  | .local .scVector .vmem, ⟨3, _⟩ => ⟨S64, .i32⟩
  | .local .scVector .vmem, ⟨4, _⟩ => ⟨S64x768, .f32⟩
  | .local .scVector .vmem, ⟨5, _⟩ => ⟨S32, .i32⟩
  | .local .scVector .vmem, ⟨6, _⟩ => ⟨S128, .i32⟩
  | .local .scVector .vmem, ⟨7, _⟩ => ⟨S144, .f32⟩
  | .local .scVector .vmem, ⟨8, _⟩ => ⟨S64, .i32⟩
  | .local .scVector .vmem, ⟨9, _⟩ => ⟨S64, .i32⟩
  | .local .scVector .vmem, ⟨10, _⟩ => ⟨S64x768, .f32⟩
  | .local .scVector .vmem, ⟨11, _⟩ => ⟨S64x768, .f32⟩
  | _, _ => ⟨S2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_c : Ref sig .tc := ⟨.hbm, 11, rfl⟩
abbrev main_v2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v3 : Ref sig .tc := ⟨.smem, 0, rfl⟩
abbrev main_v0_scv : Ref sig .scVector := ⟨.hbm, 7, rfl⟩
abbrev main_arg0_scv : Ref sig .scVector := ⟨.hbm, 0, rfl⟩
abbrev main_v1_0_scv : Ref sig .scVector := ⟨.hbm, 8, rfl⟩
abbrev main_v1_1_scv : Ref sig .scVector := ⟨.hbm, 9, rfl⟩
abbrev main_v1_2_scv : Ref sig .scVector := ⟨.hbm, 10, rfl⟩
abbrev main_v6_scv : Ref sig .scVector := ⟨.hbm, 15, rfl⟩
abbrev main_v7_scv : Ref sig .scVector := ⟨.hbm, 16, rfl⟩
abbrev main_v8_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc2_scratch3 : Ref sig .scVector := ⟨.vmem, 9, rfl⟩
abbrev cc2_scratch4 : Ref sig .scVector := ⟨.vmem, 10, rfl⟩
abbrev cc2_scratch5 : Ref sig .scVector := ⟨.vmem, 11, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c0_i32 : BitVec 32 := 0#32
  ![v3.toNat, 0]
@[reducible] def k0_t1_loop (i : grid0.Coords) : Scf.Loop 32 :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v7 : BitVec 32 := Scalar.muli v1 c8_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_3 : BitVec 32 := 1#32
  ⟨c0_i32_2, v12, c1_i32_3⟩
def k0_off2 (i : grid0.Coords) (k0_t1 : Fin (k0_t1_loop i).trips) : Fin 1 → Nat :=
  let c0_i32_2 : BitVec 32 := 0#32
  let c1_i32_3 : BitVec 32 := 1#32
  let arg15 : BitVec 32 := Scf.iv c0_i32_2 c1_i32_3 k0_t1
  let c16_i32_822 : BitVec 32 := 16#32
  let v2025 : BitVec 32 := Scalar.muli arg15 c16_i32_822
  let v2026 : Index := Scalar.indexCast v2025
  ![v2026.toNat]
@[reducible] def k0_t2_loop (i : grid0.Coords) : Scf.Loop 32 :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v7 : BitVec 32 := Scalar.muli v1 c8_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let v9 : BitVec 32 := Scalar.addi c0_i32_2 v8
  let c1_i32_4 : BitVec 32 := 1#32
  ⟨v12, v9, c1_i32_4⟩
def k0_off3 (i : grid0.Coords) (k0_t2 : Fin (k0_t2_loop i).trips) : Fin 1 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v7 : BitVec 32 := Scalar.muli v1 c8_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg15 : BitVec 32 := Scf.iv v12 c1_i32_4 k0_t2
  let c16_i32_822 : BitVec 32 := 16#32
  let v2025 : BitVec 32 := Scalar.muli arg15 c16_i32_822
  let v2026 : Index := Scalar.indexCast v2025
  ![v2026.toNat]
@[reducible] def k0_t3_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_5 : BitVec 32 := 8#32
  let v15 : BitVec 32 := Scalar.muli v1 c8_i32_5
  let c256_i32 : BitVec 32 := 256#32
  let v16 : BitVec 32 := Scalar.subi c256_i32 v15
  let c1_i32_6 : BitVec 32 := 1#32
  let v18 : BitVec 32 := Scalar.divsi v16 c1_i32_6
  let v19 : BitVec 32 := Scalar.muli v18 c1_i32_6
  let v20 : BitVec 32 := Scalar.addi v15 v19
  let c1_i32_7 : BitVec 32 := 1#32
  ⟨v15, v20, c1_i32_7⟩
def k0_off4 (i : grid0.Coords) (k0_t3 : Fin (k0_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_5 : BitVec 32 := 8#32
  let v15 : BitVec 32 := Scalar.muli v1 c8_i32_5
  let c1_i32_7 : BitVec 32 := 1#32
  let arg15 : BitVec 32 := Scf.iv v15 c1_i32_7 k0_t3
  let c16_i32_822 : BitVec 32 := 16#32
  let v2025 : BitVec 32 := Scalar.muli arg15 c16_i32_822
  let v2026 : Index := Scalar.indexCast v2025
  ![v2026.toNat]
@[reducible] def k0_t4_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_5 : BitVec 32 := 8#32
  let v15 : BitVec 32 := Scalar.muli v1 c8_i32_5
  let c256_i32 : BitVec 32 := 256#32
  let v16 : BitVec 32 := Scalar.subi c256_i32 v15
  let c1_i32_6 : BitVec 32 := 1#32
  let v18 : BitVec 32 := Scalar.divsi v16 c1_i32_6
  let v19 : BitVec 32 := Scalar.muli v18 c1_i32_6
  let v20 : BitVec 32 := Scalar.addi v15 v19
  let v17 : BitVec 32 := Scalar.addi v15 v16
  let c1_i32_8 : BitVec 32 := 1#32
  ⟨v20, v17, c1_i32_8⟩
def k0_off5 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_5 : BitVec 32 := 8#32
  let v15 : BitVec 32 := Scalar.muli v1 c8_i32_5
  let c256_i32 : BitVec 32 := 256#32
  let v16 : BitVec 32 := Scalar.subi c256_i32 v15
  let c1_i32_6 : BitVec 32 := 1#32
  let v18 : BitVec 32 := Scalar.divsi v16 c1_i32_6
  let v19 : BitVec 32 := Scalar.muli v18 c1_i32_6
  let v20 : BitVec 32 := Scalar.addi v15 v19
  let c1_i32_8 : BitVec 32 := 1#32
  let arg15 : BitVec 32 := Scf.iv v20 c1_i32_8 k0_t4
  let c16_i32_822 : BitVec 32 := 16#32
  let v2025 : BitVec 32 := Scalar.muli arg15 c16_i32_822
  let v2026 : Index := Scalar.indexCast v2025
  ![v2026.toNat]
def k0_off6 (i : grid0.Coords) (c0_i32_55 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v179 : BitVec 32 := Scalar.muli v1 c128_i32
  let v180 : BitVec 32 := Scalar.addi v179 c0_i32_55
  let v181 : Index := Scalar.indexCast v180
  ![v181.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_648 : BitVec 32 := 128#32
  let v1891 : BitVec 32 := Scalar.muli v1 c128_i32_648
  ![v1891.toNat]

def k0_chk1 (v1895 : IVec S16 32) : Prop :=
  (∀ a x, ((![v1895] : Fin 1 → IVec S16 32) a x).toNat < S128.size a)
theorem k0_idx1_inb : ∀ (v1895 : IVec S16 32) (k0_hw1 : k0_chk1 v1895), ∀ a x, ((![v1895] : Fin 1 → IVec S16 32) a x).toNat < S128.size a := fun v1895 k0_hw1 => k0_hw1

def k0_chk2 (v1903 : IVec S16 32) : Prop :=
  (∀ a x, ((![v1903] : Fin 1 → IVec S16 32) a x).toNat < S128.size a)
theorem k0_idx2_inb : ∀ (v1903 : IVec S16 32) (k0_hw2 : k0_chk2 v1903), ∀ a x, ((![v1903] : Fin 1 → IVec S16 32) a x).toNat < S128.size a := fun v1903 k0_hw2 => k0_hw2

def k0_chk3 (v1909 : IVec S16 32) : Prop :=
  (∀ a x, ((![v1909] : Fin 1 → IVec S16 32) a x).toNat < S128.size a)
theorem k0_idx3_inb : ∀ (v1909 : IVec S16 32) (k0_hw3 : k0_chk3 v1909), ∀ a x, ((![v1909] : Fin 1 → IVec S16 32) a x).toNat < S128.size a := fun v1909 k0_hw3 => k0_hw3

def k0_chk4 (v1917 : IVec S16 32) : Prop :=
  (∀ a x, ((![v1917] : Fin 1 → IVec S16 32) a x).toNat < S128.size a)
theorem k0_idx4_inb : ∀ (v1917 : IVec S16 32) (k0_hw4 : k0_chk4 v1917), ∀ a x, ((![v1917] : Fin 1 → IVec S16 32) a x).toNat < S128.size a := fun v1917 k0_hw4 => k0_hw4

def k0_chk5 (v1923 : IVec S16 32) : Prop :=
  (∀ a x, ((![v1923] : Fin 1 → IVec S16 32) a x).toNat < S128.size a)
theorem k0_idx5_inb : ∀ (v1923 : IVec S16 32) (k0_hw5 : k0_chk5 v1923), ∀ a x, ((![v1923] : Fin 1 → IVec S16 32) a x).toNat < S128.size a := fun v1923 k0_hw5 => k0_hw5

def k0_chk6 (v1931 : IVec S16 32) : Prop :=
  (∀ a x, ((![v1931] : Fin 1 → IVec S16 32) a x).toNat < S128.size a)
theorem k0_idx6_inb : ∀ (v1931 : IVec S16 32) (k0_hw6 : k0_chk6 v1931), ∀ a x, ((![v1931] : Fin 1 → IVec S16 32) a x).toNat < S128.size a := fun v1931 k0_hw6 => k0_hw6

def k0_chk7 (v1937 : IVec S16 32) : Prop :=
  (∀ a x, ((![v1937] : Fin 1 → IVec S16 32) a x).toNat < S128.size a)
theorem k0_idx7_inb : ∀ (v1937 : IVec S16 32) (k0_hw7 : k0_chk7 v1937), ∀ a x, ((![v1937] : Fin 1 → IVec S16 32) a x).toNat < S128.size a := fun v1937 k0_hw7 => k0_hw7

def k0_chk8 (v1945 : IVec S16 32) : Prop :=
  (∀ a x, ((![v1945] : Fin 1 → IVec S16 32) a x).toNat < S128.size a)
theorem k0_idx8_inb : ∀ (v1945 : IVec S16 32) (k0_hw8 : k0_chk8 v1945), ∀ a x, ((![v1945] : Fin 1 → IVec S16 32) a x).toNat < S128.size a := fun v1945 k0_hw8 => k0_hw8
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c0_i32_677 : BitVec 32 := 0#32
  ![v3.toNat, 0]
abbrev grid1 : Pipeline.Grid := ⟨1, ![16], ![false]⟩

abbrev pre1 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x768x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1536x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  ![v3.toNat]

def k2_chk1 (v8 : IVec S16 32) : Prop :=
  (∀ a x, ((![v8] : Fin 1 → IVec S16 32) a x).toNat < S128.size a)
theorem k2_idx1_inb : ∀ (v8 : IVec S16 32) (k2_hw1 : k2_chk1 v8), ∀ a x, ((![v8] : Fin 1 → IVec S16 32) a x).toNat < S128.size a := fun v8 k2_hw1 => k2_hw1

def k2_chk2 (v16 : IVec S16 32) : Prop :=
  (∀ a x, ((![v16] : Fin 1 → IVec S16 32) a x).toNat < S128.size a)
theorem k2_idx2_inb : ∀ (v16 : IVec S16 32) (k2_hw2 : k2_chk2 v16), ∀ a x, ((![v16] : Fin 1 → IVec S16 32) a x).toNat < S128.size a := fun v16 k2_hw2 => k2_hw2

def k2_chk3 (v22 : IVec S16 32) : Prop :=
  (∀ a x, ((![v22] : Fin 1 → IVec S16 32) a x).toNat < S128.size a)
theorem k2_idx3_inb : ∀ (v22 : IVec S16 32) (k2_hw3 : k2_chk3 v22), ∀ a x, ((![v22] : Fin 1 → IVec S16 32) a x).toNat < S128.size a := fun v22 k2_hw3 => k2_hw3

def k2_chk4 (v30 : IVec S16 32) : Prop :=
  (∀ a x, ((![v30] : Fin 1 → IVec S16 32) a x).toNat < S128.size a)
theorem k2_idx4_inb : ∀ (v30 : IVec S16 32) (k2_hw4 : k2_chk4 v30), ∀ a x, ((![v30] : Fin 1 → IVec S16 32) a x).toNat < S128.size a := fun v30 k2_hw4 => k2_hw4

def k2_chk5 (v36 : IVec S16 32) : Prop :=
  (∀ a x, ((![v36] : Fin 1 → IVec S16 32) a x).toNat < S128.size a)
theorem k2_idx5_inb : ∀ (v36 : IVec S16 32) (k2_hw5 : k2_chk5 v36), ∀ a x, ((![v36] : Fin 1 → IVec S16 32) a x).toNat < S128.size a := fun v36 k2_hw5 => k2_hw5

def k2_chk6 (v44 : IVec S16 32) : Prop :=
  (∀ a x, ((![v44] : Fin 1 → IVec S16 32) a x).toNat < S128.size a)
theorem k2_idx6_inb : ∀ (v44 : IVec S16 32) (k2_hw6 : k2_chk6 v44), ∀ a x, ((![v44] : Fin 1 → IVec S16 32) a x).toNat < S128.size a := fun v44 k2_hw6 => k2_hw6

def k2_chk7 (v50 : IVec S16 32) : Prop :=
  (∀ a x, ((![v50] : Fin 1 → IVec S16 32) a x).toNat < S128.size a)
theorem k2_idx7_inb : ∀ (v50 : IVec S16 32) (k2_hw7 : k2_chk7 v50), ∀ a x, ((![v50] : Fin 1 → IVec S16 32) a x).toNat < S128.size a := fun v50 k2_hw7 => k2_hw7

def k2_chk8 (v58 : IVec S16 32) : Prop :=
  (∀ a x, ((![v58] : Fin 1 → IVec S16 32) a x).toNat < S128.size a)
theorem k2_idx8_inb : ∀ (v58 : IVec S16 32) (k2_hw8 : k2_chk8 v58), ∀ a x, ((![v58] : Fin 1 → IVec S16 32) a x).toNat < S128.size a := fun v58 k2_hw8 => k2_hw8
@[reducible] def k2_t1_loop : Scf.Loop 32 :=
  let c0_i32_161 : BitVec 32 := 0#32
  let c64_i32_162 : BitVec 32 := 64#32
  let v133 : BitVec 32 := Scalar.addi c0_i32_161 c64_i32_162
  let c1_i32_163 : BitVec 32 := 1#32
  ⟨c0_i32_161, v133, c1_i32_163⟩
def k2_off2 (k2_t1 : Fin k2_t1_loop.trips) : Fin 1 → Nat :=
  let c2_i32_166 : BitVec 32 := 2#32
  let c0_i32_161 : BitVec 32 := 0#32
  let c1_i32_163 : BitVec 32 := 1#32
  let arg13 : BitVec 32 := Scf.iv c0_i32_161 c1_i32_163 k2_t1
  let v135 : BitVec 32 := Scalar.muli c2_i32_166 arg13
  let v136 : Index := Scalar.indexCast v135
  ![v136.toNat]
def k2_off3 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v142 : Index := Scalar.indexCast arg13
  let c0_167 : Index := 0#32
  ![v142.toNat, 0]
def k2_off4 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v153 : Index := Scalar.indexCast arg13
  let c16_170 : Index := 16#32
  ![v153.toNat, 16]
def k2_off5 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v164 : Index := Scalar.indexCast arg13
  let c32_173 : Index := 32#32
  ![v164.toNat, 32]
def k2_off6 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v175 : Index := Scalar.indexCast arg13
  let c48_176 : Index := 48#32
  ![v175.toNat, 48]
def k2_off7 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v186 : Index := Scalar.indexCast arg13
  let c64 : Index := 64#32
  ![v186.toNat, 64]
def k2_off8 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v197 : Index := Scalar.indexCast arg13
  let c80 : Index := 80#32
  ![v197.toNat, 80]
def k2_off9 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v208 : Index := Scalar.indexCast arg13
  let c96 : Index := 96#32
  ![v208.toNat, 96]
def k2_off10 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v219 : Index := Scalar.indexCast arg13
  let c112 : Index := 112#32
  ![v219.toNat, 112]
def k2_off11 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v230 : Index := Scalar.indexCast arg13
  let c128 : Index := 128#32
  ![v230.toNat, 128]
def k2_off12 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v241 : Index := Scalar.indexCast arg13
  let c144 : Index := 144#32
  ![v241.toNat, 144]
def k2_off13 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v252 : Index := Scalar.indexCast arg13
  let c160 : Index := 160#32
  ![v252.toNat, 160]
def k2_off14 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v263 : Index := Scalar.indexCast arg13
  let c176 : Index := 176#32
  ![v263.toNat, 176]
def k2_off15 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v274 : Index := Scalar.indexCast arg13
  let c192 : Index := 192#32
  ![v274.toNat, 192]
def k2_off16 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v285 : Index := Scalar.indexCast arg13
  let c208 : Index := 208#32
  ![v285.toNat, 208]
def k2_off17 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v296 : Index := Scalar.indexCast arg13
  let c224 : Index := 224#32
  ![v296.toNat, 224]
def k2_off18 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v307 : Index := Scalar.indexCast arg13
  let c240 : Index := 240#32
  ![v307.toNat, 240]
def k2_off19 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v318 : Index := Scalar.indexCast arg13
  let c256 : Index := 256#32
  ![v318.toNat, 256]
def k2_off20 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v329 : Index := Scalar.indexCast arg13
  let c272 : Index := 272#32
  ![v329.toNat, 272]
def k2_off21 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v340 : Index := Scalar.indexCast arg13
  let c288 : Index := 288#32
  ![v340.toNat, 288]
def k2_off22 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v351 : Index := Scalar.indexCast arg13
  let c304 : Index := 304#32
  ![v351.toNat, 304]
def k2_off23 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v362 : Index := Scalar.indexCast arg13
  let c320 : Index := 320#32
  ![v362.toNat, 320]
def k2_off24 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v373 : Index := Scalar.indexCast arg13
  let c336 : Index := 336#32
  ![v373.toNat, 336]
def k2_off25 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v384 : Index := Scalar.indexCast arg13
  let c352 : Index := 352#32
  ![v384.toNat, 352]
def k2_off26 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v395 : Index := Scalar.indexCast arg13
  let c368 : Index := 368#32
  ![v395.toNat, 368]
def k2_off27 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v406 : Index := Scalar.indexCast arg13
  let c384 : Index := 384#32
  ![v406.toNat, 384]
def k2_off28 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v417 : Index := Scalar.indexCast arg13
  let c400 : Index := 400#32
  ![v417.toNat, 400]
def k2_off29 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v428 : Index := Scalar.indexCast arg13
  let c416 : Index := 416#32
  ![v428.toNat, 416]
def k2_off30 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v439 : Index := Scalar.indexCast arg13
  let c432 : Index := 432#32
  ![v439.toNat, 432]
def k2_off31 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v450 : Index := Scalar.indexCast arg13
  let c448 : Index := 448#32
  ![v450.toNat, 448]
def k2_off32 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v461 : Index := Scalar.indexCast arg13
  let c464 : Index := 464#32
  ![v461.toNat, 464]
def k2_off33 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v472 : Index := Scalar.indexCast arg13
  let c480 : Index := 480#32
  ![v472.toNat, 480]
def k2_off34 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v483 : Index := Scalar.indexCast arg13
  let c496 : Index := 496#32
  ![v483.toNat, 496]
def k2_off35 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v494 : Index := Scalar.indexCast arg13
  let c512 : Index := 512#32
  ![v494.toNat, 512]
def k2_off36 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v505 : Index := Scalar.indexCast arg13
  let c528 : Index := 528#32
  ![v505.toNat, 528]
def k2_off37 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v516 : Index := Scalar.indexCast arg13
  let c544 : Index := 544#32
  ![v516.toNat, 544]
def k2_off38 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v527 : Index := Scalar.indexCast arg13
  let c560 : Index := 560#32
  ![v527.toNat, 560]
def k2_off39 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v538 : Index := Scalar.indexCast arg13
  let c576 : Index := 576#32
  ![v538.toNat, 576]
def k2_off40 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v549 : Index := Scalar.indexCast arg13
  let c592 : Index := 592#32
  ![v549.toNat, 592]
def k2_off41 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v560 : Index := Scalar.indexCast arg13
  let c608 : Index := 608#32
  ![v560.toNat, 608]
def k2_off42 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v571 : Index := Scalar.indexCast arg13
  let c624 : Index := 624#32
  ![v571.toNat, 624]
def k2_off43 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v582 : Index := Scalar.indexCast arg13
  let c640 : Index := 640#32
  ![v582.toNat, 640]
def k2_off44 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v593 : Index := Scalar.indexCast arg13
  let c656 : Index := 656#32
  ![v593.toNat, 656]
def k2_off45 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v604 : Index := Scalar.indexCast arg13
  let c672 : Index := 672#32
  ![v604.toNat, 672]
def k2_off46 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v615 : Index := Scalar.indexCast arg13
  let c688 : Index := 688#32
  ![v615.toNat, 688]
def k2_off47 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v626 : Index := Scalar.indexCast arg13
  let c704 : Index := 704#32
  ![v626.toNat, 704]
def k2_off48 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v637 : Index := Scalar.indexCast arg13
  let c720 : Index := 720#32
  ![v637.toNat, 720]
def k2_off49 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v648 : Index := Scalar.indexCast arg13
  let c736 : Index := 736#32
  ![v648.toNat, 736]
def k2_off50 (k2_t1 : Fin k2_t1_loop.trips) : Fin 2 → Nat :=
  let c0_i32_161 : BitVec 32 := 0#32
  let c1_i32_163 : BitVec 32 := 1#32
  let arg13 : BitVec 32 := Scf.iv c0_i32_161 c1_i32_163 k2_t1
  let v659 : Index := Scalar.indexCast arg13
  let c752 : Index := 752#32
  ![v659.toNat, 752]
def k2_off51 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_165 : BitVec 32 := 64#32
  let v134 : BitVec 32 := Scalar.muli v1 c64_i32_165
  let c0_i32_166_r2 : BitVec 32 := 0#32
  ![v134.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x768 : Shape := ⟨2, ![2048, 768]⟩
abbrev S2048x2 : Shape := ⟨2, ![2048, 2]⟩
abbrev S8x768x1536 : Shape := ⟨3, ![8, 768, 1536]⟩
abbrev S8x1536x768 : Shape := ⟨3, ![8, 1536, 768]⟩
abbrev S8x1536 : Shape := ⟨2, ![8, 1536]⟩
abbrev S8x768 : Shape := ⟨2, ![8, 768]⟩
abbrev S_ : Shape := ⟨0, ![]⟩
abbrev S1x768x1536 : Shape := ⟨3, ![1, 768, 1536]⟩
abbrev S768x1536 : Shape := ⟨2, ![768, 1536]⟩
abbrev S2048x1536 : Shape := ⟨2, ![2048, 1536]⟩
abbrev S1x1536 : Shape := ⟨2, ![1, 1536]⟩
abbrev S1536 : Shape := ⟨1, ![1536]⟩
abbrev S1x1536x768 : Shape := ⟨3, ![1, 1536, 768]⟩
abbrev S1536x768 : Shape := ⟨2, ![1536, 768]⟩
abbrev S1x768 : Shape := ⟨2, ![1, 768]⟩
abbrev S768 : Shape := ⟨1, ![768]⟩
abbrev S2048 : Shape := ⟨1, ![2048]⟩
abbrev S2048x1 : Shape := ⟨2, ![2048, 1]⟩

abbrev nBuf : Space → Nat
  | .hbm => 297
  | .vmem => 0
  | .smem => 0
  | _ => 0

abbrev hbmTy0_0 (i : Nat) : BufTy := match i % 128 with
  | 0 => ⟨S2048x768, .f32⟩
  | 1 => ⟨S2048x2, .f32⟩
  | 2 => ⟨S2048x2, .i32⟩
  | 3 => ⟨S8x768x1536, .f32⟩
  | 4 => ⟨S8x1536x768, .f32⟩
  | 5 => ⟨S8x1536, .f32⟩
  | 6 => ⟨S8x768, .f32⟩
  | 7 => ⟨S_, .f32⟩
  | 8 => ⟨S2048x768, .f32⟩
  | 9 => ⟨S1x768x1536, .f32⟩
  | 10 => ⟨S768x1536, .f32⟩
  | 11 => ⟨S2048x1536, .f32⟩
  | 12 => ⟨S1x1536, .f32⟩
  | 13 => ⟨S1536, .f32⟩
  | 14 => ⟨S1x1536, .f32⟩
  | 15 => ⟨S2048x1536, .f32⟩
  | 16 => ⟨S2048x1536, .f32⟩
  | 17 => ⟨S_, .f32⟩
  | 18 => ⟨S2048x1536, .f32⟩
  | 19 => ⟨S2048x1536, .f32⟩
  | 20 => ⟨S2048x1536, .f32⟩
  | 21 => ⟨S_, .f32⟩
  | 22 => ⟨S2048x1536, .f32⟩
  | 23 => ⟨S2048x1536, .f32⟩
  | 24 => ⟨S2048x1536, .f32⟩
  | 25 => ⟨S2048x1536, .f32⟩
  | 26 => ⟨S1x1536x768, .f32⟩
  | 27 => ⟨S1536x768, .f32⟩
  | 28 => ⟨S2048x768, .f32⟩
  | 29 => ⟨S1x768, .f32⟩
  | 30 => ⟨S768, .f32⟩
  | 31 => ⟨S1x768, .f32⟩
  | 32 => ⟨S2048x768, .f32⟩
  | 33 => ⟨S2048x768, .f32⟩
  | 34 => ⟨S_, .i32⟩
  | 35 => ⟨S2048x2, .i32⟩
  | 36 => ⟨S2048x2, .i1⟩
  | 37 => ⟨S2048x2, .f32⟩
  | 38 => ⟨S2048x2, .f32⟩
  | 39 => ⟨S_, .f32⟩
  | 40 => ⟨S2048, .f32⟩
  | 41 => ⟨S2048x1, .f32⟩
  | 42 => ⟨S2048x768, .f32⟩
  | 43 => ⟨S2048x768, .f32⟩
  | 44 => ⟨S2048x768, .f32⟩
  | 45 => ⟨S1x768x1536, .f32⟩
  | 46 => ⟨S768x1536, .f32⟩
  | 47 => ⟨S2048x1536, .f32⟩
  | 48 => ⟨S1x1536, .f32⟩
  | 49 => ⟨S1536, .f32⟩
  | 50 => ⟨S1x1536, .f32⟩
  | 51 => ⟨S2048x1536, .f32⟩
  | 52 => ⟨S2048x1536, .f32⟩
  | 53 => ⟨S_, .f32⟩
  | 54 => ⟨S2048x1536, .f32⟩
  | 55 => ⟨S2048x1536, .f32⟩
  | 56 => ⟨S2048x1536, .f32⟩
  | 57 => ⟨S_, .f32⟩
  | 58 => ⟨S2048x1536, .f32⟩
  | 59 => ⟨S2048x1536, .f32⟩
  | 60 => ⟨S2048x1536, .f32⟩
  | 61 => ⟨S2048x1536, .f32⟩
  | 62 => ⟨S1x1536x768, .f32⟩
  | 63 => ⟨S1536x768, .f32⟩
  | 64 => ⟨S2048x768, .f32⟩
  | 65 => ⟨S1x768, .f32⟩
  | 66 => ⟨S768, .f32⟩
  | 67 => ⟨S1x768, .f32⟩
  | 68 => ⟨S2048x768, .f32⟩
  | 69 => ⟨S2048x768, .f32⟩
  | 70 => ⟨S_, .i32⟩
  | 71 => ⟨S2048x2, .i32⟩
  | 72 => ⟨S2048x2, .i1⟩
  | 73 => ⟨S2048x2, .f32⟩
  | 74 => ⟨S2048x2, .f32⟩
  | 75 => ⟨S_, .f32⟩
  | 76 => ⟨S2048, .f32⟩
  | 77 => ⟨S2048x1, .f32⟩
  | 78 => ⟨S2048x768, .f32⟩
  | 79 => ⟨S2048x768, .f32⟩
  | 80 => ⟨S2048x768, .f32⟩
  | 81 => ⟨S1x768x1536, .f32⟩
  | 82 => ⟨S768x1536, .f32⟩
  | 83 => ⟨S2048x1536, .f32⟩
  | 84 => ⟨S1x1536, .f32⟩
  | 85 => ⟨S1536, .f32⟩
  | 86 => ⟨S1x1536, .f32⟩
  | 87 => ⟨S2048x1536, .f32⟩
  | 88 => ⟨S2048x1536, .f32⟩
  | 89 => ⟨S_, .f32⟩
  | 90 => ⟨S2048x1536, .f32⟩
  | 91 => ⟨S2048x1536, .f32⟩
  | 92 => ⟨S2048x1536, .f32⟩
  | 93 => ⟨S_, .f32⟩
  | 94 => ⟨S2048x1536, .f32⟩
  | 95 => ⟨S2048x1536, .f32⟩
  | 96 => ⟨S2048x1536, .f32⟩
  | 97 => ⟨S2048x1536, .f32⟩
  | 98 => ⟨S1x1536x768, .f32⟩
  | 99 => ⟨S1536x768, .f32⟩
  | 100 => ⟨S2048x768, .f32⟩
  | 101 => ⟨S1x768, .f32⟩
  | 102 => ⟨S768, .f32⟩
  | 103 => ⟨S1x768, .f32⟩
  | 104 => ⟨S2048x768, .f32⟩
  | 105 => ⟨S2048x768, .f32⟩
  | 106 => ⟨S_, .i32⟩
  | 107 => ⟨S2048x2, .i32⟩
  | 108 => ⟨S2048x2, .i1⟩
  | 109 => ⟨S2048x2, .f32⟩
  | 110 => ⟨S2048x2, .f32⟩
  | 111 => ⟨S_, .f32⟩
  | 112 => ⟨S2048, .f32⟩
  | 113 => ⟨S2048x1, .f32⟩
  | 114 => ⟨S2048x768, .f32⟩
  | 115 => ⟨S2048x768, .f32⟩
  | 116 => ⟨S2048x768, .f32⟩
  | 117 => ⟨S1x768x1536, .f32⟩
  | 118 => ⟨S768x1536, .f32⟩
  | 119 => ⟨S2048x1536, .f32⟩
  | 120 => ⟨S1x1536, .f32⟩
  | 121 => ⟨S1536, .f32⟩
  | 122 => ⟨S1x1536, .f32⟩
  | 123 => ⟨S2048x1536, .f32⟩
  | 124 => ⟨S2048x1536, .f32⟩
  | 125 => ⟨S_, .f32⟩
  | 126 => ⟨S2048x1536, .f32⟩
  | 127 => ⟨S2048x1536, .f32⟩
  | _ => ⟨S2048x768, .f32⟩

abbrev hbmTy0_1 (i : Nat) : BufTy := match i % 128 with
  | 0 => ⟨S2048x1536, .f32⟩
  | 1 => ⟨S_, .f32⟩
  | 2 => ⟨S2048x1536, .f32⟩
  | 3 => ⟨S2048x1536, .f32⟩
  | 4 => ⟨S2048x1536, .f32⟩
  | 5 => ⟨S2048x1536, .f32⟩
  | 6 => ⟨S1x1536x768, .f32⟩
  | 7 => ⟨S1536x768, .f32⟩
  | 8 => ⟨S2048x768, .f32⟩
  | 9 => ⟨S1x768, .f32⟩
  | 10 => ⟨S768, .f32⟩
  | 11 => ⟨S1x768, .f32⟩
  | 12 => ⟨S2048x768, .f32⟩
  | 13 => ⟨S2048x768, .f32⟩
  | 14 => ⟨S_, .i32⟩
  | 15 => ⟨S2048x2, .i32⟩
  | 16 => ⟨S2048x2, .i1⟩
  | 17 => ⟨S2048x2, .f32⟩
  | 18 => ⟨S2048x2, .f32⟩
  | 19 => ⟨S_, .f32⟩
  | 20 => ⟨S2048, .f32⟩
  | 21 => ⟨S2048x1, .f32⟩
  | 22 => ⟨S2048x768, .f32⟩
  | 23 => ⟨S2048x768, .f32⟩
  | 24 => ⟨S2048x768, .f32⟩
  | 25 => ⟨S1x768x1536, .f32⟩
  | 26 => ⟨S768x1536, .f32⟩
  | 27 => ⟨S2048x1536, .f32⟩
  | 28 => ⟨S1x1536, .f32⟩
  | 29 => ⟨S1536, .f32⟩
  | 30 => ⟨S1x1536, .f32⟩
  | 31 => ⟨S2048x1536, .f32⟩
  | 32 => ⟨S2048x1536, .f32⟩
  | 33 => ⟨S_, .f32⟩
  | 34 => ⟨S2048x1536, .f32⟩
  | 35 => ⟨S2048x1536, .f32⟩
  | 36 => ⟨S2048x1536, .f32⟩
  | 37 => ⟨S_, .f32⟩
  | 38 => ⟨S2048x1536, .f32⟩
  | 39 => ⟨S2048x1536, .f32⟩
  | 40 => ⟨S2048x1536, .f32⟩
  | 41 => ⟨S2048x1536, .f32⟩
  | 42 => ⟨S1x1536x768, .f32⟩
  | 43 => ⟨S1536x768, .f32⟩
  | 44 => ⟨S2048x768, .f32⟩
  | 45 => ⟨S1x768, .f32⟩
  | 46 => ⟨S768, .f32⟩
  | 47 => ⟨S1x768, .f32⟩
  | 48 => ⟨S2048x768, .f32⟩
  | 49 => ⟨S2048x768, .f32⟩
  | 50 => ⟨S_, .i32⟩
  | 51 => ⟨S2048x2, .i32⟩
  | 52 => ⟨S2048x2, .i1⟩
  | 53 => ⟨S2048x2, .f32⟩
  | 54 => ⟨S2048x2, .f32⟩
  | 55 => ⟨S_, .f32⟩
  | 56 => ⟨S2048, .f32⟩
  | 57 => ⟨S2048x1, .f32⟩
  | 58 => ⟨S2048x768, .f32⟩
  | 59 => ⟨S2048x768, .f32⟩
  | 60 => ⟨S2048x768, .f32⟩
  | 61 => ⟨S1x768x1536, .f32⟩
  | 62 => ⟨S768x1536, .f32⟩
  | 63 => ⟨S2048x1536, .f32⟩
  | 64 => ⟨S1x1536, .f32⟩
  | 65 => ⟨S1536, .f32⟩
  | 66 => ⟨S1x1536, .f32⟩
  | 67 => ⟨S2048x1536, .f32⟩
  | 68 => ⟨S2048x1536, .f32⟩
  | 69 => ⟨S_, .f32⟩
  | 70 => ⟨S2048x1536, .f32⟩
  | 71 => ⟨S2048x1536, .f32⟩
  | 72 => ⟨S2048x1536, .f32⟩
  | 73 => ⟨S_, .f32⟩
  | 74 => ⟨S2048x1536, .f32⟩
  | 75 => ⟨S2048x1536, .f32⟩
  | 76 => ⟨S2048x1536, .f32⟩
  | 77 => ⟨S2048x1536, .f32⟩
  | 78 => ⟨S1x1536x768, .f32⟩
  | 79 => ⟨S1536x768, .f32⟩
  | 80 => ⟨S2048x768, .f32⟩
  | 81 => ⟨S1x768, .f32⟩
  | 82 => ⟨S768, .f32⟩
  | 83 => ⟨S1x768, .f32⟩
  | 84 => ⟨S2048x768, .f32⟩
  | 85 => ⟨S2048x768, .f32⟩
  | 86 => ⟨S_, .i32⟩
  | 87 => ⟨S2048x2, .i32⟩
  | 88 => ⟨S2048x2, .i1⟩
  | 89 => ⟨S2048x2, .f32⟩
  | 90 => ⟨S2048x2, .f32⟩
  | 91 => ⟨S_, .f32⟩
  | 92 => ⟨S2048, .f32⟩
  | 93 => ⟨S2048x1, .f32⟩
  | 94 => ⟨S2048x768, .f32⟩
  | 95 => ⟨S2048x768, .f32⟩
  | 96 => ⟨S2048x768, .f32⟩
  | 97 => ⟨S1x768x1536, .f32⟩
  | 98 => ⟨S768x1536, .f32⟩
  | 99 => ⟨S2048x1536, .f32⟩
  | 100 => ⟨S1x1536, .f32⟩
  | 101 => ⟨S1536, .f32⟩
  | 102 => ⟨S1x1536, .f32⟩
  | 103 => ⟨S2048x1536, .f32⟩
  | 104 => ⟨S2048x1536, .f32⟩
  | 105 => ⟨S_, .f32⟩
  | 106 => ⟨S2048x1536, .f32⟩
  | 107 => ⟨S2048x1536, .f32⟩
  | 108 => ⟨S2048x1536, .f32⟩
  | 109 => ⟨S_, .f32⟩
  | 110 => ⟨S2048x1536, .f32⟩
  | 111 => ⟨S2048x1536, .f32⟩
  | 112 => ⟨S2048x1536, .f32⟩
  | 113 => ⟨S2048x1536, .f32⟩
  | 114 => ⟨S1x1536x768, .f32⟩
  | 115 => ⟨S1536x768, .f32⟩
  | 116 => ⟨S2048x768, .f32⟩
  | 117 => ⟨S1x768, .f32⟩
  | 118 => ⟨S768, .f32⟩
  | 119 => ⟨S1x768, .f32⟩
  | 120 => ⟨S2048x768, .f32⟩
  | 121 => ⟨S2048x768, .f32⟩
  | 122 => ⟨S_, .i32⟩
  | 123 => ⟨S2048x2, .i32⟩
  | 124 => ⟨S2048x2, .i1⟩
  | 125 => ⟨S2048x2, .f32⟩
  | 126 => ⟨S2048x2, .f32⟩
  | 127 => ⟨S_, .f32⟩
  | _ => ⟨S2048x768, .f32⟩

abbrev hbmTy0_2 (i : Nat) : BufTy := match i % 128 with
  | 0 => ⟨S2048, .f32⟩
  | 1 => ⟨S2048x1, .f32⟩
  | 2 => ⟨S2048x768, .f32⟩
  | 3 => ⟨S2048x768, .f32⟩
  | 4 => ⟨S2048x768, .f32⟩
  | 5 => ⟨S1x768x1536, .f32⟩
  | 6 => ⟨S768x1536, .f32⟩
  | 7 => ⟨S2048x1536, .f32⟩
  | 8 => ⟨S1x1536, .f32⟩
  | 9 => ⟨S1536, .f32⟩
  | 10 => ⟨S1x1536, .f32⟩
  | 11 => ⟨S2048x1536, .f32⟩
  | 12 => ⟨S2048x1536, .f32⟩
  | 13 => ⟨S_, .f32⟩
  | 14 => ⟨S2048x1536, .f32⟩
  | 15 => ⟨S2048x1536, .f32⟩
  | 16 => ⟨S2048x1536, .f32⟩
  | 17 => ⟨S_, .f32⟩
  | 18 => ⟨S2048x1536, .f32⟩
  | 19 => ⟨S2048x1536, .f32⟩
  | 20 => ⟨S2048x1536, .f32⟩
  | 21 => ⟨S2048x1536, .f32⟩
  | 22 => ⟨S1x1536x768, .f32⟩
  | 23 => ⟨S1536x768, .f32⟩
  | 24 => ⟨S2048x768, .f32⟩
  | 25 => ⟨S1x768, .f32⟩
  | 26 => ⟨S768, .f32⟩
  | 27 => ⟨S1x768, .f32⟩
  | 28 => ⟨S2048x768, .f32⟩
  | 29 => ⟨S2048x768, .f32⟩
  | 30 => ⟨S_, .i32⟩
  | 31 => ⟨S2048x2, .i32⟩
  | 32 => ⟨S2048x2, .i1⟩
  | 33 => ⟨S2048x2, .f32⟩
  | 34 => ⟨S2048x2, .f32⟩
  | 35 => ⟨S_, .f32⟩
  | 36 => ⟨S2048, .f32⟩
  | 37 => ⟨S2048x1, .f32⟩
  | 38 => ⟨S2048x768, .f32⟩
  | 39 => ⟨S2048x768, .f32⟩
  | 40 => ⟨S2048x768, .f32⟩
  | _ => ⟨S2048x768, .f32⟩

abbrev hbmTy (i : Nat) : BufTy := match i / 128 with
  | 0 => hbmTy0_0 i
  | 1 => hbmTy0_1 i
  | 2 => hbmTy0_2 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c_9 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_10 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_11 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_cst_12 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_c_13 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_14 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_15 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_16 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_c_17 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_cst_18 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_cst_19 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_cst_20 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_c_21 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_cst_22 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_cst_23 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_cst_24 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_c_25 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_cst_26 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_cst_27 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_cst_28 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_c_29 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_cst_30 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩

abbrev nD : Nat := 1
abbrev τ : Topo := Topo.v7x

variable {F : FTy → Type} [FloatOps F]
-- ==== Proof.Kernel.Base.lean ====
/-
  The program as its launch sees it: the vocabulary of the two SparseCore calls and of the TensorCore call between them, the ghost state, and the arrays by name.
-/
module

public import proofs.«01_k».proof.Defs
public import proofs.«01_k».proof.Proof.Gen.Kernel
public import proofs.«01_k».proof.Proof.Gen.Kernel.Skeleton
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.SparseCore.ProtocolKit
public import Idealize.ShloMosaic.Lib.ShareLeaves
public import Idealize.ShloMosaic.Lib.StableHlo.Run
public import Idealize.ShloMosaic.Lib.Pipeline.Kit
public import Idealize.ShloMosaic.Lib.ValueIdxCore
public import Idealize.ShloMosaic.Lib.Tactic

@[expose] public section

noncomputable section

namespace Cert.Proof.Kernel

open Cert.Kernel Cert.Kernel.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

/-- The labels of the kernel bodies and of the TensorCore call, before the SparseCore calls' own. -/
abbrev ΛP : Labels := Pipeline.Sig Λ₀ (Fin 1) fun p => (pcfgs (F := F) p).Adm
/-- The two SparseCore calls. -/
abbrev K : SparseCore.Cfg τ sig (ΛP (F := F)) 2 := sc (F := F)
theorem nCore_zero : (K (F := F)).nCore 0 = 2 := rfl
theorem nSub_zero : (K (F := F)).nSub 0 = 16 := rfl
theorem nCore_one : (K (F := F)).nCore 1 = 2 := rfl
theorem nSub_one : (K (F := F)).nSub 1 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts about the calls' semaphores and buffers, each decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
/-- The ghost state: the handshakes' rounds, beside the TensorCore call's and the copies' counters. -/
abbrev UU : Type := UH × (UP × Counters)

local notation "𝕄" => MT nD τ sig (HIx 2) (Elt F) ℕ UU ℕ

abbrev EH : Emb UH (MT nD τ sig (HIx 2) (Elt F) ℕ UU ℕ) := embL

/-! ## The arrays -/

abbrev xLoc (d : Dev nD) : Loc nD τ sig := (SparseCore.T d).loc main_arg0
abbrev teLoc (d : Dev nD) : Loc nD τ sig := (SparseCore.T d).loc main_v0
abbrev xsLoc (d : Dev nD) : Loc nD τ sig := (SparseCore.T d).loc main_v1_0
abbrev dLoc (d : Dev nD) : Loc nD τ sig := (SparseCore.T d).loc main_v1_1
abbrev beLoc (d : Dev nD) : Loc nD τ sig := (SparseCore.T d).loc main_v1_2
abbrev yLoc (d : Dev nD) : Loc nD τ sig := (SparseCore.T d).loc main_v6
abbrev wLoc (d : Dev nD) : Loc nD τ sig := (SparseCore.T d).loc main_v7
abbrev oLoc (d : Dev nD) : Loc nD τ sig := (SparseCore.T d).loc main_v8

end Cert.Proof.Kernel

end
-- ==== Proof.Kernel.Route.Value.lean ====
/-
  What the routing call computes, as functions of the 4096 expert numbers: the sixteen-lane words that a task's program forms, with the names they have there.
-/
module

public import proofs.«01_k».proof.Proof.Kernel.Base

@[expose] public section

noncomputable section

namespace Cert.Proof.Kernel.Route

open Cert.Kernel Cert.Kernel.Gen

open Idealize.ShloMosaic
open Idealize.ShloMosaic.ValueIdx

/-! ## Lanes -/

/-- The lanes' numbers. -/
def lane : IVec S16 32 := iota .scVector S16 32 [0] iota_S16_d0_w32_scVector

/-- The same word in every lane. -/
abbrev bc (c : BitVec 32) : IVec S16 32 := broadcast S16 c

/-- The sum of the lanes. -/
abbrev total (v : IVec S16 32) : BitVec 32 := extractAt ![15] (scan .sum v) inpos_S16_p15

/-- One in the lanes that hold `e`. -/
abbrev one (e : BitVec 32) (v : IVec S16 32) : IVec S16 32 := extui 32 (cmpi .eq v (bc e)) natLt_1_32

/-- `x` in lane `e` alone. -/
abbrev only (e : BitVec 32) (x : IVec S16 32) : IVec S16 32 := select (cmpi .eq lane (bc e)) x (bc 0#32)

/-- Lanes summed per expert: lane `e` holds the sum of the `e`-th of eight words of lanes. -/
abbrev gather (f : BitVec 32 → IVec S16 32) : IVec S16 32 :=
  addi (addi (addi (addi (addi (addi (addi (addi (bc 0#32) (only 0#32 (bc (total (f 0#32))))) (only 1#32 (bc (total (f 1#32))))) (only 2#32 (bc (total (f 2#32)))))
    (only 3#32 (bc (total (f 3#32))))) (only 4#32 (bc (total (f 4#32))))) (only 5#32 (bc (total (f 5#32))))) (only 6#32 (bc (total (f 6#32))))) (only 7#32 (bc (total (f 7#32))))

/-! ## The counts -/

/-- Sixteen expert numbers: the `n`-th group. -/
def grp (te : S4096.Idx → BitVec 32) (n : ℕ) : IVec S16 32 := fun x => te (ix1 (n := 4096) ⟨(16 * n + (x 0).val) % 4096, Nat.mod_lt _ (by decide)⟩)

/-- In each lane the number of the first `n` groups that hold `e` there. -/
def cnt (te : S4096.Idx → BitVec 32) (e : BitVec 32) : ℕ → IVec S16 32
  | 0 => bc 0#32
  | n + 1 => addi (cnt te e n) (one e (grp te n))

/-- Per expert, the entries before task `w`'s own, -/
def base (te : S4096.Idx → BitVec 32) (w : ℕ) : IVec S16 32 := gather fun e => cnt te e (8 * w)
/-- and all entries; -/
def tot (te : S4096.Idx → BitVec 32) : IVec S16 32 := gather fun e => cnt te e 256
/-- these rounded up to whole blocks of 512, -/
def padded (te : S4096.Idx → BitVec 32) : IVec S16 32 := shli (shrsi (addi (tot te) (bc 511#32)) (bc 9#32)) (bc 9#32)
/-- and where the experts' blocks end. -/
def ends (te : S4096.Idx → BitVec 32) : IVec S16 32 := scan .sum (padded te)

/-! ## The destinations -/

/-- The next free row per expert, once an expert's entries among sixteen are placed, -/
abbrev runE (e : BitVec 32) (v run : IVec S16 32) : IVec S16 32 := addi run (only e (bc (total (one e v))))
/-- and the rows that these entries get. -/
abbrev destE (e : BitVec 32) (v run dest : IVec S16 32) : IVec S16 32 :=
  select (cmpi .eq v (bc e)) (addi (bc (total (only e run))) (subi (scan .sum (one e v)) (bc 1#32))) dest

/-- The next free rows after experts `0, …, n - 1`, -/
def runN (v run : IVec S16 32) : ℕ → IVec S16 32
  | 0 => run
  | n + 1 => runE (BitVec.ofNat 32 n) v (runN v run n)
/-- and the rows placed until then. -/
def destN (v run : IVec S16 32) : ℕ → IVec S16 32
  | 0 => bc 0#32
  | n + 1 => destE (BitVec.ofNat 32 n) v (runN v run n) (destN v run n)

/-- The next free rows before the `j`-th of task `w`'s eight groups, -/
def runAt (te : S4096.Idx → BitVec 32) (w : ℕ) : ℕ → IVec S16 32
  | 0 => addi (subi (ends te) (padded te)) (base te w)
  | j + 1 => runN (grp te (8 * w + j)) (runAt te w j) 8
/-- and the rows of the group's entries. -/
def destAt (te : S4096.Idx → BitVec 32) (w j : ℕ) : IVec S16 32 := destN (grp te (8 * w + j)) (runAt te w j) 8

/-- The row that each entry gets. -/
def dest (te : S4096.Idx → BitVec 32) : S4096.Idx → BitVec 32 :=
  fun x => destAt te ((x 0).val / 128) ((x 0).val / 16 % 8) (ix1 (n := 16) ⟨(x 0).val % 16, Nat.mod_lt _ (by decide)⟩)

/-! ## The blocks' experts -/

/-- The last expert with an entry. -/
def lastExpert (te : S4096.Idx → BitVec 32) : BitVec 32 :=
  extractAt ![15] (xori (scan .max (xori (select (cmpi .sgt (tot te) (bc 0#32)) lane (bc 0#32)) (bc 2147483648#32))) (bc 2147483648#32)) inpos_S16_p15

/-- The number of blocks with entries. -/
def used (te : S4096.Idx → BitVec 32) : BitVec 32 := Scalar.shrsi (extractAt ![15] (scan .sum (padded te)) inpos_S16_p15) 9#32

/-- One in the lanes of blocks that begin at or after the end of `e`'s. -/
abbrev past (te : S4096.Idx → BitVec 32) (q e : BitVec 32) : IVec S16 32 :=
  extui 32 (cmpi .sge (muli (addi lane (bc q)) (bc 512#32)) (bc (total (only e (ends te))))) natLt_1_32

/-- The expert of each of sixteen blocks from block `q` on. -/
def expertsAt (te : S4096.Idx → BitVec 32) (q : BitVec 32) : IVec S16 32 :=
  minsi (addi (addi (addi (addi (addi (addi (addi (addi (bc 0#32) (past te q 0#32)) (past te q 1#32)) (past te q 2#32)) (past te q 3#32)) (past te q 4#32)) (past te q 5#32))
    (past te q 6#32)) (past te q 7#32)) (bc (lastExpert te))

/-- The table of the blocks' experts; its last word is the number of blocks with entries. -/
def blocks (te : S4096.Idx → BitVec 32) : S32.Idx → BitVec 32 := fun x =>
  if (x 0).val < 16 then expertsAt te 0#32 (ix1 (n := 16) ⟨(x 0).val % 16, Nat.mod_lt _ (by decide)⟩)
  else select (cmpi .eq lane (bc 15#32)) (bc (used te)) (expertsAt te 16#32) (ix1 (n := 16) ⟨(x 0).val % 16, Nat.mod_lt _ (by decide)⟩)

end Cert.Proof.Kernel.Route

end
-- ==== Proof.Kernel.Route.Lanes.lean ====
/-
  Sixteen lanes of natural numbers: what the words of the routing call's operations are on them.
-/
module

public import proofs.«01_k».proof.Proof.Kernel.Route.Value

@[expose] public section

noncomputable section

namespace Cert.Proof.Kernel.Route

open Cert.Kernel Cert.Kernel.Gen

open Idealize.ShloMosaic
open Idealize.ShloMosaic.ValueIdx (eq_ix1)
open Finset (range)

/-- The lanes that hold the numbers `f 0, …, f 15`. -/
def nat (f : ℕ → ℕ) : IVec S16 32 := fun x => BitVec.ofNat 32 (f (x 0).val)

theorem nat_at (f : ℕ → ℕ) (k : Fin 16) : nat f (ValueIdx.ix1 (n := 16) k) = BitVec.ofNat 32 (f k.val) := rfl

/-- One where `p` holds, else zero. -/
abbrev hit (p : Prop) [Decidable p] : ℕ := if p then 1 else 0

theorem nat_congr {f g : ℕ → ℕ} (h : ∀ k < 16, f k = g k) : nat f = nat g :=
  funext fun (x : S16.Idx) => congrArg (BitVec.ofNat 32) (h _ (show (x 0).val < 16 from (x 0).isLt))

theorem lane_eq : lane = nat fun k => k := by
  funext x
  show BitVec.ofNat 32 (0 * 16 + (x 0).val) = BitVec.ofNat 32 (x 0).val
  rw [Nat.zero_mul, Nat.zero_add]

theorem bc_eq (c : ℕ) : (bc (BitVec.ofNat 32 c) : IVec S16 32) = nat fun _ => c := rfl

theorem addi_nat (f g : ℕ → ℕ) : addi (nat f) (nat g) = nat fun k => f k + g k :=
  funext fun _ => (BitVec.ofNat_add ..).symm

theorem subi_nat {f g h : ℕ → ℕ} (e : ∀ k < 16, f k = h k + g k) : subi (nat f) (nat g) = nat h := by
  rw [nat_congr e]
  funext x
  show BitVec.ofNat 32 (_ + _) - BitVec.ofNat 32 _ = BitVec.ofNat 32 _
  rw [BitVec.ofNat_add, BitVec.add_sub_cancel]

theorem toNat_small {a : ℕ} (h : a < 2 ^ 31) : (BitVec.ofNat 32 a).toNat = a := by
  rw [BitVec.toNat_ofNat]; exact Nat.mod_eq_of_lt (by omega)

theorem toInt_small {a : ℕ} (h : a < 2 ^ 31) : (BitVec.ofNat 32 a).toInt = a := by
  rw [BitVec.toInt_eq_toNat_of_lt (by rw [toNat_small h]; omega), toNat_small h]

theorem ofNat_inj {a b : ℕ} (ha : a < 2 ^ 31) (hb : b < 2 ^ 31) : BitVec.ofNat 32 a = BitVec.ofNat 32 b ↔ a = b :=
  ⟨fun h => by rw [← toNat_small ha, ← toNat_small hb, h], fun h => by rw [h]⟩

theorem slt_small {a b : ℕ} (ha : a < 2 ^ 31) (hb : b < 2 ^ 31) : (BitVec.ofNat 32 a).slt (BitVec.ofNat 32 b) = decide (a < b) := by
  rw [BitVec.slt_eq_decide, toInt_small ha, toInt_small hb]
  simp

theorem sle_small {a b : ℕ} (ha : a < 2 ^ 31) (hb : b < 2 ^ 31) : (BitVec.ofNat 32 a).sle (BitVec.ofNat 32 b) = decide (a ≤ b) := by
  rw [BitVec.sle_eq_decide, toInt_small ha, toInt_small hb]
  simp

theorem shr_nat {f : ℕ → ℕ} (h : ∀ k < 16, f k < 2 ^ 31) : shrsi (nat f) (bc 9#32) = nat fun k => f k / 512 := by
  funext x
  have hx := h _ (show (x 0).val < 16 from (x 0).isLt)
  show (if (9#32).toNat < 32 then (BitVec.ofNat 32 (f (x 0).val)).sshiftRight' 9#32 else IntOp.cornerWord .vector .shrsi (BitVec.ofNat 32 (f (x 0).val)) 9#32) = BitVec.ofNat 32 (f (x 0).val / 512)
  rw [if_pos (by decide)]
  apply BitVec.eq_of_toNat_eq
  show ((BitVec.ofNat 32 (f (x 0).val)).sshiftRight 9).toNat = (BitVec.ofNat 32 (f (x 0).val / 512)).toNat
  rw [BitVec.toNat_sshiftRight_of_msb_false (by rw [BitVec.msb_eq_false_iff_two_mul_lt, toNat_small hx]; omega), toNat_small hx, toNat_small (by omega), Nat.shiftRight_eq_div_pow]

theorem shl_nat {f : ℕ → ℕ} : shli (nat f) (bc 9#32) = nat fun k => 512 * f k := by
  funext x
  show (if (9#32).toNat < 32 then (BitVec.ofNat 32 (f (x 0).val)) <<< 9#32 else IntOp.cornerWord .vector .shli (BitVec.ofNat 32 (f (x 0).val)) 9#32) = BitVec.ofNat 32 (512 * f (x 0).val)
  rw [if_pos (by decide)]
  apply BitVec.eq_of_toNat_eq
  show ((BitVec.ofNat 32 (f (x 0).val)) <<< 9).toNat = (BitVec.ofNat 32 (512 * f (x 0).val)).toNat
  rw [BitVec.toNat_shiftLeft, BitVec.toNat_ofNat, BitVec.toNat_ofNat, Nat.shiftLeft_eq]
  omega

/-- Equality with a word, as one or zero. -/
theorem one_nat {f : ℕ → ℕ} {e : ℕ} (he : e < 2 ^ 31) (hf : ∀ k, f k < 2 ^ 31) : one (BitVec.ofNat 32 e) (nat f) = nat fun k => hit (f k = e) := by
  funext x
  show (BitVec.ofBool (BitVec.ofNat 32 (f (x 0).val) == BitVec.ofNat 32 e)).setWidth 32 = BitVec.ofNat 32 (if f (x 0).val = e then 1 else 0)
  by_cases h : f (x 0).val = e
  · rw [h]; simp [h]
  · have h' : (BitVec.ofNat 32 (f (x 0).val) == BitVec.ofNat 32 e) = false := by
      rw [beq_eq_false_iff_ne]; exact fun g => h ((ofNat_inj (hf _) he).1 g)
    rw [h']; simp [h]

theorem select_at {α : Type} (c : IVec S16 1) (a b : S16.Idx → α) (x : S16.Idx) : select c a b x = if c x = 1#1 then a x else b x := rfl

theorem eq_at {f : ℕ → ℕ} {e : ℕ} (he : e < 2 ^ 31) (hf : ∀ k, f k < 2 ^ 31) (x : S16.Idx) :
    cmpi .eq (nat f) (bc (BitVec.ofNat 32 e)) x = 1#1 ↔ f (x 0).val = e := by
  show BitVec.ofBool (BitVec.ofNat 32 (f (x 0).val) == BitVec.ofNat 32 e) = 1#1 ↔ _
  by_cases h : f (x 0).val = e
  · simp [h]
  · have h' : (BitVec.ofNat 32 (f (x 0).val) == BitVec.ofNat 32 e) = false := by
      rw [beq_eq_false_iff_ne]; exact fun g => h ((ofNat_inj (hf _) he).1 g)
    simp [h', h]

theorem lane_at {e : ℕ} (he : e < 2 ^ 31) (x : S16.Idx) : cmpi .eq lane (bc (BitVec.ofNat 32 e)) x = 1#1 ↔ (x 0).val = e := by
  rw [lane_eq, nat_congr (g := fun k => min k 15) (fun k hk => by omega), eq_at he (fun k => by omega)]
  have : (x 0).val < 16 := (x 0).isLt
  omega

theorem only_nat {f : ℕ → ℕ} {e : ℕ} (he : e < 2 ^ 31) : only (BitVec.ofNat 32 e) (nat f) = nat fun k => if k = e then f k else 0 := by
  funext x
  rw [only, select_at]
  by_cases h : (x 0).val = e
  · rw [if_pos ((lane_at he x).2 h)]; exact congrArg (BitVec.ofNat 32) (if_pos h).symm
  · rw [if_neg (fun g => h ((lane_at he x).1 g))]; exact congrArg (BitVec.ofNat 32) (if_neg h).symm

/-! ## Running sums -/

theorem scan_ranks : ∀ j : Fin 16, ((List.finRange 16).filter fun k => decide (0 < k.val ∧ k.val ≤ j.val)).map (·.val) = List.range' 1 j.val := by decide

theorem foldl_val {α : Type} (s : α → ℕ → α) (l : List (Fin 16)) (a : α) : l.foldl (fun r k => s r k.val) a = (l.map (·.val)).foldl s a := by
  induction l generalizing a with
  | nil => rfl
  | cons k l ih => exact ih _

theorem scan_at (kind : ScanKind) (f : ℕ → ℕ) (j : Fin 16) :
    scan kind (nat f) (ValueIdx.ix1 (n := 16) j) = (List.range' 1 j.val).foldl (fun r k => kind.step r (BitVec.ofNat 32 (f k))) (BitVec.ofNat 32 (f 0)) := by
  rw [← scan_ranks j, ← foldl_val]
  rfl

theorem scan_sum (f : ℕ → ℕ) : scan .sum (nat f) = nat fun j => ∑ k ∈ range (j + 1), f k := by
  funext (x : S16.Idx)
  rw [eq_ix1 (n := 16) x]
  generalize (x 0 : Fin 16) = j
  refine (scan_at .sum f j).trans ?_
  show _ = BitVec.ofNat 32 (∑ k ∈ range (j.val + 1), f k)
  generalize j.val = n
  induction n with
  | zero => simp
  | succ n ih =>
    rw [List.range'_1_concat, List.foldl_append, ih, Finset.sum_range_succ _ (n + 1), BitVec.ofNat_add, Nat.add_comm 1 n]
    rfl

theorem total_nat (f : ℕ → ℕ) : total (nat f) = BitVec.ofNat 32 (∑ k ∈ range 16, f k) := by
  rw [total, scan_sum]
  rfl

theorem sum_only (f : ℕ → ℕ) {e : ℕ} (he : e < 16) : (∑ k ∈ range 16, if k = e then f k else 0) = f e := by
  rw [Finset.sum_ite_eq' (range 16) e f, if_pos (Finset.mem_range.2 he)]

/-! ## Greatest lanes -/

theorem max_step {a b : ℕ} (ha : a < 2 ^ 32) (hb : b < 2 ^ 32) : ScanKind.max.step (BitVec.ofNat 32 a) (BitVec.ofNat 32 b) = BitVec.ofNat 32 (max a b) := by
  show (if (BitVec.ofNat 32 b).ult (BitVec.ofNat 32 a) then _ else _) = _
  have e : (BitVec.ofNat 32 b).ult (BitVec.ofNat 32 a) = decide (b < a) := by
    rw [BitVec.ult_eq_decide, BitVec.toNat_ofNat, BitVec.toNat_ofNat, Nat.mod_eq_of_lt ha, Nat.mod_eq_of_lt hb]
  rw [e]
  by_cases h : b < a
  · simp [h, Nat.max_eq_left h.le]
  · simp [h, Nat.max_eq_right (not_lt.1 h)]

/-- The scan's last lane of maxima is the greatest of the lanes. -/
theorem scan_max {f : ℕ → ℕ} (hf : ∀ k, f k < 2 ^ 32) (n : ℕ) : ∃ m, (List.range' 1 n).foldl (fun r k => ScanKind.max.step r (BitVec.ofNat 32 (f k))) (BitVec.ofNat 32 (f 0)) = BitVec.ofNat 32 m
    ∧ m < 2 ^ 32 ∧ (∀ k ≤ n, f k ≤ m) ∧ ∃ k ≤ n, m = f k := by
  induction n with
  | zero => exact ⟨f 0, rfl, hf 0, fun k hk => by rw [Nat.le_zero.1 hk], 0, le_rfl, rfl⟩
  | succ n ih =>
    obtain ⟨m, e, hm, hle, k, hk, hkm⟩ := ih
    refine ⟨max m (f (n + 1)), ?_, max_lt hm (hf _), fun i hi => ?_, ?_⟩
    · rw [List.range'_1_concat, List.foldl_append, e, Nat.add_comm 1 n]
      exact max_step hm (hf _)
    · rcases Nat.lt_or_ge n i with h | h
      · rw [show i = n + 1 by omega]; exact le_max_right ..
      · exact (hle i h).trans (le_max_left ..)
    · rcases le_total m (f (n + 1)) with h | h
      · exact ⟨n + 1, le_rfl, max_eq_right h⟩
      · exact ⟨k, by omega, (max_eq_left h).trans hkm⟩

theorem flip_nat {f : ℕ → ℕ} (hf : ∀ k < 16, f k < 2 ^ 31) : xori (nat f) (bc 2147483648#32) = nat fun k => 2 ^ 31 + f k := by
  funext x
  have hx := hf _ (show (x 0).val < 16 from (x 0).isLt)
  show BitVec.ofNat 32 (f (x 0).val) ^^^ 2147483648#32 = BitVec.ofNat 32 _
  apply BitVec.eq_of_toNat_eq
  show (BitVec.ofNat 32 (f (x 0).val)).toNat ^^^ 2 ^ 31 = (2 ^ 31 + f (x 0).val) % 2 ^ 32
  rw [toNat_small hx, Nat.mod_eq_of_lt (by omega)]
  generalize f (x 0).val = a at hx
  refine Nat.eq_of_testBit_eq fun i => ?_
  rw [Nat.testBit_xor, Nat.testBit_two_pow]
  rcases Nat.lt_trichotomy i 31 with h | h | h
  · rw [Nat.testBit_two_pow_add_gt h]; simp [show ¬31 = i by omega]
  · rw [h, Nat.testBit_two_pow_add_eq]; simp
  · have hp : 2 ^ 32 ≤ 2 ^ i := Nat.pow_le_pow_right (by decide) h
    rw [Nat.testBit_lt_two_pow (x := a) (by omega), Nat.testBit_lt_two_pow (x := 2 ^ 31 + a) (by omega)]; simp [show ¬31 = i by omega]

end Cert.Proof.Kernel.Route

end
-- ==== Proof.Kernel.Steps.lean ====
/-
  Steps that the tasks of both SparseCore calls take: a side condition, a wait for a copy, a store whose result is known.
-/
module

public import proofs.«01_k».proof.Proof.Kernel.Base
public import Idealize.ShloMosaic.Lib.SparseCore.FromWhole

@[expose] public section

noncomputable section

namespace Cert.Proof.Kernel

open Cert.Kernel Cert.Kernel.Gen

open Idealize.ShloMosaic
open Idealize.ShloMosaic.ValueIdx
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- What a thread owes, its recorded waits being of its own copies beside those it began with. -/
def Owe (c : Thread nD τ) (O : CellTallies nD τ sig (HIx 2)) (W : Waits sig (HIx 2)) : sProp 𝕄 :=
  iprop(∃ W', ⌜∀ p ∈ W', p ∈ W ∨ p.2 = none⌝ ∗ owes c O W')

/-- A wait for a copy in flight takes its delivery. -/
theorem wait_copy (c : Thread nD τ) {O : CellTallies nD τ sig (HIx 2)} {W : Waits sig (HIx 2)} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact} {α : Type} {Q : α → sProp 𝕄}
    {k : PUnit → Prog (TpuEff nD τ sig (Elt F) Λ₀ c.2) α} {R : sProp 𝕄} :
    iprop(Flight countersEmb c (.dma sem) (default : HIx 2) dstw.view.dmaCredit R ∗ Owe c O W ∗ MayWaits c (default : HIx 2) O)
      ⊢ iprop((iprop(R ∗ semVal (c, .dma sem) 0 ∗ Owe c O W) -∗ wp frame (wpE (defs₀ (F := F)) 𝒱₀ c none) Set.univ (k ⟨⟩) Q)
          -∗ wp frame (wpE (defs₀ (F := F)) 𝒱₀ c none) Set.univ (.op (.waitDma2 sem srcw dstw hsrc hdst) k) Q) := by
  unfold Owe
  iintro ⟨Hf, ⟨%W', %hW, HO⟩, #Hm⟩ Hk
  iapply (Transfers.wp_waitLocalO countersEmb 𝒱₀ c none (default : HIx 2) rfl) $$ [Hf HO]
  · iframe Hf HO
    iapply (MayWaits.elim (SemLoc.dma sem)) $$ Hm
  iintro ⟨HR, Hs, HO⟩
  iapply Hk
  iframe HR Hs
  iexists _; iframe HO
  ipureintro
  intro p hp
  rcases Finset.mem_insert.mp hp with hp | hp
  · exact .inr (hp ▸ rfl)
  · exact hW p hp

/-- A side condition that holds. -/
theorem assume_step (c : Thread nD τ) {P : Prop} {dec : Decidable P} {α : Type} {Q : α → sProp 𝕄} {kont : PLift P → Prog (TpuEff nD τ sig (Elt F) Λ₀ c.2) α} (h : P) :
    wp frame (wpE (defs₀ (F := F)) 𝒱₀ c none) Set.univ (kont ⟨h⟩) Q
      ⊢ wp frame (wpE (defs₀ (F := F)) 𝒱₀ c none) Set.univ (.op (.assume P dec) kont) Q :=
  Entails.of_eq (wp_assume_of 𝒱₀ c none Set.univ h).symm

/-- A load of a group of words whose value is known. -/
theorem load_as (c : Thread nD τ) {s : Shape} {e : EltTy} {m : Memref sig c.2.kind .vmem s e} {r : LoadRect s} {hl : m.view.LoadsAt r} {q : PosShare TreeShare}
    {f : Buf (Elt F) (m.view.loc c)} {v : r.shape.Idx → Elt F e} {α : Type} {Q : α → sProp 𝕄} {kont : (r.shape.Idx → Elt F e) → Prog (TpuEff nD τ sig (Elt F) Λ₀ c.2) α}
    (hv : m.view.readAt (Elt F) r f = v) :
    (m.view.loc c ↦{q} f)
      ⊢ iprop(((m.view.loc c ↦{q} f) -∗ wp frame (wpE (defs₀ (F := F)) 𝒱₀ c none) Set.univ (kont v) Q)
        -∗ wp frame (wpE (defs₀ (F := F)) 𝒱₀ c none) Set.univ (.op (.load m r hl) kont) Q) := by
  subst hv
  exact wp_load 𝒱₀ c none Set.univ (m := m) (S := Finset.univ) (Finset.subset_univ _)

/-- A store whose result is known. -/
theorem store_as (c : Thread nD τ) {s : Shape} {e : EltTy} {m : Memref sig c.2.kind .vmem s e} {r : Rect s} {w : r.shape.Idx → Elt F e} {hx hm}
    {f g : Buf (Elt F) ((m.access r).loc c)} {α : Type} {Q : α → sProp 𝕄} {kont : PUnit → Prog (TpuEff nD τ sig (Elt F) Λ₀ c.2) α}
    (hg : (m.access r).write (Elt F) f w Finset.univ = g) :
    ((m.access r).loc c ↦{fullShare} f)
      ⊢ iprop((((m.access r).loc c ↦{fullShare} g) -∗ wp frame (wpE (defs₀ (F := F)) 𝒱₀ c none) Set.univ (kont ⟨⟩) Q)
        -∗ wp frame (wpE (defs₀ (F := F)) 𝒱₀ c none) Set.univ (.op (.store m r w Finset.univ hx hm) kont) Q) := by
  subst hg
  exact wp_store (hx := hx) (hm := hm) (k := kont) (Q := Q) 𝒱₀ c none Set.univ (m := m) (r := r) (w := w) (f := f) (S := Finset.univ) (Mk := Finset.univ) (fun x _ => Finset.mem_univ x)

/-! ## A list of words, filled in groups of sixteen -/

/-- The first `16 k` words are those of `f`; after them what was there before. -/
def fill {n : ℕ} (f : ℕ → BitVec 32) (j : (⟨1, ![n]⟩ : Shape).Idx → BitVec 32) (k : ℕ) : (⟨1, ![n]⟩ : Shape).Idx → BitVec 32 :=
  fun x => if (x 0).val < 16 * k then f (x 0).val else j x

/-- The group of sixteen words `16 k, …`. -/
def sixteen (f : ℕ → BitVec 32) (k : ℕ) : IVec S16 32 := fun x => f (16 * k + (x 0).val)

theorem fill_zero {n : ℕ} (f : ℕ → BitVec 32) (j : (⟨1, ![n]⟩ : Shape).Idx → BitVec 32) : fill f j 0 = j := funext fun x => if_neg (by omega)
theorem fill_all {n : ℕ} (f : ℕ → BitVec 32) (j : (⟨1, ![n]⟩ : Shape).Idx → BitVec 32) {k : ℕ} (h : n ≤ 16 * k) : fill f j k = fun x => f (x 0).val :=
  funext fun x => if_pos (lt_of_lt_of_le (show (x 0).val < n from (x 0).isLt) h)

/-- What a group's write leaves: the list filled one group further. -/
theorem fill_next {n : ℕ} (f : ℕ → BitVec 32) (j g : (⟨1, ![n]⟩ : Shape).Idx → BitVec 32) {k : ℕ}
    (hin : ∀ (x : S16.Idx) (z : (⟨1, ![n]⟩ : Shape).Idx), (z 0).val = 16 * k + (x 0).val → g z = f (16 * k + (x 0).val))
    (hout : ∀ z : (⟨1, ![n]⟩ : Shape).Idx, (∀ x : S16.Idx, (z 0).val ≠ 16 * k + (x 0).val) → g z = fill f j k z) : g = fill f j (k + 1) := by
  funext z
  by_cases h : 16 * k ≤ (z 0).val ∧ (z 0).val < 16 * k + 16
  · have hz : (z 0).val = 16 * k + ((ix1 (n := 16) ⟨(z 0).val - 16 * k, by omega⟩ : S16.Idx) 0).val := by show (z 0).val = 16 * k + ((z 0).val - 16 * k); omega
    refine (hin (ix1 (n := 16) ⟨(z 0).val - 16 * k, by omega⟩) z hz).trans (Eq.trans ?_ (if_pos (show (z 0).val < 16 * (k + 1) by omega)).symm)
    exact congrArg f hz.symm
  · refine (hout z fun x hx => h ?_).trans ?_
    · have hx16 : (x 0).val < 16 := (x 0).isLt
      omega
    · unfold fill
      refine if_congr ?_ rfl rfl
      omega

end Cert.Proof.Kernel

end
-- ==== Proof.Kernel.Route.Steps.lean ====
/-
  The steps of a routing task on its expert numbers and its lists of rows: the counting loops, the loads, the stores.
-/
module

public import proofs.«01_k».proof.Proof.Kernel.Route.Value
public import proofs.«01_k».proof.Proof.Kernel.Steps

@[expose] public section

noncomputable section

namespace Cert.Proof.Kernel.Route

open Cert.Kernel Cert.Kernel.Gen

open Idealize.ShloMosaic
open Idealize.ShloMosaic.ValueIdx
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-! ## The task and its arrays -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The expert numbers, the tokens' rows, and the three results: the rows placed, each entry's row, the blocks' experts. -/
abbrev teV : Memref sig .scVector .hbm S4096 .i32 := Memref.whole main_v0_scv
abbrev xV : Memref sig .scVector .hbm S2048x768 .f32 := Memref.whole main_arg0_scv
abbrev xsV : Memref sig .scVector .hbm S8192x768 .f32 := Memref.whole main_v1_0_scv
abbrev dV : Memref sig .scVector .hbm S4096 .i32 := Memref.whole main_v1_1_scv
abbrev beV : Memref sig .scVector .hbm S32 .i32 := Memref.whole main_v1_2_scv
/-- A task's scratch: the expert numbers, its 128 rows, the even and the odd rows, its tokens' rows, the blocks' experts. -/
abbrev aT : Memref sig .scVector .vmem S4096 .i32 := Memref.whole cc0_scratch0
abbrev aD : Memref sig .scVector .vmem S128 .i32 := Memref.whole cc0_scratch1
abbrev aE : Memref sig .scVector .vmem S64 .i32 := Memref.whole cc0_scratch2
abbrev aO : Memref sig .scVector .vmem S64 .i32 := Memref.whole cc0_scratch3
abbrev aX : Memref sig .scVector .vmem S64x768 .f32 := Memref.whole cc0_scratch4
abbrev aB : Memref sig .scVector .vmem S32 .i32 := Memref.whole cc0_scratch5

/-- A task's number among the 32. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid
  omega

def crd (a : Fin 2) (b : Fin 16) : grid0.Coords
  | 0 => a
  | 1 => b

theorem crd_eq (L : grid0.Coords) : crd (L 0) (L 1) = L := by
  funext i
  fin_cases i <;> rfl

theorem trips1 (L : grid0.Coords) : (k0_t1_loop L).trips = 8 * wid L := by
  rw [← crd_eq L]
  have h : ∀ (a : Fin 2) (b : Fin 16), (k0_t1_loop (crd a b)).trips = 8 * (2 * b.val + a.val) := by decide +kernel
  exact h (L 0) (L 1)

theorem trips3 (L : grid0.Coords) : (k0_t3_loop L).trips = 256 - 8 * wid L := by
  rw [← crd_eq L]
  have h : ∀ (a : Fin 2) (b : Fin 16), (k0_t3_loop (crd a b)).trips = 256 - 8 * (2 * b.val + a.val) := by decide +kernel
  exact h (L 0) (L 1)

/-! ## The expert numbers -/

theorem read_grp (te : S4096.Idx → BitVec 32) {n : ℕ} {off : Fin 1 → ℕ} {inb : ∀ a, off a + S16.size a ≤ S4096.size a} (hoff : off = ![16 * n]) :
    (aT).view.readAt (Elt F) (Rect.unit (s := S4096) off S16.size inb).toLoadRect te = grp te n := by
  subst hoff
  funext x
  have hx : (x 0).val < 16 := (x 0).isLt
  have hb : 16 * n + 16 ≤ 4096 := inb 0
  refine congrArg te ((eq_ix1 (n := 4096) _).trans (congrArg ValueIdx.ix1 (Fin.ext ?_)))
  show 16 * n + 1 * (x 0).val = (16 * n + (x 0).val) % 4096
  omega

variable (d : Dev nD) (L : grid0.Coords)

/-- The eight counts. -/
abbrev V8 : Type := IVec S16 32 × IVec S16 32 × IVec S16 32 × IVec S16 32 × IVec S16 32 × IVec S16 32 × IVec S16 32 × IVec S16 32

/-- Per expert the lanes' counts over the first `n` groups. -/
def cnts (te : S4096.Idx → BitVec 32) (n : ℕ) : V8 :=
  (cnt te 0#32 n, cnt te 1#32 n, cnt te 2#32 n, cnt te 3#32 n, cnt te 4#32 n, cnt te 5#32 n, cnt te 6#32 n, cnt te 7#32 n)

/-- One trip: sixteen numbers read and counted. -/
def tripBody {m : ℕ} (off : Fin m → Fin 1 → ℕ) (inb : ∀ t a, off t a + S16.size a ≤ S4096.size a) (t : Fin m) (a : V8) : Prog (TpuEff nD τ sig (Elt F) Λ₀ (thr d L).2) V8 :=
  .op (.load aT (Rect.unit (s := S4096) (off t) S16.size (inb t)).toLoadRect (View.loadsAt_vmem h_S16)) fun (v : Vec F S16 .i32) => .ret
    (addi a.1 (one 0#32 v), addi a.2.1 (one 1#32 v), addi a.2.2.1 (one 2#32 v), addi a.2.2.2.1 (one 3#32 v), addi a.2.2.2.2.1 (one 4#32 v), addi a.2.2.2.2.2.1 (one 5#32 v),
      addi a.2.2.2.2.2.2.1 (one 6#32 v), addi a.2.2.2.2.2.2.2 (one 7#32 v))

theorem trip_wp {m : ℕ} {te : S4096.Idx → BitVec 32} {q : PosShare TreeShare} {n₀ : ℕ} {off : Fin m → Fin 1 → ℕ} {inb : ∀ t a, off t a + S16.size a ≤ S4096.size a}
    (hoff : ∀ t, off t = ![16 * (n₀ + t.val)]) (t : Fin m) (acc : V8) :
    iprop(⌜acc = cnts te (n₀ + t.val)⌝ ∗ ((aT).view.loc (thr d L) ↦{q} te)) ⊢ wp (M := 𝕄) frame (wpE (defs₀ (F := F)) 𝒱₀ (thr d L) none) Set.univ (tripBody d L off inb t acc)
        fun acc => iprop(⌜acc = cnts te (n₀ + (t.val + 1))⌝ ∗ ((aT).view.loc (thr d L) ↦{q} te)) := by
  iintro ⟨%ha, H⟩
  unfold tripBody
  iapply (load_as (thr d L) (read_grp te (hoff t))) $$ H
  iintro H
  iapply (le_wp_ret _ _ _ _ _)
  iframe H
  ipureintro
  rw [ha]; rfl

/-- A counting loop: from the counts over `n₀` groups to those over `n₀` and its trips. -/
theorem count_loop {lp : Scf.Loop 32} {ok : lp.OK} {te : S4096.Idx → BitVec 32} {q : PosShare TreeShare} (n₀ n₁ : ℕ) {α : Type} {Q : α → sProp 𝕄}
    {k : V8 → Prog (TpuEff nD τ sig (Elt F) Λ₀ (thr d L).2) α} {b : Fin lp.trips → V8 → Prog (TpuEff nD τ sig (Elt F) Λ₀ (thr d L).2) V8}
    {off : Fin lp.trips → Fin 1 → ℕ} {inb : ∀ t a, off t a + S16.size a ≤ S4096.size a} {init : V8}
    (hb : b = tripBody d L off inb) (hoff : ∀ t, off t = ![16 * (n₀ + t.val)]) (hi : init = cnts te n₀) (hn : n₀ + lp.trips = n₁) :
    ((aT).view.loc (thr d L) ↦{q} te)
      ⊢ iprop((((aT).view.loc (thr d L) ↦{q} te) -∗ wp frame (wpE (defs₀ (F := F)) 𝒱₀ (thr d L) none) Set.univ (k (cnts te n₁)) Q)
          -∗ wp frame (wpE (defs₀ (F := F)) 𝒱₀ (thr d L) none) Set.univ (Scf.Loop.for lp ok init b >>= k) Q) := by
  have step := trip_wp (F := F) d L (te := te) (q := q) (inb := inb) hoff
  rw [← hb] at step
  clear hb
  have h0 : cnts te (n₀ + 0) = init := hi.symm
  have h1 : cnts te (n₀ + Scf.trips lp.lb lp.ub lp.st) = cnts te n₁ := congrArg (cnts te) hn
  generalize cnts te = c at *
  have rule := Scf.wp_for_bind (M := 𝕄) frame (wpE (defs₀ (F := F)) 𝒱₀ (thr d L) none) Set.univ lp.lb lp.ub lp.st ok init b
    (fun n acc => iprop(⌜acc = c (n₀ + n)⌝ ∗ ((aT).view.loc (thr d L) ↦{q} te))) step (kk := k) (Q := Q)
  iintro H Hk
  iapply rule $$ [H]
  · iframe H; ipureintro; exact h0.symm
  iintro %acc ⟨%ha, H⟩
  rw [ha, h1]
  iapply Hk $$ H

/-- A loop without trips. -/
theorem no_loop {lp : Scf.Loop 32} {ok : lp.OK} (h0 : lp.trips = 0) {α σ : Type} {Q : α → sProp 𝕄}
    {k : σ → Prog (TpuEff nD τ sig (Elt F) Λ₀ (thr d L).2) α} {b : Fin lp.trips → σ → Prog (TpuEff nD τ sig (Elt F) Λ₀ (thr d L).2) σ} {init : σ} :
    wp frame (wpE (defs₀ (F := F)) 𝒱₀ (thr d L) none) Set.univ (k init) Q
      ⊢ wp frame (wpE (defs₀ (F := F)) 𝒱₀ (thr d L) none) Set.univ (Scf.Loop.for lp ok init b >>= k) Q := by
  iintro H
  iapply (Scf.wp_for_bind _ _ _ lp.lb lp.ub lp.st ok init b (fun _ acc => iprop(⌜acc = init⌝)) (fun t => absurd t.isLt (by have := h0; unfold Scf.Loop.trips at *; omega)))
  · ipureintro; rfl
  iintro %acc %ha
  subst ha
  iexact H

end Cert.Proof.Kernel.Route

end
-- ==== Proof.Kernel.Route.Scatter.lean ====
/-
  The scatters of a task, one block of 128 columns at a time: each of the task's 64 tokens' rows goes to the two rows that the token's entries got. After `ce` blocks through the
  list of even entries and `co` blocks through the list of odd ones, the array of placed rows holds the tokens' rows in those columns (`Placed`).
-/
module

public import proofs.«01_k».proof.Proof.Kernel.Route.Steps

@[expose] public section

noncomputable section

namespace Cert.Proof.Kernel.Route

open Cert.Kernel Cert.Kernel.Gen

open Idealize.ShloMosaic
open Idealize.ShloMosaic.ValueIdx (ix2 eq_ix1 eq_ix2)
open Idealize.ShloMosaic.SparseCore (S V T rows namedRows scatterBuf scatterRowPayload)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The tokens' rows are in place: in the first `128 ce` columns for the even entries, in the first `128 co` for the odd. -/
def Placed (D : ℕ → BitVec 32) (xb : S64x768.Idx → Elt F .f32) (f : S8192x768.Idx → Elt F .f32) (ce co : ℕ) : Prop :=
  ∀ (k : Fin 64) (z : S8192x768.Idx),
    ((z 0).val = (D (2 * k.val)).toNat → (z 1).val < 128 * ce → f z = xb (ix2 (n0 := 64) (n1 := 768) k (z 1)))
    ∧ ((z 0).val = (D (2 * k.val + 1)).toNat → (z 1).val < 128 * co → f z = xb (ix2 (n0 := 64) (n1 := 768) k (z 1)))

/-- A block of columns of the array of placed rows, as the stream takes it. -/
abbrev xsCols (off : Fin 2 → ℕ) (inb : ∀ a, off a + S8192x128.size a ≤ S8192x768.size a) : Memref sig .scVector .hbm S8192x128 .f32 :=
  (xsV.slice (Rect.unit (s := S8192x768) off S8192x128.size inb) (fun _ => rfl)).slice
    (Rect.unit (s := S8192x128) ![0, 0] S8192x128.size inb_S8192x128_S8192x128_0_0) (fun _ => rfl)
abbrev aCols (off : Fin 2 → ℕ) (inb : ∀ a, off a + S64x128.size a ≤ S64x768.size a) : Memref sig .scVector .vmem S64x128 .f32 :=
  aX.slice (Rect.unit (s := S64x768) off S64x128.size inb) (fun _ => rfl)

/-- The `k`-th element of a list of 64 words is its word `k`. -/
theorem row_ix : ∀ k : Fin 64, S64.rowMajor.symm (k.cast (show 64 = S64.numel from rfl)) = ValueIdx.ix1 (n := 64) k := by decide +kernel

theorem idxEquiv_symm_val {s s' : Shape} (h : s = s') (y : s'.Idx) (a : ℕ) (ha : a < s.rank) (ha' : a < s'.rank) :
    (((Shape.idxEquiv h).symm y) ⟨a, ha⟩).val = (y ⟨a, ha'⟩).val := by
  subst h; rfl

/-- An element of a row of a block, by its column. -/
def rowIdx (x : Fin 128) : (S8192x128.rowShape gathers_S8192x128_S64x128.axis).Idx
  | ⟨0, _⟩ => (⟨0, Nat.one_pos⟩ : Fin 1)
  | ⟨1, _⟩ => (x : Fin 128)

section Block

variable {c : ℕ} {inb : ∀ a, (![0, 128 * c] : Fin 2 → ℕ) a + S8192x128.size a ≤ S8192x768.size a} {inb' : ∀ a, (![0, 128 * c] : Fin 2 → ℕ) a + S64x128.size a ≤ S64x768.size a}

/-- Row `r` of a block: the elements of that row in the block's columns. -/
theorem row_cases (r : Fin 8192) (z : S8192x768.Idx) :
    z ∈ ((xsCols ![0, 128 * c] inb).view.slice (S8192x128.rowRect gathers_S8192x128_S64x128.axis r)).set ↔ (z 0).val = r.val ∧ 128 * c ≤ (z 1).val ∧ (z 1).val < 128 * c + 128 := by
  constructor
  · intro h
    obtain ⟨y, -, hy⟩ := Finset.mem_map.mp h
    have y0 : (y 0).val < 1 := (y 0).isLt
    have y1 : (y 1).val < 128 := (y 1).isLt
    have a0 : 0 + 1 * (0 + 1 * (r.val + 1 * (y 0).val)) = (z 0).val := congrArg (fun z : S8192x768.Idx => (z 0).val) hy
    have a1 : 128 * c + 1 * (0 + 1 * (0 + 1 * (y 1).val)) = (z 1).val := congrArg (fun z : S8192x768.Idx => (z 1).val) hy
    omega
  · rintro ⟨h0, h1, h2⟩
    refine Finset.mem_map.mpr ⟨rowIdx ⟨(z 1).val - 128 * c, by omega⟩, Finset.mem_univ _, ?_⟩
    refine (eq_ix2 (n0 := 8192) (n1 := 768) _).trans ((congrArg₂ ix2 (Fin.ext ?_) (Fin.ext ?_)).trans (eq_ix2 (n0 := 8192) (n1 := 768) z).symm)
    · show 0 + 1 * (0 + 1 * (r.val + 1 * 0)) = (z 0).val
      omega
    · show 128 * c + 1 * (0 + 1 * (0 + 1 * ((z 1).val - 128 * c))) = (z 1).val
      omega

/-- What a row of the block holds once token `k`'s row is written there. -/
theorem row_value (xb : S64x768.Idx → Elt F .f32) (f : S8192x768.Idx → Elt F .f32) (r : Fin 8192) (k : Fin 64) (z : S8192x768.Idx)
    (h0 : (z 0).val = r.val) (h1 : 128 * c ≤ (z 1).val) (h2 : (z 1).val < 128 * c + 128) (d : Dev nD) (L : grid0.Coords) :
    ((xsCols ![0, 128 * c] inb).view.slice (S8192x128.rowRect gathers_S8192x128_S64x128.axis r)).write (Elt F) f
      (scatterRowPayload (thr d L) (aCols ![0, 128 * c] inb') gathers_S8192x128_S64x128 xb k) Finset.univ z = xb (ix2 (n0 := 64) (n1 := 768) k (z 1)) := by
  obtain ⟨y, -, hy⟩ := Finset.mem_map.mp ((row_cases (inb := inb) r z).mpr ⟨h0, h1, h2⟩)
  have a1 : 128 * c + 1 * (0 + 1 * (0 + 1 * (y 1).val)) = (z 1).val := congrArg (fun z : S8192x768.Idx => (z 1).val) hy
  have y0 : (y 0).val < 1 := (y 0).isLt
  have h3 := View.write_emb_of_mem (Val := Elt F) (v := (xsCols ![0, 128 * c] inb).view.slice (S8192x128.rowRect gathers_S8192x128_S64x128.axis r)) f
    (scatterRowPayload (thr d L) (aCols ![0, 128 * c] inb') gathers_S8192x128_S64x128 xb k) (Finset.mem_univ y)
  rw [hy] at h3
  refine h3.trans ?_
  refine congrArg xb ((eq_ix2 (n0 := 64) (n1 := 768) _).trans (congrArg₂ ix2 (Fin.ext ?_) (Fin.ext ?_)))
  · have e := idxEquiv_symm_val gathers_S8192x128_S64x128.rowShape_eq y 0 (by decide) (by decide)
    show 0 + 1 * (k.val + 1 * (((Shape.idxEquiv gathers_S8192x128_S64x128.rowShape_eq).symm y) ⟨0, _⟩).val) = k.val
    rw [e]
    show 0 + 1 * (k.val + 1 * (y 0).val) = k.val
    omega
  · have e := idxEquiv_symm_val gathers_S8192x128_S64x128.rowShape_eq y 1 (by decide) (by decide)
    show 128 * c + 1 * (0 + 1 * (((Shape.idxEquiv gathers_S8192x128_S64x128.rowShape_eq).symm y) ⟨1, _⟩).val) = (z 1).val
    rw [e]
    show 128 * c + 1 * (0 + 1 * (y 1).val) = (z 1).val
    omega

end Block

section Buffer

variable (d : Dev nD) (L : grid0.Coords) {c : ℕ} {inb : ∀ a, (![0, 128 * c] : Fin 2 → ℕ) a + S8192x128.size a ≤ S8192x768.size a}
  {inb' : ∀ a, (![0, 128 * c] : Fin 2 → ℕ) a + S64x128.size a ≤ S64x768.size a} (xb : S64x768.Idx → Elt F .f32) (f : S8192x768.Idx → Elt F .f32) (E : S64.Idx → BitVec 32)
  (hn : S64.numel = S64x128.size gathers_S8192x128_S64x128.axis') (hin : ∀ x, (E x).toNat < S8192x128.size gathers_S8192x128_S64x128.axis)

/-- The array after a scatter through the list `E`. -/
abbrev scat (inb : ∀ a, (![0, 128 * c] : Fin 2 → ℕ) a + S8192x128.size a ≤ S8192x768.size a)
    (inb' : ∀ a, (![0, 128 * c] : Fin 2 → ℕ) a + S64x128.size a ≤ S64x768.size a) : S8192x768.Idx → Elt F .f32 :=
  scatterBuf (thr d L) (xsCols ![0, 128 * c] inb).view gathers_S8192x128_S64x128.axis (rows (F := F) E hn hin)
    (scatterRowPayload (thr d L) (aCols ![0, 128 * c] inb') gathers_S8192x128_S64x128 xb) f

theorem rows_val (k : Fin 64) : (rows (F := F) E hn hin k).val = (E (ValueIdx.ix1 (n := 64) k)).toNat := by
  have e : S64.rowMajor.symm (k.cast hn.symm) = ValueIdx.ix1 (n := 64) k := row_ix k
  exact congrArg (fun i => (E i).toNat) e

theorem scat_at (hE : Function.Injective fun x => (E x).toNat) (k : Fin 64) (z : S8192x768.Idx) (h0 : (z 0).val = (E (ValueIdx.ix1 (n := 64) k)).toNat)
    (h1 : 128 * c ≤ (z 1).val) (h2 : (z 1).val < 128 * c + 128) : scat d L xb f E hn hin inb inb' z = xb (ix2 (n0 := 64) (n1 := 768) k (z 1)) := by
  have hz := h0.trans (rows_val (F := F) E hn hin k).symm
  refine (SparseCore.scatterBuf_of_mem (thr d L) (xsCols ![0, 128 * c] inb).view gathers_S8192x128_S64x128.axis _ (SparseCore.rows_injective hE) _ _ (k := k)
    ((row_cases _ z).mpr ⟨hz, h1, h2⟩)).trans ?_
  exact row_value xb f _ k z hz h1 h2 d L

theorem mem_named (z : S8192x768.Idx) : z ∈ namedRows (thr d L) (xsCols ![0, 128 * c] inb).view gathers_S8192x128_S64x128.axis (rows (F := F) E hn hin)
    ↔ ∃ k : Fin 64, (z 0).val = (E (ValueIdx.ix1 (n := 64) k)).toNat ∧ 128 * c ≤ (z 1).val ∧ (z 1).val < 128 * c + 128 := by
  refine Finset.mem_biUnion.trans ⟨?_, ?_⟩
  · rintro ⟨k, -, hk⟩
    have h := (row_cases _ z).mp hk
    exact ⟨k, h.1.trans (rows_val (F := F) E hn hin k), h.2⟩
  · rintro ⟨k, hk, h⟩
    exact ⟨k, Finset.mem_univ _, (row_cases _ z).mpr ⟨hk.trans (rows_val (F := F) E hn hin k).symm, h⟩⟩

theorem scat_off (z : S8192x768.Idx) (h : ∀ k : Fin 64, (z 0).val = (E (ValueIdx.ix1 (n := 64) k)).toNat → ¬(128 * c ≤ (z 1).val ∧ (z 1).val < 128 * c + 128)) :
    scat d L xb f E hn hin inb inb' z = f z :=
  SparseCore.scatterBuf_of_not_mem (thr d L) (xsCols ![0, 128 * c] inb).view gathers_S8192x128_S64x128.axis _ _ _ fun hm =>
    have ⟨k, hk, hz⟩ := (mem_named d L E hn hin z).mp hm
    h k hk hz

variable {D : ℕ → BitVec 32} {ce co : ℕ} (hinj : ∀ n m, n < 128 → m < 128 → (D n).toNat = (D m).toNat → n = m)

include hinj in
theorem list_injective {p : ℕ} (hp : p < 2) (hE : E = fun x => D (2 * (x 0).val + p)) : Function.Injective fun x => (E x).toNat := by
  subst hE
  intro x y h
  have hx : (x 0).val < 64 := (x 0).isLt
  have hy : (y 0).val < 64 := (y 0).isLt
  have e := hinj _ _ (by omega) (by omega) h
  exact (eq_ix1 (n := 64) x).trans ((congrArg ValueIdx.ix1 (Fin.ext (by omega))).trans (eq_ix1 (n := 64) y).symm)

include hinj in
theorem placed_even (hE : E = fun x => D (2 * (x 0).val + 0)) (h : Placed D xb f c co) : Placed D xb (scat d L xb f E hn hin inb inb') (c + 1) co := by
  have hEi := list_injective E hinj (by decide) hE
  have eE : ∀ k : Fin 64, E (ValueIdx.ix1 (n := 64) k) = D (2 * k.val) := fun k => congrFun hE _
  intro k z
  constructor
  · intro h0 h1
    by_cases hb : 128 * c ≤ (z 1).val
    · exact scat_at d L xb f E hn hin hEi k z (by rw [eE]; exact h0) hb (by omega)
    · exact (scat_off d L xb f E hn hin z fun _ _ h => hb h.1).trans ((h k z).1 h0 (Nat.lt_of_not_le hb))
  · intro h0 h1
    refine (scat_off d L xb f E hn hin z fun k' h' _ => ?_).trans ((h k z).2 h0 h1)
    rw [eE] at h'
    have := hinj (2 * k.val + 1) (2 * k'.val) (by omega) (by omega) (h0.symm.trans h')
    omega

include hinj in
theorem placed_odd (hE : E = fun x => D (2 * (x 0).val + 1)) (h : Placed D xb f ce c) : Placed D xb (scat d L xb f E hn hin inb inb') ce (c + 1) := by
  have hEi := list_injective E hinj (by decide) hE
  have eE : ∀ k : Fin 64, E (ValueIdx.ix1 (n := 64) k) = D (2 * k.val + 1) := fun k => congrFun hE _
  intro k z
  constructor
  · intro h0 h1
    refine (scat_off d L xb f E hn hin z fun k' h' _ => ?_).trans ((h k z).1 h0 h1)
    rw [eE] at h'
    have := hinj (2 * k.val) (2 * k'.val + 1) (by omega) (by omega) (h0.symm.trans h')
    omega
  · intro h0 h1
    by_cases hb : 128 * c ≤ (z 1).val
    · exact scat_at d L xb f E hn hin hEi k z (by rw [eE]; exact h0) hb (by omega)
    · exact (scat_off d L xb f E hn hin z fun _ _ h => hb h.1).trans ((h k z).2 h0 (Nat.lt_of_not_le hb))

end Buffer

/-! ## The step -/

variable (d : Dev nD) (L : grid0.Coords)

/-- A scatter of a block of columns through a list of rows, its copy in flight. -/
theorem scatter_step {aL : Memref sig .scVector .vmem S64 .i32} (R : sProp 𝕄) {E : S64.Idx → BitVec 32} {own : Finset S8192x768.Idx} {xb : S64x768.Idx → Elt F .f32}
    {f : S8192x768.Idx → Elt F .f32} {c : ℕ} {off off' : Fin 2 → ℕ}
    {inb : ∀ a, off a + S8192x128.size a ≤ S8192x768.size a} {inb' : ∀ a, off' a + S64x128.size a ≤ S64x768.size a}
    {hp : (thr d L).2.kind = .scVector} {hn : S64.numel = S64x128.size gathers_S8192x128_S64x128.axis'} {sem : DmaSem sig} {he : EltTy.f32.bits = 32}
    {hsp : Space.hbm = Space.hbm ∨ Space.hbm = Space.shared} {hr : S8192x128.StreamRows 0} {α : Type} {Q : α → sProp 𝕄}
    {k : PUnit → Prog (TpuEff nD τ sig (Elt F) Λ₀ (thr d L).2) α} (P : (S8192x768.Idx → Elt F .f32) → Prop) (hoff : off = ![0, 128 * c]) (hoff' : off' = ![0, 128 * c])
    (fo : Buf (Elt F) (aL.view.loc (thr d L))) (hR : R ⊣⊢ (aL.view.loc (thr d L) ↦[aL.view.set]{fullShare} fo)) (hfo : aL.view.read (Elt F) fo = E)
    (hin : ∀ x, (E x).toNat < S8192x128.size gathers_S8192x128_S64x128.axis) (hinj : Function.Injective fun x => (E x).toNat)
    (hown : ∀ (k : Fin 64) (z : S8192x768.Idx), (z 0).val = (E (ValueIdx.ix1 (n := 64) k)).toNat → z ∈ own)
    (hP : ∀ inb inb', P (scat (c := c) d L xb f E hn hin inb inb')) :
    iprop(((aX).view.loc (thr d L) ↦{fullShare} xb) ∗ ((xsV).view.loc (thr d L) ↦[own]{fullShare} f) ∗ R ∗ semVal (thr d L, SemLoc.dma sem) 0)
      ⊢ iprop((Flight countersEmb (thr d L) (.dma sem) (default : HIx 2) (aCols off' inb').view.dmaCredit
            iprop(((aX).view.loc (thr d L) ↦{fullShare} xb) ∗ (∃ f', ⌜P f'⌝ ∗ ((xsV).view.loc (thr d L) ↦[own]{fullShare} f')) ∗ R)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectScatter hp (aCols off' inb') (xsCols off inb) gathers_S8192x128_S64x128 aL hn sem he hsp hr >>= k) Q) := by
  subst hoff hoff'
  subst hfo
  have hsub : namedRows (thr d L) (xsCols ![0, 128 * c] inb).view gathers_S8192x128_S64x128.axis (rows (F := F) (aL.view.read (Elt F) fo) hn hin) ⊆ own := fun z hz =>
    have ⟨k, hk, _⟩ := (mem_named d L _ hn hin z).mp hz
    hown k z hk
  have hP' := hP inb inb'
  iintro ⟨Hx, Hd, HR, Hv⟩ Hk
  ihave Ho := hR.1 $$ HR
  ihave ⟨Hx, Hxr⟩ := (pointsTo_split_subset (Finset.subset_univ (aCols ![0, 128 * c] inb').view.set)).1 $$ Hx
  ihave ⟨Hd, Hdr⟩ := (pointsTo_split_subset hsub).1 $$ Hd
  iapply (SparseCore.wp_indirectScatterLocal countersEmb 𝒱₀ (thr d L) none (src := aCols ![0, 128 * c] inb') (dst := xsCols ![0, 128 * c] inb) (hg := gathers_S8192x128_S64x128)
    (offs := aL) (hn := hn) (sem := sem) (hp := hp) (he := he) (hsp := hsp) (hr := hr) (default : HIx 2) (aCols ![0, 128 * c] inb').view.dmaCredit (by decide) hin
    (SparseCore.rows_injective hinj) (SparseCore.sum_scatterCredit_eq_srcCredit (thr d L) _ _ _ rfl _ (fun _ => rfl) (fun _ => rfl))) $$ [Hx Hd Ho Hv]
  · iframe Hx Hd Ho Hv
  iintro Hf
  iapply Hk
  iapply (Transfers.Flight_mono countersEmb (thr d L) (D := iprop((((aX).view.loc (thr d L) ↦[Finset.univ \ (aCols ![0, 128 * c] inb').view.set]{fullShare} xb)
      ∗ ((xsV).view.loc (thr d L) ↦[own \ namedRows (thr d L) (xsCols ![0, 128 * c] inb).view gathers_S8192x128_S64x128.axis (rows (F := F) (aL.view.read (Elt F) fo) hn hin)]{fullShare} f))
      ∗ (((xsV).view.loc (thr d L) ↦[namedRows (thr d L) (xsCols ![0, 128 * c] inb).view gathers_S8192x128_S64x128.axis (rows (F := F) (aL.view.read (Elt F) fo) hn hin)]{fullShare}
          scat d L xb f (aL.view.read (Elt F) fo) hn hin inb inb')
        ∗ ((aX).view.loc (thr d L) ↦[(aCols ![0, 128 * c] inb').view.set]{fullShare} xb) ∗ (aL.view.loc (thr d L) ↦[aL.view.set]{fullShare} fo)))) (by
    iintro ⟨⟨Hxr, Hdr⟩, Hd, Hx, Ho⟩
    isplitl [Hx Hxr]
    · iapply ((pointsTo_split_subset (Finset.subset_univ (aCols ![0, 128 * c] inb').view.set)).2)
      iframe Hx Hxr
    isplitl [Hd Hdr]
    · iexists scat d L xb f (aL.view.read (Elt F) fo) hn hin inb inb'
      isplit
      · ipureintro; exact hP'
      iapply ((pointsTo_split_subset hsub).2)
      iframe Hd
      iapply (Entails.of_eq (SparseCore.pointsTo_rest_scatterBuf (thr d L) (xsCols ![0, 128 * c] inb).view gathers_S8192x128_S64x128.axis _
        (scatterRowPayload (thr d L) (aCols ![0, 128 * c] inb') gathers_S8192x128_S64x128 xb) f own)) $$ Hdr
    iapply hR.2 $$ Ho))
  iapply (Transfers.Flight_frame countersEmb (thr d L))
  iframe Hxr Hdr Hf

/-- The copy that each word of the list starts: the source's row onto the target's row of that number. -/
abbrev entry (src : Memref sig (thr d L).2.kind .vmem S64x128 .f32) (dst : Memref sig (thr d L).2.kind .hbm S8192x128 .f32) (sem : DmaSem sig) (he : EltTy.f32.bits = 32)
    (hsp : Space.hbm = Space.hbm ∨ Space.hbm = Space.shared) (hr : S8192x128.StreamRows 0) (k : Fin (S64x128.size gathers_S8192x128_S64x128.axis')) (w : Elt F .i32) :
    Option (RowDma τ sig (Elt F) (thr d L).2 sem) :=
  (SparseCore.rowOf (F := F) (S8192x128.size gathers_S8192x128_S64x128.axis) w).map fun r =>
    { src := (src.slice (S64x128.rowRect gathers_S8192x128_S64x128.axis' k) (S64x128.stride_rowRect _ _)).cast gathers_S8192x128_S64x128.rowShape_eq rfl,
      dst := dst.slice (S8192x128.rowRect gathers_S8192x128_S64x128.axis r) (S8192x128.stride_rowRect _ _), via := .same,
      hsrc := View.wordExact_bits he, hdst := View.wordExact_bits he, hsp := .inr ⟨rfl, hsp⟩, hbits := he, hrow := hr.2.2 }

/-- The same as one step of a program. -/
theorem scatter_op {aL : Memref sig .scVector .vmem S64 .i32} (R : sProp 𝕄) {E : S64.Idx → BitVec 32} {own : Finset S8192x768.Idx} {xb : S64x768.Idx → Elt F .f32}
    {f : S8192x768.Idx → Elt F .f32} {c : ℕ} {off off' : Fin 2 → ℕ}
    {inb : ∀ a, off a + S8192x128.size a ≤ S8192x768.size a} {inb' : ∀ a, off' a + S64x128.size a ≤ S64x768.size a}
    {hp : (thr d L).2.kind = .scVector} {hn : S64.numel = S64x128.size gathers_S8192x128_S64x128.axis'} {sem : DmaSem sig} {he : EltTy.f32.bits = 32}
    {hsp : Space.hbm = Space.hbm ∨ Space.hbm = Space.shared} {hr : S8192x128.StreamRows 0} {α : Type} {Q : α → sProp 𝕄}
    {k : PUnit → Prog (TpuEff nD τ sig (Elt F) Λ₀ (thr d L).2) α} (P : (S8192x768.Idx → Elt F .f32) → Prop) (hoff : off = ![0, 128 * c]) (hoff' : off' = ![0, 128 * c])
    (fo : Buf (Elt F) (aL.view.loc (thr d L))) (hR : R ⊣⊢ (aL.view.loc (thr d L) ↦[aL.view.set]{fullShare} fo)) (hfo : aL.view.read (Elt F) fo = E)
    (hin : ∀ x, (E x).toNat < S8192x128.size gathers_S8192x128_S64x128.axis) (hinj : Function.Injective fun x => (E x).toNat)
    (hown : ∀ (k : Fin 64) (z : S8192x768.Idx), (z 0).val = (E (ValueIdx.ix1 (n := 64) k)).toNat → z ∈ own)
    (hP : ∀ inb inb', P (scat (c := c) d L xb f E hn hin inb inb')) :
    iprop(((aX).view.loc (thr d L) ↦{fullShare} xb) ∗ ((xsV).view.loc (thr d L) ↦[own]{fullShare} f) ∗ R ∗ semVal (thr d L, SemLoc.dma sem) 0)
      ⊢ iprop((Flight countersEmb (thr d L) (.dma sem) (default : HIx 2) (aCols off' inb').view.dmaCredit
            iprop(((aX).view.loc (thr d L) ↦{fullShare} xb) ∗ (∃ f', ⌜P f'⌝ ∗ ((xsV).view.loc (thr d L) ↦[own]{fullShare} f')) ∗ R)
          -∗ wp frame (wpE (defs₀ (F := F)) 𝒱₀ (thr d L) none) Set.univ (k ⟨⟩) Q)
        -∗ wp frame (wpE (defs₀ (F := F)) 𝒱₀ (thr d L) none) Set.univ
            (.op (.enqueueIndirectDma hp aL hn sem (entry d L (aCols off' inb') (xsCols off inb) sem he hsp hr)) k) Q) :=
  scatter_step (aL := aL) (xb := xb) (f := f) (c := c) (off := off) (off' := off') (inb := inb) (inb' := inb') (hp := hp) (hn := hn) (sem := sem) (he := he) (hsp := hsp) (hr := hr) d L R
    (k := k) (Q := Q) P hoff hoff' fo hR hfo hin hinj hown hP

end Cert.Proof.Kernel.Route

end
-- ==== Proof.Kernel.Route.Lists.lean ====
/-
  A routing task's lists of rows — its 128 entries' rows as it forms them, then the even and the odd ones apart — and its plain copies: the expert numbers and the tokens' rows in,
  the entries' rows and the blocks' experts out.
-/
module

public import proofs.«01_k».proof.Proof.Kernel.Route.Scatter

@[expose] public section

noncomputable section

namespace Cert.Proof.Kernel.Route

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The rows of task `w`'s entries, -/
def own (te : S4096.Idx → BitVec 32) (w : ℕ) (n : ℕ) : BitVec 32 := destAt te w (n / 16) (ValueIdx.ix1 (n := 16) ⟨n % 16, Nat.mod_lt _ (by decide)⟩)
/-- as a list, -/
def ownList (te : S4096.Idx → BitVec 32) (w : ℕ) : S128.Idx → BitVec 32 := fun x => own te w (x 0).val
/-- those of its tokens' first entries (`p = 0`) or second entries (`p = 1`), -/
def pick (te : S4096.Idx → BitVec 32) (w p : ℕ) (n : ℕ) : BitVec 32 := own te w (2 * n + p)
/-- as a list. -/
def pickList (te : S4096.Idx → BitVec 32) (w p : ℕ) : S64.Idx → BitVec 32 := fun x => own te w (2 * (x 0).val + p)
/-- The blocks' experts, by number. -/
def blockAt (te : S4096.Idx → BitVec 32) (n : ℕ) : BitVec 32 := blocks te (ValueIdx.ix1 (n := 32) ⟨n % 32, Nat.mod_lt _ (by decide)⟩)
/-- A task's tokens' rows. -/
def xBlk (L : grid0.Coords) (x : S2048x768.Idx → Elt F .f32) : S64x768.Idx → Elt F .f32 :=
  fun z => x (ix2 (n0 := 2048) (n1 := 768) ⟨(64 * wid L + (z 0).val) % 2048, Nat.mod_lt _ (by decide)⟩ (z 1))

theorem sixteen_own (te : S4096.Idx → BitVec 32) (w j : ℕ) : sixteen (own te w) j = destAt te w j := by
  funext x
  have hx : (x 0).val < 16 := (x 0).isLt
  have e1 : (16 * j + (x 0).val) / 16 = j := by omega
  have e2 : (ValueIdx.ix1 (n := 16) ⟨(16 * j + (x 0).val) % 16, Nat.mod_lt _ (by decide)⟩ : S16.Idx) = x :=
    (congrArg ValueIdx.ix1 (Fin.ext (by show (16 * j + (x 0).val) % 16 = (x 0).val; omega))).trans (eq_ix1 (n := 16) x).symm
  unfold sixteen own
  rw [e1, e2]

/-! ## Groups of sixteen in the lists -/

/-- Where a group's element sits in its list. -/
theorem group_emb {n k : ℕ} {inb : ∀ a, (![16 * k] : Fin 1 → ℕ) a + S16.size a ≤ (⟨1, ![n]⟩ : Shape).size a} (x : S16.Idx) :
    ((Rect.unit (s := ⟨1, ![n]⟩) ![16 * k] S16.size inb).emb x 0).val = 16 * k + (x 0).val := by
  show 16 * k + 1 * (x 0).val = _
  omega

theorem write_aD (f : ℕ → BitVec 32) (j : S128.Idx → BitVec 32) {k : ℕ} {off : Fin 1 → ℕ} {inb : ∀ a, off a + S16.size a ≤ S128.size a} {P : IVec S16 32}
    (hoff : off = ![16 * k]) (hP : P = sixteen f k) :
    ((aD).access (Rect.unit (s := S128) off S16.size inb)).write (Elt F) (fill (n := 128) f j k) P Finset.univ = fill (n := 128) f j (k + 1) := by
  subst hoff hP
  refine fill_next f j _ (fun x z hz => ?_) (fun z hz => ?_)
  · have hxz : ((aD).access (Rect.unit (s := S128) ![16 * k] S16.size inb)).emb x = z :=
      (eq_ix1 (n := 128) _).trans ((congrArg ValueIdx.ix1 (Fin.ext ((group_emb (n := 128) x).trans hz.symm))).trans (eq_ix1 (n := 128) z).symm)
    have h3 := View.write_emb_of_mem (Val := Elt F) (v := (aD).access (Rect.unit (s := S128) ![16 * k] S16.size inb)) (fill (n := 128) f j k) (sixteen f k) (Finset.mem_univ x)
    rw [hxz] at h3
    exact h3
  · refine View.write_of_not_mem (Val := Elt F) (v := (aD).access (Rect.unit (s := S128) ![16 * k] S16.size inb)) (fill (n := 128) f j k) (sixteen f k) Finset.univ fun hmem => ?_
    rw [View.setOn_univ] at hmem
    obtain ⟨x, -, hx⟩ := Finset.mem_map.mp hmem
    exact hz x ((congrArg (fun z : S128.Idx => (z 0).val) hx).symm.trans (group_emb (n := 128) x))

theorem write_aE (f : ℕ → BitVec 32) (j : S64.Idx → BitVec 32) {k : ℕ} {off : Fin 1 → ℕ} {inb : ∀ a, off a + S16.size a ≤ S64.size a} {P : IVec S16 32}
    (hoff : off = ![16 * k]) (hP : P = sixteen f k) :
    ((aE).access (Rect.unit (s := S64) off S16.size inb)).write (Elt F) (fill (n := 64) f j k) P Finset.univ = fill (n := 64) f j (k + 1) := by
  subst hoff hP
  refine fill_next f j _ (fun x z hz => ?_) (fun z hz => ?_)
  · have hxz : ((aE).access (Rect.unit (s := S64) ![16 * k] S16.size inb)).emb x = z :=
      (eq_ix1 (n := 64) _).trans ((congrArg ValueIdx.ix1 (Fin.ext ((group_emb (n := 64) x).trans hz.symm))).trans (eq_ix1 (n := 64) z).symm)
    have h3 := View.write_emb_of_mem (Val := Elt F) (v := (aE).access (Rect.unit (s := S64) ![16 * k] S16.size inb)) (fill (n := 64) f j k) (sixteen f k) (Finset.mem_univ x)
    rw [hxz] at h3
    exact h3
  · refine View.write_of_not_mem (Val := Elt F) (v := (aE).access (Rect.unit (s := S64) ![16 * k] S16.size inb)) (fill (n := 64) f j k) (sixteen f k) Finset.univ fun hmem => ?_
    rw [View.setOn_univ] at hmem
    obtain ⟨x, -, hx⟩ := Finset.mem_map.mp hmem
    exact hz x ((congrArg (fun z : S64.Idx => (z 0).val) hx).symm.trans (group_emb (n := 64) x))

theorem write_aO (f : ℕ → BitVec 32) (j : S64.Idx → BitVec 32) {k : ℕ} {off : Fin 1 → ℕ} {inb : ∀ a, off a + S16.size a ≤ S64.size a} {P : IVec S16 32}
    (hoff : off = ![16 * k]) (hP : P = sixteen f k) :
    ((aO).access (Rect.unit (s := S64) off S16.size inb)).write (Elt F) (fill (n := 64) f j k) P Finset.univ = fill (n := 64) f j (k + 1) :=
  (show _ = ((aE).access (Rect.unit (s := S64) off S16.size inb)).write (Elt F) (fill (n := 64) f j k) P Finset.univ from rfl).trans (write_aE f j hoff hP)

theorem write_aB (f : ℕ → BitVec 32) (j : S32.Idx → BitVec 32) {k : ℕ} {off : Fin 1 → ℕ} {inb : ∀ a, off a + S16.size a ≤ S32.size a} {P : IVec S16 32}
    (hoff : off = ![16 * k]) (hP : P = sixteen f k) :
    ((aB).access (Rect.unit (s := S32) off S16.size inb)).write (Elt F) (fill (n := 32) f j k) P Finset.univ = fill (n := 32) f j (k + 1) := by
  subst hoff hP
  refine fill_next f j _ (fun x z hz => ?_) (fun z hz => ?_)
  · have hxz : ((aB).access (Rect.unit (s := S32) ![16 * k] S16.size inb)).emb x = z :=
      (eq_ix1 (n := 32) _).trans ((congrArg ValueIdx.ix1 (Fin.ext ((group_emb (n := 32) x).trans hz.symm))).trans (eq_ix1 (n := 32) z).symm)
    have h3 := View.write_emb_of_mem (Val := Elt F) (v := (aB).access (Rect.unit (s := S32) ![16 * k] S16.size inb)) (fill (n := 32) f j k) (sixteen f k) (Finset.mem_univ x)
    rw [hxz] at h3
    exact h3
  · refine View.write_of_not_mem (Val := Elt F) (v := (aB).access (Rect.unit (s := S32) ![16 * k] S16.size inb)) (fill (n := 32) f j k) (sixteen f k) Finset.univ fun hmem => ?_
    rw [View.setOn_univ] at hmem
    obtain ⟨x, -, hx⟩ := Finset.mem_map.mp hmem
    exact hz x ((congrArg (fun z : S32.Idx => (z 0).val) hx).symm.trans (group_emb (n := 32) x))

/-! ## Reading through indices -/

/-- Indices `32 k + 2 i + p` lie in the list of 128, -/
theorem chk_of {v : IVec S16 32} (k p : ℕ) (hk : k < 4) (hp : p < 2) (hv : ∀ i : Fin 16, (v (ValueIdx.ix1 (n := 16) i)).toNat = 32 * k + 2 * i.val + p) :
    ∀ a x, ((![v] : Fin 1 → IVec S16 32) a x).toNat < S128.size a := by
  intro a x
  obtain rfl : a = 0 := Subsingleton.elim _ _
  have h := hv (x 0)
  have hx : (x 0).val < 16 := (x 0).isLt
  have e : x = ValueIdx.ix1 (n := 16) (x 0) := eq_ix1 x
  show (v x).toNat < 128
  rw [e, h]
  show 32 * k + 2 * (x 0).val + p < 128
  omega

/-- and what is read through them is a group of the tokens' first or second entries' rows. -/
theorem lanes_eq {te : S4096.Idx → BitVec 32} {w : ℕ} {v : IVec S16 32} {k p : ℕ} {h} (hv : ∀ i : Fin 16, (v (ValueIdx.ix1 (n := 16) i)).toNat = 32 * k + 2 * i.val + p) :
    loadIdx (F := F) (e := .i32) (s := S128) (ownList te w) ![v] h = sixteen (pick te w p) k := by
  funext x
  have hx : (x 0).val < 16 := (x 0).isLt
  have e : x = ValueIdx.ix1 (n := 16) (x 0) := eq_ix1 x
  have hvx : (v x).toNat = 32 * k + 2 * (x 0).val + p := by rw [e]; exact hv (x 0)
  show own te w (v x).toNat = own te w (2 * (16 * k + (x 0).val) + p)
  exact congrArg (own te w) (by omega)

variable (d : Dev nD) (L : grid0.Coords)

theorem load_aD {D : S128.Idx → BitVec 32} : (aD).view.readAt (Elt F) (Rect.whole S128).toLoadRect D = D := by
  funext x
  show D ((Rect.whole S128).emb x) = D x
  exact congrArg D ((eq_ix1 (n := 128) _).trans ((congrArg ValueIdx.ix1 (Fin.ext (show 0 + 1 * (x 0).val = (x 0).val by omega))).trans (eq_ix1 (n := 128) x).symm))

/-- The list of entries' rows, read whole. -/
theorem loadD {D : S128.Idx → BitVec 32} {hl : (aD).view.LoadsAt (Rect.whole S128).toLoadRect} {α : Type} {Q : α → sProp 𝕄}
    {kont : (S128.Idx → BitVec 32) → Prog (TpuEff nD τ sig (Elt F) Λ₀ (thr d L).2) α} :
    ((aD).view.loc (thr d L) ↦{fullShare} D)
      ⊢ iprop((((aD).view.loc (thr d L) ↦{fullShare} D) -∗ wp frame (wpE (defs₀ (F := F)) 𝒱₀ (thr d L) none) Set.univ (kont D) Q)
        -∗ wp frame (wpE (defs₀ (F := F)) 𝒱₀ (thr d L) none) Set.univ (.op (.load aD (Rect.whole S128).toLoadRect hl) kont) Q) := by
  conv => rhs; lhs; rhs; rw [← load_aD (F := F) (D := D)]
  exact wp_load 𝒱₀ (thr d L) none Set.univ (m := (aD)) (Finset.subset_univ _)

/-! ## A choice -/

theorem take_then (c : Thread nD τ) {P : Prop} {dec : Decidable P} (h : P) {α β : Type} {Q : α → sProp 𝕄} {A : P → Prog (TpuEff nD τ sig (Elt F) Λ₀ c.2) β}
    {B : ¬P → Prog (TpuEff nD τ sig (Elt F) Λ₀ c.2) β} {k : β → Prog (TpuEff nD τ sig (Elt F) Λ₀ c.2) α} :
    wp frame (wpE (defs₀ (F := F)) 𝒱₀ c none) Set.univ (A h >>= k) Q ⊢ wp frame (wpE (defs₀ (F := F)) 𝒱₀ c none) Set.univ (dite P A B >>= k) Q :=
  Entails.of_eq (by rw [dif_pos h])

theorem take_else (c : Thread nD τ) {P : Prop} {dec : Decidable P} (h : ¬P) {α β : Type} {Q : α → sProp 𝕄} {A : P → Prog (TpuEff nD τ sig (Elt F) Λ₀ c.2) β}
    {B : ¬P → Prog (TpuEff nD τ sig (Elt F) Λ₀ c.2) β} {k : β → Prog (TpuEff nD τ sig (Elt F) Λ₀ c.2) α} :
    wp frame (wpE (defs₀ (F := F)) 𝒱₀ c none) Set.univ (B h >>= k) Q ⊢ wp frame (wpE (defs₀ (F := F)) 𝒱₀ c none) Set.univ (dite P A B >>= k) Q :=
  Entails.of_eq (by rw [dif_neg h])

/-- Only the first task's number is zero. -/
theorem is_first (L : grid0.Coords) :
    Scalar.cmpi .ne (Scalar.extui (Scalar.cmpi .eq (Scalar.addi (Scalar.muli (BitVec.ofNat 32 (L 1).val) 2#32) (BitVec.ofNat 32 (L 0).val)) 0#32) : BitVec 32) 0#32 = 1#1 ↔ wid L = 0 := by
  rw [← crd_eq L]
  have h : ∀ (a : Fin 2) (b : Fin 16), Scalar.cmpi .ne (Scalar.extui (Scalar.cmpi .eq (Scalar.addi (Scalar.muli (BitVec.ofNat 32 b.val) 2#32) (BitVec.ofNat 32 a.val)) 0#32) : BitVec 32) 0#32 = 1#1
      ↔ 2 * b.val + a.val = 0 := by decide +kernel
  exact h (L 0) (L 1)

/-- The blocks' experts in two groups of sixteen. -/
theorem blocks_low (te : S4096.Idx → BitVec 32) : sixteen (blockAt te) 0 = expertsAt te 0#32 := by
  funext x
  have hx : (x 0).val < 16 := (x 0).isLt
  have e : (ValueIdx.ix1 (n := 16) ⟨(16 * 0 + (x 0).val) % 32 % 16, Nat.mod_lt _ (by decide)⟩ : S16.Idx) = x :=
    (congrArg ValueIdx.ix1 (Fin.ext (by show (16 * 0 + (x 0).val) % 32 % 16 = (x 0).val; omega))).trans (eq_ix1 (n := 16) x).symm
  refine (if_pos (show (16 * 0 + (x 0).val) % 32 < 16 by omega)).trans ?_
  exact congrArg (expertsAt te 0#32) e

theorem blocks_high (te : S4096.Idx → BitVec 32) : sixteen (blockAt te) 1 = select (cmpi .eq lane (bc 15#32)) (bc (used te)) (expertsAt te 16#32) := by
  funext x
  have hx : (x 0).val < 16 := (x 0).isLt
  have e : (ValueIdx.ix1 (n := 16) ⟨(16 * 1 + (x 0).val) % 32 % 16, Nat.mod_lt _ (by decide)⟩ : S16.Idx) = x :=
    (congrArg ValueIdx.ix1 (Fin.ext (by show (16 * 1 + (x 0).val) % 32 % 16 = (x 0).val; omega))).trans (eq_ix1 (n := 16) x).symm
  refine (if_neg (show ¬(16 * 1 + (x 0).val) % 32 < 16 by omega)).trans ?_
  exact congrArg (select (cmpi .eq lane (bc 15#32)) (bc (used te)) (expertsAt te 16#32)) e

theorem blockAt_eq (te : S4096.Idx → BitVec 32) : (fun x : S32.Idx => blockAt te (x 0).val) = blocks te := by
  funext x
  have hx : (x 0).val < 32 := (x 0).isLt
  exact congrArg (blocks te) ((congrArg ValueIdx.ix1 (Fin.ext (Nat.mod_eq_of_lt hx))).trans (eq_ix1 (n := 32) x).symm)

/-! ## The stores -/

theorem store_aD (f : ℕ → BitVec 32) (j : S128.Idx → BitVec 32) {k : ℕ} {off : Fin 1 → ℕ} {inb : ∀ a, off a + S16.size a ≤ S128.size a} {P : IVec S16 32} {hx hm} {α : Type}
    {Q : α → sProp 𝕄} {kont : PUnit → Prog (TpuEff nD τ sig (Elt F) Λ₀ (thr d L).2) α} (hoff : off = ![16 * k]) (hP : P = sixteen f k) :
    ((aD).view.loc (thr d L) ↦{fullShare} fill (n := 128) f j k)
      ⊢ iprop((((aD).view.loc (thr d L) ↦{fullShare} fill (n := 128) f j (k + 1)) -∗ wp frame (wpE (defs₀ (F := F)) 𝒱₀ (thr d L) none) Set.univ (kont ⟨⟩) Q)
        -∗ wp frame (wpE (defs₀ (F := F)) 𝒱₀ (thr d L) none) Set.univ (.op (.store aD (Rect.unit (s := S128) off S16.size inb) P Finset.univ hx hm) kont) Q) := by
  have e := write_aD (F := F) f j (inb := inb) hoff hP
  generalize fill (n := 128) f j (k + 1) = A at *
  generalize fill (n := 128) f j k = B at *
  subst e
  refine wp_store (hx := hx) (hm := hm) (k := kont) (Q := Q) 𝒱₀ (thr d L) none Set.univ (m := aD) (r := Rect.unit (s := S128) off S16.size inb) (w := P) (f := B) (S := Finset.univ)
    (Mk := Finset.univ) ?_
  exact fun x _ => Finset.mem_univ x

theorem store_aE (f : ℕ → BitVec 32) (j : S64.Idx → BitVec 32) {k : ℕ} {off : Fin 1 → ℕ} {inb : ∀ a, off a + S16.size a ≤ S64.size a} {P : IVec S16 32} {hx hm} {α : Type}
    {Q : α → sProp 𝕄} {kont : PUnit → Prog (TpuEff nD τ sig (Elt F) Λ₀ (thr d L).2) α} (hoff : off = ![16 * k]) (hP : P = sixteen f k) :
    ((aE).view.loc (thr d L) ↦{fullShare} fill (n := 64) f j k)
      ⊢ iprop((((aE).view.loc (thr d L) ↦{fullShare} fill (n := 64) f j (k + 1)) -∗ wp frame (wpE (defs₀ (F := F)) 𝒱₀ (thr d L) none) Set.univ (kont ⟨⟩) Q)
        -∗ wp frame (wpE (defs₀ (F := F)) 𝒱₀ (thr d L) none) Set.univ (.op (.store aE (Rect.unit (s := S64) off S16.size inb) P Finset.univ hx hm) kont) Q) := by
  have e := write_aE (F := F) f j (inb := inb) hoff hP
  generalize fill (n := 64) f j (k + 1) = A at *
  generalize fill (n := 64) f j k = B at *
  subst e
  refine wp_store (hx := hx) (hm := hm) (k := kont) (Q := Q) 𝒱₀ (thr d L) none Set.univ (m := aE) (r := Rect.unit (s := S64) off S16.size inb) (w := P) (f := B) (S := Finset.univ)
    (Mk := Finset.univ) ?_
  exact fun x _ => Finset.mem_univ x

theorem store_aO (f : ℕ → BitVec 32) (j : S64.Idx → BitVec 32) {k : ℕ} {off : Fin 1 → ℕ} {inb : ∀ a, off a + S16.size a ≤ S64.size a} {P : IVec S16 32} {hx hm} {α : Type}
    {Q : α → sProp 𝕄} {kont : PUnit → Prog (TpuEff nD τ sig (Elt F) Λ₀ (thr d L).2) α} (hoff : off = ![16 * k]) (hP : P = sixteen f k) :
    ((aO).view.loc (thr d L) ↦{fullShare} fill (n := 64) f j k)
      ⊢ iprop((((aO).view.loc (thr d L) ↦{fullShare} fill (n := 64) f j (k + 1)) -∗ wp frame (wpE (defs₀ (F := F)) 𝒱₀ (thr d L) none) Set.univ (kont ⟨⟩) Q)
        -∗ wp frame (wpE (defs₀ (F := F)) 𝒱₀ (thr d L) none) Set.univ (.op (.store aO (Rect.unit (s := S64) off S16.size inb) P Finset.univ hx hm) kont) Q) := by
  have e := write_aO (F := F) f j (inb := inb) hoff hP
  generalize fill (n := 64) f j (k + 1) = A at *
  generalize fill (n := 64) f j k = B at *
  subst e
  refine wp_store (hx := hx) (hm := hm) (k := kont) (Q := Q) 𝒱₀ (thr d L) none Set.univ (m := aO) (r := Rect.unit (s := S64) off S16.size inb) (w := P) (f := B) (S := Finset.univ)
    (Mk := Finset.univ) ?_
  exact fun x _ => Finset.mem_univ x

theorem store_aB (f : ℕ → BitVec 32) (j : S32.Idx → BitVec 32) {k : ℕ} {off : Fin 1 → ℕ} {inb : ∀ a, off a + S16.size a ≤ S32.size a} {P : IVec S16 32} {hx hm} {α : Type}
    {Q : α → sProp 𝕄} {kont : PUnit → Prog (TpuEff nD τ sig (Elt F) Λ₀ (thr d L).2) α} (hoff : off = ![16 * k]) (hP : P = sixteen f k) :
    ((aB).view.loc (thr d L) ↦{fullShare} fill (n := 32) f j k)
      ⊢ iprop((((aB).view.loc (thr d L) ↦{fullShare} fill (n := 32) f j (k + 1)) -∗ wp frame (wpE (defs₀ (F := F)) 𝒱₀ (thr d L) none) Set.univ (kont ⟨⟩) Q)
        -∗ wp frame (wpE (defs₀ (F := F)) 𝒱₀ (thr d L) none) Set.univ (.op (.store aB (Rect.unit (s := S32) off S16.size inb) P Finset.univ hx hm) kont) Q) := by
  have e := write_aB (F := F) f j (inb := inb) hoff hP
  generalize fill (n := 32) f j (k + 1) = A at *
  generalize fill (n := 32) f j k = B at *
  subst e
  refine wp_store (hx := hx) (hm := hm) (k := kont) (Q := Q) 𝒱₀ (thr d L) none Set.univ (m := aB) (r := Rect.unit (s := S32) off S16.size inb) (w := P) (f := B) (S := Finset.univ)
    (Mk := Finset.univ) ?_
  exact fun x _ => Finset.mem_univ x

/-! ## The copies -/

abbrev xSl (L : grid0.Coords) : Memref sig .scVector .hbm S64x768 .f32 := xV.slice (Rect.unit (s := S2048x768) (k0_off1 L) S64x768.size (k0_off1_inb L)) (fun _ => rfl)
abbrev dSl (L : grid0.Coords) : Memref sig .scVector .hbm S128 .i32 := dV.slice (Rect.unit (s := S4096) (k0_off7 L) S128.size (k0_off7_inb L)) (fun _ => rfl)

theorem read_xSl (L : grid0.Coords) (x : S2048x768.Idx → Elt F .f32) : (xSl L).view.read (Elt F) x = xBlk L x := by
  funext z
  have hw := wid_lt L
  have hz : (z 0).val < 64 := (z 0).isLt
  have e0 : k0_off1 L 0 = 64 * wid L := by
    rw [show k0_off1 L = ![128 * (L 1).val + 64 * (L 0).val, 0] from ClosedOff.eq]
    show 128 * (L 1).val + 64 * (L 0).val = _
    unfold wid
    omega
  have e1 : k0_off1 L 1 = 0 := by
    rw [show k0_off1 L = ![128 * (L 1).val + 64 * (L 0).val, 0] from ClosedOff.eq]
    rfl
  refine congrArg x ((eq_ix2 (n0 := 2048) (n1 := 768) _).trans (congrArg₂ ix2 (Fin.ext ?_) (Fin.ext ?_)))
  · show k0_off1 L 0 + 1 * (z 0).val = (64 * wid L + (z 0).val) % 2048
    omega
  · show k0_off1 L 1 + 1 * (z 1).val = (z 1).val
    omega

/-- Where the task's entry `x` sits among the 4096. -/
theorem emb_dSl (L : grid0.Coords) (x : S128.Idx) : (((dSl L).view.emb x : S4096.Idx) 0).val = 128 * wid L + (x 0).val := by
  have e : k0_off7 L 0 = 128 * wid L := by
    rw [k0_off7_eq]
    show 256 * (L 1).val + 128 * (L 0).val = _
    unfold wid
    omega
  show k0_off7 L 0 + 1 * (x 0).val = _
  omega

theorem write_dSl (L : grid0.Coords) (te : S4096.Idx → BitVec 32) (f : S4096.Idx → BitVec 32) (z : S4096.Idx) (hz : z ∈ (dSl L).view.set) :
    (dSl L).view.write (Elt F) f (ownList te (wid L)) Finset.univ z = dest te z := by
  obtain ⟨x, -, hx⟩ := Finset.mem_map.mp hz
  have h3 := View.write_emb_of_mem (Val := Elt F) (v := (dSl L).view) f (ownList te (wid L)) (Finset.mem_univ x)
  have hx' : (dSl L).view.emb x = z := hx
  have a : 128 * wid L + (x 0).val = (z 0).val := (emb_dSl L x).symm.trans (congrArg (fun z : S4096.Idx => (z 0).val) hx)
  have hx128 : (x 0).val < 128 := (x 0).isLt
  rw [hx'] at h3
  refine h3.trans ?_
  show destAt te (wid L) ((x 0).val / 16) (ValueIdx.ix1 (n := 16) ⟨(x 0).val % 16, _⟩) = destAt te ((z 0).val / 128) ((z 0).val / 16 % 8) (ValueIdx.ix1 (n := 16) ⟨(z 0).val % 16, _⟩)
  have e1 : (z 0).val / 128 = wid L := by omega
  have e2 : (z 0).val / 16 % 8 = (x 0).val / 16 := by omega
  have e3 : (z 0).val % 16 = (x 0).val % 16 := by omega
  exact congr (congrArg₂ (destAt te) e1.symm e2.symm) (congrArg ValueIdx.ix1 (Fin.ext e3.symm))

/-- The expert numbers' copy. -/
theorem fetchT {q : PosShare TreeShare} {te j : S4096.Idx → BitVec 32} {sem : DmaSem sig} {hsrc hdst hsem} {α : Type} {Q : α → sProp 𝕄}
    {k : PUnit → Prog (TpuEff nD τ sig (Elt F) Λ₀ (thr d L).2) α} :
    iprop(((teV).view.loc (thr d L) ↦{q} te) ∗ ((aT).view.loc (thr d L) ↦{fullShare} j) ∗ semVal (thr d L, SemLoc.dma sem) 0)
      ⊢ iprop((Flight countersEmb (thr d L) (.dma sem) (default : HIx 2) (aT).view.dmaCredit
            iprop(((aT).view.loc (thr d L) ↦{fullShare} te) ∗ ((teV).view.loc (thr d L) ↦{q} te))
          -∗ wp frame (wpE (defs₀ (F := F)) 𝒱₀ (thr d L) none) Set.univ (k ⟨⟩) Q)
        -∗ wp frame (wpE (defs₀ (F := F)) 𝒱₀ (thr d L) none) Set.univ (.op (.enqueueDma teV (.here aT) (.dma sem) hsrc hdst hsem) k) Q) := by
  have e : ((aT).view.loc (thr d L) ↦{fullShare} te : sProp 𝕄) = ((aT).view.loc (thr d L) ↦{fullShare} (aT).view.write (Elt F) j ((teV).view.read (Elt F) te) Finset.univ) :=
    congrArg _ (View.write_whole_univ _ _ _).symm
  rw [e]
  exact Transfers.wp_dmaFromWhole countersEmb 𝒱₀ (thr d L) none (src := teV) (via := .same) (dst := aT) (sm := .dma sem) (hsrc := hsrc) (hdst := hdst) (hsem := hsem)
    (k := k) (q := q) (fs := te) (Sd := Finset.univ) (fd := j) (default : HIx 2) _ rfl (View.amount_pos aT.view (.dma sem) (show 0 < S4096.numel by decide)) (Finset.subset_univ _)

/-- The tokens' rows' copy. -/
theorem fetchX {q : PosShare TreeShare} {x : S2048x768.Idx → Elt F .f32} {j : S64x768.Idx → Elt F .f32} {sem : DmaSem sig} {hsrc hdst hsem} {α : Type} {Q : α → sProp 𝕄}
    {k : PUnit → Prog (TpuEff nD τ sig (Elt F) Λ₀ (thr d L).2) α} :
    iprop(((xV).view.loc (thr d L) ↦{q} x) ∗ ((aX).view.loc (thr d L) ↦{fullShare} j) ∗ semVal (thr d L, SemLoc.dma sem) 0)
      ⊢ iprop((Flight countersEmb (thr d L) (.dma sem) (default : HIx 2) (aX).view.dmaCredit
            iprop(((aX).view.loc (thr d L) ↦{fullShare} xBlk L x) ∗ ((xV).view.loc (thr d L) ↦{q} x))
          -∗ wp frame (wpE (defs₀ (F := F)) 𝒱₀ (thr d L) none) Set.univ (k ⟨⟩) Q)
        -∗ wp frame (wpE (defs₀ (F := F)) 𝒱₀ (thr d L) none) Set.univ (.op (.enqueueDma (xSl L) (.here aX) (.dma sem) hsrc hdst hsem) k) Q) := by
  have e : (aX).view.write (Elt F) j ((xSl L).view.read (Elt F) x) Finset.univ = xBlk L x := by
    rw [read_xSl]; exact View.write_whole_univ _ _ _
  rw [← e]
  exact Transfers.wp_dmaFromWhole countersEmb 𝒱₀ (thr d L) none (src := xSl L) (via := .same) (dst := aX) (sm := .dma sem) (hsrc := hsrc) (hdst := hdst) (hsem := hsem)
    (k := k) (q := q) (fs := x) (Sd := Finset.univ) (fd := j) (default : HIx 2) _ rfl (View.amount_pos aX.view (.dma sem) (show 0 < S64x768.numel by decide)) (Finset.subset_univ _)

/-- The copy out of the entries' rows. -/
theorem putD {te f : S4096.Idx → BitVec 32} {sem : DmaSem sig} {hsrc hdst hsem} {α : Type} {Q : α → sProp 𝕄} {k : PUnit → Prog (TpuEff nD τ sig (Elt F) Λ₀ (thr d L).2) α} :
    iprop(((aD).view.loc (thr d L) ↦{fullShare} ownList te (wid L)) ∗ ((dV).view.loc (thr d L) ↦[(dSl L).view.set]{fullShare} f) ∗ semVal (thr d L, SemLoc.dma sem) 0)
      ⊢ iprop((Flight countersEmb (thr d L) (.dma sem) (default : HIx 2) (dSl L).view.dmaCredit
            iprop(((dV).view.loc (thr d L) ↦[(dSl L).view.set]{fullShare} dest te) ∗ ((aD).view.loc (thr d L) ↦{fullShare} ownList te (wid L)))
          -∗ wp frame (wpE (defs₀ (F := F)) 𝒱₀ (thr d L) none) Set.univ (k ⟨⟩) Q)
        -∗ wp frame (wpE (defs₀ (F := F)) 𝒱₀ (thr d L) none) Set.univ (.op (.enqueueDma aD (.here (dSl L)) (.dma sem) hsrc hdst hsem) k) Q) := by
  have e : ((dV).view.loc (thr d L) ↦[(dSl L).view.set]{fullShare} dest te : sProp 𝕄)
      = ((dV).view.loc (thr d L) ↦[(dSl L).view.set]{fullShare} (dSl L).view.write (Elt F) f (ownList te (wid L)) Finset.univ) :=
    pointsTo_congr fun z hz => (write_dSl L te f z hz).symm
  rw [e]
  exact Transfers.wp_dmaFromWhole countersEmb 𝒱₀ (thr d L) none (src := aD) (via := .same) (dst := dSl L) (sm := .dma sem) (hsrc := hsrc) (hdst := hdst) (hsem := hsem)
    (k := k) (q := fullShare) (fs := ownList te (wid L)) (Sd := (dSl L).view.set) (fd := f) (default : HIx 2) _ rfl (View.amount_pos (dSl L).view (.dma sem) (show 0 < S128.numel by decide))
    (Finset.Subset.refl _)

/-- The copy out of the blocks' experts. -/
theorem putB {b f : S32.Idx → BitVec 32} {sem : DmaSem sig} {hsrc hdst hsem} {α : Type} {Q : α → sProp 𝕄} {k : PUnit → Prog (TpuEff nD τ sig (Elt F) Λ₀ (thr d L).2) α} :
    iprop(((aB).view.loc (thr d L) ↦{fullShare} b) ∗ ((beV).view.loc (thr d L) ↦{fullShare} f) ∗ semVal (thr d L, SemLoc.dma sem) 0)
      ⊢ iprop((Flight countersEmb (thr d L) (.dma sem) (default : HIx 2) (beV).view.dmaCredit
            iprop(((beV).view.loc (thr d L) ↦{fullShare} b) ∗ ((aB).view.loc (thr d L) ↦{fullShare} b))
          -∗ wp frame (wpE (defs₀ (F := F)) 𝒱₀ (thr d L) none) Set.univ (k ⟨⟩) Q)
        -∗ wp frame (wpE (defs₀ (F := F)) 𝒱₀ (thr d L) none) Set.univ (.op (.enqueueDma aB (.here beV) (.dma sem) hsrc hdst hsem) k) Q) := by
  have e : ((beV).view.loc (thr d L) ↦{fullShare} b : sProp 𝕄) = ((beV).view.loc (thr d L) ↦{fullShare} (beV).view.write (Elt F) f ((aB).view.read (Elt F) b) Finset.univ) :=
    congrArg _ (View.write_whole_univ _ _ _).symm
  rw [e]
  exact Transfers.wp_dmaFromWhole countersEmb 𝒱₀ (thr d L) none (src := aB) (via := .same) (dst := beV) (sm := .dma sem) (hsrc := hsrc) (hdst := hdst) (hsem := hsem)
    (k := k) (q := fullShare) (fs := b) (Sd := Finset.univ) (fd := f) (default : HIx 2) _ rfl (View.amount_pos beV.view (.dma sem) (show 0 < S32.numel by decide)) (Finset.subset_univ _)

end Cert.Proof.Kernel.Route

end
-- ==== Proof.Kernel.Route.Count.lean ====
/-
  The routing call's words as counts: the row of each entry is the beginning of its expert's blocks plus the number of earlier entries of that expert.
-/
module

public import proofs.«01_k».proof.Proof.Kernel.Route.Lanes
public import proofs.«01_k».proof.Proof.Kernel.Route.Lists

@[expose] public section

noncomputable section

namespace Cert.Proof.Kernel.Route

open Cert.Kernel Cert.Kernel.Gen

open Idealize.ShloMosaic
open Finset (range)

/-- The expert of entry `q`. -/
def ex (te : S4096.Idx → BitVec 32) (q : ℕ) : ℕ := (te (ValueIdx.ix1 (n := 4096) ⟨q % 4096, Nat.mod_lt _ (by decide)⟩)).toNat

/-- The first `n` entries that expert `e` has. -/
def upTo (te : S4096.Idx → BitVec 32) (e n : ℕ) : ℕ := ∑ q ∈ range n, hit (ex te q = e)

/-- All entries of expert `e`, -/
def load (te : S4096.Idx → BitVec 32) (e : ℕ) : ℕ := if e < 8 then upTo te e 4096 else 0
/-- its blocks, -/
def nblk (te : S4096.Idx → BitVec 32) (e : ℕ) : ℕ := (load te e + 511) / 512
/-- and the first of these. -/
def start (te : S4096.Idx → BitVec 32) (e : ℕ) : ℕ := ∑ i ∈ range e, nblk te i

/-- The row of entry `p`. -/
def row (te : S4096.Idx → BitVec 32) (p : ℕ) : ℕ := 512 * start te (ex te p) + upTo te (ex te p) p

section
variable (te : S4096.Idx → BitVec 32)

theorem grp_nat (n : ℕ) : grp te n = nat fun k => ex te (16 * n + k) := by
  funext x
  show te _ = BitVec.ofNat 32 (te _).toNat
  rw [BitVec.ofNat_toNat, BitVec.setWidth_eq]

theorem upTo_add (e n k : ℕ) : upTo te e (n + k) = upTo te e n + ∑ i ∈ range k, hit (ex te (n + i) = e) := Finset.sum_range_add _ _ _

theorem upTo_mono (e : ℕ) {n m : ℕ} (h : n ≤ m) : upTo te e n ≤ upTo te e m := by
  obtain ⟨k, rfl⟩ := Nat.exists_eq_add_of_le h
  rw [upTo_add]; omega

theorem upTo_le (e n : ℕ) : upTo te e n ≤ n := by
  refine (Finset.sum_le_card_nsmul (range n) _ 1 fun q _ => ?_).trans (by simp)
  rw [hit]; split <;> omega

theorem upTo_succ (p : ℕ) : upTo te (ex te p) (p + 1) = upTo te (ex te p) p + 1 := by
  rw [upTo, Finset.sum_range_succ, hit, if_pos rfl]; rfl

theorem load_le (e : ℕ) : load te e ≤ 4096 := by
  rw [load]; split
  · exact upTo_le ..
  · omega

variable {te} (hte : ∀ x, (te x).toNat < 8)
include hte

theorem ex_lt (q : ℕ) : ex te q < 8 := hte _

theorem ex_small (n k : ℕ) : ex te (n + k) < 2 ^ 31 := (ex_lt hte _).trans (by decide)

theorem cnt_nat {e : ℕ} (he : e < 2 ^ 31) (n : ℕ) : cnt te (BitVec.ofNat 32 e) n = nat fun k => ∑ m ∈ range n, hit (ex te (16 * m + k) = e) := by
  induction n with
  | zero => rfl
  | succ n ih =>
    rw [cnt, ih, grp_nat, one_nat he (fun k => ex_small hte _ _), addi_nat]
    refine nat_congr fun k _ => ?_
    rw [Finset.sum_range_succ]

theorem total_cnt {e : ℕ} (he : e < 2 ^ 31) (n : ℕ) : total (cnt te (BitVec.ofNat 32 e) n) = BitVec.ofNat 32 (upTo te e (16 * n)) := by
  rw [cnt_nat hte he, total_nat]
  congr 1
  induction n with
  | zero => simp [upTo]
  | succ n ih => rw [Nat.mul_succ, upTo_add, ← ih, ← Finset.sum_add_distrib]; exact Finset.sum_congr rfl fun k _ => Finset.sum_range_succ ..

omit hte in
theorem gather_nat {f : BitVec 32 → IVec S16 32} {g : ℕ → ℕ} (h : ∀ e < 8, total (f (BitVec.ofNat 32 e)) = BitVec.ofNat 32 (g e)) :
    gather f = nat fun k => if k < 8 then g k else 0 := by
  have h0 := h 0 (by decide); have h1 := h 1 (by decide); have h2 := h 2 (by decide); have h3 := h 3 (by decide)
  have h4 := h 4 (by decide); have h5 := h 5 (by decide); have h6 := h 6 (by decide); have h7 := h 7 (by decide)
  rw [gather, h0, h1, h2, h3, h4, h5, h6, h7]
  simp only [bc_eq]
  rw [only_nat (by decide), only_nat (by decide), only_nat (by decide), only_nat (by decide), only_nat (by decide), only_nat (by decide), only_nat (by decide), only_nat (by decide)]
  simp only [addi_nat]
  refine nat_congr fun k hk => ?_
  by_cases h8 : k < 8
  · rw [if_pos h8]
    interval_cases k <;> simp
  · rw [if_neg h8]
    simp [show k ≠ 0 by omega, show k ≠ 1 by omega, show k ≠ 2 by omega, show k ≠ 3 by omega, show k ≠ 4 by omega, show k ≠ 5 by omega, show k ≠ 6 by omega, show k ≠ 7 by omega]

theorem base_nat (w : ℕ) : base te w = nat fun k => if k < 8 then upTo te k (16 * (8 * w)) else 0 :=
  gather_nat (f := fun e => cnt te e (8 * w)) (g := fun e => upTo te e (16 * (8 * w))) fun e he => total_cnt hte (by omega) (8 * w)

theorem tot_nat : tot te = nat (load te) :=
  gather_nat (f := fun e => cnt te e 256) (g := fun e => upTo te e 4096) fun e he => (total_cnt hte (by omega) 256).trans (congrArg (fun n => BitVec.ofNat 32 (upTo te e n)) (by decide))

theorem padded_nat : padded te = nat fun k => 512 * nblk te k := by
  rw [padded, tot_nat hte, bc_eq 511, addi_nat, shr_nat (fun k _ => by have := load_le te k; omega), shl_nat]
  rfl

theorem ends_nat : ends te = nat fun k => 512 * start te (k + 1) := by
  rw [ends, padded_nat hte, scan_sum]
  exact nat_congr fun k _ => (Finset.mul_sum ..).symm

theorem run_zero (w : ℕ) : runAt te w 0 = nat fun k => 512 * start te k + if k < 8 then upTo te k (16 * (8 * w)) else 0 := by
  rw [runAt, ends_nat hte, padded_nat hte, subi_nat (h := fun k => 512 * start te k) (fun k _ => by rw [start, Finset.sum_range_succ, Nat.mul_add]; rfl), base_nat hte, addi_nat]

omit hte in
theorem run_nat (g r : ℕ → ℕ) (hg : ∀ k, g k < 2 ^ 31) (n : ℕ) (hn : n ≤ 16) :
    runN (nat g) (nat r) n = nat fun k => r k + if k < n then ∑ i ∈ range 16, hit (g i = k) else 0 := by
  induction n with
  | zero => rfl
  | succ n ih =>
    rw [runN, ih (by omega), runE, one_nat (by omega) hg, total_nat, bc_eq, only_nat (by omega), addi_nat]
    refine nat_congr fun k _ => ?_
    rcases Nat.lt_trichotomy k n with h | h | h
    · simp [h, Nat.lt_succ_of_lt h, Nat.ne_of_lt h]
    · simp [h]
    · simp [Nat.not_lt.2 h.le, show ¬k < n + 1 by omega, Nat.ne_of_gt h]

omit hte in
theorem dest_nat (g r : ℕ → ℕ) (hg : ∀ k, g k < 8) (n : ℕ) (hn : n ≤ 8) (k : Fin 16) :
    destN (nat g) (nat r) n (ValueIdx.ix1 (n := 16) k) = BitVec.ofNat 32 (if g k.val < n then r (g k.val) + ∑ i ∈ range k.val, hit (g i = g k.val) else 0) := by
  have hg' : ∀ k, g k < 2 ^ 31 := fun k => (hg k).trans (by decide)
  induction n with
  | zero => rfl
  | succ n ih =>
    rw [destN, destE, select_at]
    by_cases h : g k.val = n
    · rw [if_pos ((eq_at (by omega) hg' _).2 h), run_nat g r hg' n (by omega), only_nat (by omega), total_nat, sum_only _ (by omega), one_nat (by omega) hg', scan_sum]
      show BitVec.ofNat 32 _ + (BitVec.ofNat 32 (∑ i ∈ range (k.val + 1), hit (g i = n)) - BitVec.ofNat 32 1) = _
      have hs : ∑ i ∈ range (k.val + 1), hit (g i = n) = (∑ i ∈ range k.val, hit (g i = n)) + 1 := by
        rw [Finset.sum_range_succ]; exact congrArg _ (if_pos h)
      rw [hs, BitVec.ofNat_add _ 1, BitVec.add_sub_cancel, ← BitVec.ofNat_add, h]
      simp
    · rw [if_neg (fun c => h ((eq_at (by omega) hg' _).1 c)), ih (by omega)]
      by_cases h' : g k.val < n
      · rw [if_pos h', if_pos (Nat.lt_succ_of_lt h')]
      · rw [if_neg h', if_neg (by omega)]

theorem run_at (w j : ℕ) : runAt te w j = nat fun k => 512 * start te k + if k < 8 then upTo te k (16 * (8 * w + j)) else 0 := by
  induction j with
  | zero => exact run_zero hte w
  | succ j ih =>
    rw [runAt, ih, grp_nat, run_nat _ _ (fun k => ex_small hte _ _) 8 (by decide)]
    refine nat_congr fun k _ => ?_
    by_cases h : k < 8
    · simp only [if_pos h]
      rw [show 16 * (8 * w + (j + 1)) = 16 * (8 * w + j) + 16 by omega, upTo_add]; omega
    · simp only [if_neg h, Nat.add_zero]

/-- The row that the program computes for an entry. -/
theorem dest_at (w j : ℕ) (k : Fin 16) : destAt te w j (ValueIdx.ix1 (n := 16) k) = BitVec.ofNat 32 (row te (16 * (8 * w + j) + k.val)) := by
  rw [destAt, run_at hte, grp_nat, dest_nat _ _ (fun k => ex_lt hte _) 8 le_rfl, if_pos (ex_lt hte _), if_pos (ex_lt hte _), row, upTo_add]
  congr 1
  omega

theorem dest_eq (x : S4096.Idx) : dest te x = BitVec.ofNat 32 (row te (x 0).val) := by
  have hx : (x 0).val < 4096 := (x 0).isLt
  rw [dest, dest_at hte]
  congr 2
  show 16 * (8 * ((x 0).val / 128) + (x 0).val / 16 % 8) + (x 0).val % 16 = (x 0).val
  omega

theorem own_eq (w n : ℕ) : own te w n = BitVec.ofNat 32 (row te (128 * w + n)) := by
  rw [own, dest_at hte]
  congr 2
  show 16 * (8 * w + n / 16) + n % 16 = 128 * w + n
  omega

/-! ## Rows -/

omit hte in
theorem start_mono {a b : ℕ} (h : a ≤ b) : start te a ≤ start te b := Finset.sum_le_sum_of_subset (Finset.range_mono h)

omit hte in
theorem start_succ (e : ℕ) : start te (e + 1) = start te e + nblk te e := Finset.sum_range_succ ..

/-- The rows of an expert's blocks. -/
theorem row_mem {p : ℕ} (hp : p < 4096) : 512 * start te (ex te p) ≤ row te p ∧ row te p < 512 * start te (ex te p + 1) := by
  refine ⟨Nat.le_add_right .., ?_⟩
  have h1 : upTo te (ex te p) p + 1 ≤ load te (ex te p) := by
    rw [load, if_pos (ex_lt hte p), ← upTo_succ]; exact upTo_mono te _ hp
  have h2 : load te (ex te p) ≤ 512 * nblk te (ex te p) := by rw [nblk]; omega
  rw [start_succ, row]; omega

theorem sum_load : ∑ e ∈ range 8, load te e = 4096 := by
  have h : ∀ n, ∑ e ∈ range 8, upTo te e n = n := by
    intro n
    induction n with
    | zero => simp [upTo]
    | succ n ih =>
      have : ∀ e, upTo te e (n + 1) = upTo te e n + hit (ex te n = e) := fun e => Finset.sum_range_succ ..
      simp only [this]
      rw [Finset.sum_add_distrib, ih, Finset.sum_ite_eq, if_pos (Finset.mem_range.2 (ex_lt hte n))]
  rw [← h 4096]
  exact Finset.sum_congr rfl fun e he => if_pos (Finset.mem_range.1 he)

theorem start_last : start te 8 ≤ 15 := by
  have h : 512 * start te 8 ≤ ∑ e ∈ range 8, (load te e + 511) := by
    rw [start, Finset.mul_sum]
    exact Finset.sum_le_sum fun e _ => by rw [nblk]; omega
  rw [Finset.sum_add_distrib, sum_load hte] at h
  simp at h
  omega

theorem start_le (e : ℕ) (he : e ≤ 8) : start te e ≤ 15 := (start_mono he).trans (start_last hte)

theorem row_lt {p : ℕ} (hp : p < 4096) : row te p < 7680 := by
  have := (row_mem hte hp).2
  have := start_le hte (ex te p + 1) (ex_lt hte p)
  omega

theorem row_block {p : ℕ} (hp : p < 4096) : start te (ex te p) ≤ row te p / 512 ∧ row te p / 512 < start te (ex te p + 1) := by
  have := row_mem hte hp
  omega

theorem row_ne {p q : ℕ} (h : p < q) (hq : q < 4096) : row te p ≠ row te q := by
  rcases Nat.lt_trichotomy (ex te p) (ex te q) with e | e | e
  · have h1 := (row_mem hte (h.trans hq)).2
    have h2 := (row_mem hte hq).1
    have h3 : start te (ex te p + 1) ≤ start te (ex te q) := start_mono e
    omega
  · have h1 := upTo_mono te (ex te p) (show p + 1 ≤ q from h)
    rw [upTo_succ] at h1
    rw [row, row, ← e]; omega
  · have h1 := (row_mem hte hq).2
    have h2 := (row_mem hte (h.trans hq)).1
    have h3 : start te (ex te q + 1) ≤ start te (ex te p) := start_mono e
    omega

/-- No two entries get the same row. -/
theorem row_inj {p q : ℕ} (hp : p < 4096) (hq : q < 4096) (h : row te p = row te q) : p = q := by
  rcases Nat.lt_trichotomy p q with e | e | e
  · exact absurd h (row_ne hte e hq)
  · exact e
  · exact absurd h.symm (row_ne hte e hp)

theorem own_toNat (w n : ℕ) (h : 128 * w + n < 4096) : (own te w n).toNat = row te (128 * w + n) := by
  rw [own_eq hte, toNat_small]; have := row_lt hte h; omega

theorem dest_toNat (x : S4096.Idx) : (dest te x).toNat = row te (x 0).val := by
  rw [dest_eq hte, toNat_small]; have := row_lt hte (show (x 0).val < 4096 from (x 0).isLt); omega

/-! ## The table -/

omit hte in
theorem load_high {e : ℕ} (h : 8 ≤ e) : load te e = 0 := if_neg (by omega)

omit hte in
theorem start_high (k : ℕ) : start te (8 + k) = start te 8 := by
  induction k with
  | zero => rfl
  | succ k ih => rw [← Nat.add_assoc, start_succ, ih, nblk, load_high (by omega)]; rfl

theorem start_le' (e : ℕ) : start te e ≤ 15 := by
  rcases Nat.lt_or_ge e 8 with h | h
  · exact start_le hte e h.le
  · obtain ⟨k, rfl⟩ := Nat.exists_eq_add_of_le h
    rw [start_high]; exact start_last hte

theorem used_eq : used te = BitVec.ofNat 32 (start te 8) := by
  have h : extractAt ![15] (scan .sum (padded te)) inpos_S16_p15 = BitVec.ofNat 32 (512 * start te 16) := by
    have := congrFun (ends_nat hte) (ValueIdx.ix1 (n := 16) 15)
    exact this
  rw [used, h, start_high 8]
  have := start_last hte
  have e := congrFun (shr_nat (f := fun _ => 512 * start te 8) (fun k _ => by omega)) (ValueIdx.ix1 (n := 16) 0)
  refine Eq.trans ?_ (e.trans ?_)
  · rfl
  · show BitVec.ofNat 32 (512 * start te 8 / 512) = _
    rw [Nat.mul_div_cancel_left _ (by decide)]

theorem past_nat (q e : ℕ) (hq : q ≤ 16) (he : e < 8) : past te (BitVec.ofNat 32 q) (BitVec.ofNat 32 e) = nat fun k => hit (start te (e + 1) ≤ k + q) := by
  have ht : total (only (BitVec.ofNat 32 e) (ends te)) = BitVec.ofNat 32 (512 * start te (e + 1)) := by
    rw [ends_nat hte, only_nat (by omega), total_nat, sum_only _ (by omega)]
  rw [past, ht]
  funext x
  have hx : (x 0).val < 16 := (x 0).isLt
  rw [lane_eq]
  show (BitVec.ofBool ((BitVec.ofNat 32 (512 * start te (e + 1))).sle ((BitVec.ofNat 32 (x 0).val + BitVec.ofNat 32 q) * BitVec.ofNat 32 512))).setWidth 32 = BitVec.ofNat 32 (if start te (e + 1) ≤ (x 0).val + q then 1 else 0)
  rw [← BitVec.ofNat_add, ← BitVec.ofNat_mul, sle_small (by have := start_le' hte (e + 1); omega) (by omega)]
  by_cases h : start te (e + 1) ≤ (x 0).val + q
  · rw [if_pos h, decide_eq_true (by omega)]; rfl
  · rw [if_neg h, decide_eq_false (by omega)]; rfl

theorem last_eq : ∃ m, lastExpert te = BitVec.ofNat 32 m ∧ m < 8 ∧ ∀ p < 4096, ex te p ≤ m := by
  have hs : select (cmpi .sgt (tot te) (bc 0#32)) lane (bc 0#32) = nat fun k => if 0 < load te k then k % 16 else 0 := by
    rw [tot_nat hte, lane_eq]
    funext x
    have hx : (x 0).val < 16 := (x 0).isLt
    rw [select_at]
    show (if BitVec.ofBool ((BitVec.ofNat 32 0).slt (BitVec.ofNat 32 (load te (x 0).val))) = 1#1 then BitVec.ofNat 32 (x 0).val else BitVec.ofNat 32 0) = BitVec.ofNat 32 (if 0 < load te (x 0).val then (x 0).val % 16 else 0)
    rw [slt_small (by decide) (by have := load_le te (x 0).val; omega), Nat.mod_eq_of_lt hx]
    by_cases h : 0 < load te (x 0).val
    · rw [decide_eq_true h, if_pos h]; rfl
    · rw [decide_eq_false h, if_neg h]; rfl
  have hb : ∀ k, (if 0 < load te k then k % 16 else 0) < 16 := fun k => by split <;> omega
  obtain ⟨m, e, hm, hle, k, hk, hkm⟩ := scan_max (f := fun k => 2 ^ 31 + if 0 < load te k then k % 16 else 0) (fun k => by have := hb k; omega) 15
  obtain ⟨m', rfl⟩ : ∃ m', m = 2 ^ 31 + m' := ⟨_, hkm⟩
  have hm' : m' = if 0 < load te k then k % 16 else 0 := by omega
  refine ⟨m', ?_, ?_, fun p hp => ?_⟩
  · rw [lastExpert, hs, flip_nat (fun k _ => by have := hb k; omega)]
    show IntOp.xori (scan .max (nat _) (ValueIdx.ix1 (n := 16) 15)) 2147483648#32 = _
    rw [scan_at]
    refine (congrArg (fun z => IntOp.xori z 2147483648#32) e).trans ?_
    have h := congrFun (flip_nat (f := fun _ => m') (fun k _ => by have := hb k; omega)) (ValueIdx.ix1 (n := 16) 0)
    have h' : BitVec.ofNat 32 (2 ^ 31 + m') = BitVec.ofNat 32 m' ^^^ 2147483648#32 := h.symm
    show BitVec.ofNat 32 (2 ^ 31 + m') ^^^ 2147483648#32 = _
    rw [h', BitVec.xor_assoc, BitVec.xor_self, BitVec.xor_zero]
  · rw [hm']; split
    · rename_i h
      by_contra hc
      rw [load_high (by omega)] at h
      omega
    · decide
  · have h := hle (ex te p) (by have := ex_lt hte p; omega)
    have h0 : 0 < load te (ex te p) := by
      rw [load, if_pos (ex_lt hte p)]
      have := upTo_mono te (ex te p) (show p + 1 ≤ 4096 from hp)
      rw [upTo_succ] at this; omega
    simp only [if_pos h0] at h
    have := ex_lt hte p
    omega

/-- A block's number in the table, at an expert before the last. -/
theorem experts_at (k : Fin 16) : ∃ m, m < 8 ∧ (∀ p < 4096, ex te p ≤ m) ∧
    expertsAt te 0#32 (ValueIdx.ix1 (n := 16) k) = BitVec.ofNat 32 (min (∑ e ∈ range 8, hit (start te (e + 1) ≤ k.val)) m) := by
  obtain ⟨m, e, hm, hp⟩ := last_eq hte
  refine ⟨m, hm, hp, ?_⟩
  have h := fun e he => past_nat hte 0 e (by decide) he
  have h0 := h 0 (by decide); have h1 := h 1 (by decide); have h2 := h 2 (by decide); have h3 := h 3 (by decide)
  have h4 := h 4 (by decide); have h5 := h 5 (by decide); have h6 := h 6 (by decide); have h7 := h 7 (by decide)
  rw [expertsAt, h0, h1, h2, h3, h4, h5, h6, h7, e, bc_eq 0]
  simp only [addi_nat]
  generalize hs : (∑ e ∈ range 8, hit (start te (e + 1) ≤ k.val)) = s
  have hs8 : s ≤ 8 := by
    rw [← hs]
    refine (Finset.sum_le_card_nsmul (range 8) _ 1 fun q _ => ?_).trans (by simp)
    rw [hit]; split <;> omega
  have hs' : 0 + hit (start te (0 + 1) ≤ k.val + 0) + hit (start te (1 + 1) ≤ k.val + 0) + hit (start te (2 + 1) ≤ k.val + 0) + hit (start te (3 + 1) ≤ k.val + 0) + hit (start te (4 + 1) ≤ k.val + 0)
      + hit (start te (5 + 1) ≤ k.val + 0) + hit (start te (6 + 1) ≤ k.val + 0) + hit (start te (7 + 1) ≤ k.val + 0) = s := by
    rw [← hs]
    simp only [Finset.sum_range_succ, Finset.sum_range_zero, Nat.add_zero]
  rw [show minsi (nat _) (bc (BitVec.ofNat 32 m)) (ValueIdx.ix1 (n := 16) k) = IntOp.minsi (nat _ (ValueIdx.ix1 (n := 16) k)) (BitVec.ofNat 32 m) from rfl, nat_at, hs']
  show (if (BitVec.ofNat 32 s).slt (BitVec.ofNat 32 m) then _ else _) = _
  rw [slt_small (by omega) (by omega)]
  by_cases hc : s < m
  · simp [hc, Nat.min_eq_left hc.le]
  · simp [hc, Nat.min_eq_right (not_lt.1 hc)]

theorem blocks_at (i : Fin 16) : blocks te (ValueIdx.ix1 (n := 32) ⟨i.val, by omega⟩) = expertsAt te 0#32 (ValueIdx.ix1 (n := 16) i) := by
  rw [blocks]
  exact (if_pos i.isLt).trans (congrArg (fun n => expertsAt te 0#32 (ValueIdx.ix1 (n := 16) n)) (Fin.ext (Nat.mod_eq_of_lt i.isLt)))

theorem blocks_last : blocks te (ValueIdx.ix1 (n := 32) 31) = BitVec.ofNat 32 (start te 8) := by
  rw [blocks]
  refine (if_neg (by decide : ¬(31 < 16))).trans ?_
  rw [select_at]
  exact (if_pos ((lane_at (by decide) _).2 rfl)).trans (used_eq hte)

theorem blocks_lt (i : Fin 16) : (blocks te (ValueIdx.ix1 (n := 32) ⟨i.val, by omega⟩)).toNat < 8 := by
  rw [blocks_at hte]
  obtain ⟨m, hm, -, e⟩ := experts_at hte i
  rw [e, toNat_small (by omega)]; omega

/-- The block of an entry's row has the entry's expert, -/
theorem blocks_row {p : ℕ} (hp : p < 4096) (i : Fin 16) (hi : i.val = row te p / 512) : (blocks te (ValueIdx.ix1 (n := 32) ⟨i.val, by omega⟩)).toNat = ex te p := by
  rw [blocks_at hte]
  obtain ⟨m, hm, hle, e⟩ := experts_at hte i
  have hb := row_block hte hp
  have h8 := ex_lt hte p
  have hs : (∑ e ∈ range 8, hit (start te (e + 1) ≤ i.val)) = ex te p := by
    have : ∀ e ∈ range 8, hit (start te (e + 1) ≤ i.val) = hit (e < ex te p) := by
      intro e _
      rcases Nat.lt_or_ge e (ex te p) with h | h
      · rw [hit, hit, if_pos h, if_pos]; have := start_mono (te := te) (show e + 1 ≤ ex te p from h); omega
      · rw [hit, hit, if_neg (show ¬e < ex te p by omega), if_neg]; have := start_mono (te := te) (show ex te p + 1 ≤ e + 1 by omega); omega
    rw [Finset.sum_congr rfl this]
    generalize ex te p = n at h8
    interval_cases n <;> decide
  rw [e, hs, Nat.min_eq_left (hle p hp), toNat_small (by omega)]

/-- and is one of those with entries. -/
theorem row_used {p : ℕ} (hp : p < 4096) : row te p / 512 < start te 8 := by
  have := (row_block hte hp).2
  have := start_mono (te := te) (show ex te p + 1 ≤ 8 from ex_lt hte p)
  omega

end

end Cert.Proof.Kernel.Route

end
-- ==== Proof.Kernel.Comb.Value.lean ====
/-
  The combine call as the launch sees it: the program's vocabulary, the arrays and scratch buffers by name, the blocks of 64 result rows that the 32 tasks own, and the value that the call
  computes.
-/
module

public import proofs.«01_k».proof.Proof.Kernel.Steps

@[expose] public section

noncomputable section

namespace Cert.Proof.Kernel.Comb

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arrays -/

/-- The expert outputs, the row each routed entry sits in, the weights and the result, as a task addresses them. -/
abbrev yV : Memref sig .scVector .hbm S8192x768 .f32 := Memref.whole main_v6_scv
abbrev dV : Memref sig .scVector .hbm S4096 .i32 := Memref.whole main_v1_1_scv
abbrev wV : Memref sig .scVector .hbm S4096 .f32 := Memref.whole main_v7_scv
abbrev oV : Memref sig .scVector .hbm S2048x768 .f32 := Memref.whole main_v8_scv
/-- A task's scratch: its 128 rows' numbers, its weights, the even and the odd numbers, the two blocks of rows. -/
abbrev aD : Memref sig .scVector .vmem S128 .i32 := Memref.whole cc2_scratch0
abbrev aW : Memref sig .scVector .vmem S144 .f32 := Memref.whole cc2_scratch1
abbrev aE : Memref sig .scVector .vmem S64 .i32 := Memref.whole cc2_scratch2
abbrev aO : Memref sig .scVector .vmem S64 .i32 := Memref.whole cc2_scratch3
abbrev aA : Memref sig .scVector .vmem S64x768 .f32 := Memref.whole cc2_scratch4
abbrev aB : Memref sig .scVector .vmem S64x768 .f32 := Memref.whole cc2_scratch5

/-! ## The value -/

/-- The two places that token `t` has among the routed entries. -/
abbrev pl0 (t : Fin 2048) : S4096.Idx := ValueIdx.ix1 (n := 4096) ⟨2 * t.val, by omega⟩
abbrev pl1 (t : Fin 2048) : S4096.Idx := ValueIdx.ix1 (n := 4096) ⟨2 * t.val + 1, by omega⟩

/-- Element `(row, c)` of the expert outputs, the row given as a word. -/
def rowAt (y : S8192x768.Idx → Elt F .f32) (w : BitVec 32) (c : Fin 768) : Elt F .f32 :=
  y (ix2 (n0 := 8192) (n1 := 768) ⟨w.toNat % 8192, Nat.mod_lt _ (by decide)⟩ c)

variable [FloatOps F]

/-- The combined row of token `t` at column `c`: its two experts' outputs, weighted and added. -/
def combAt (y : S8192x768.Idx → Elt F .f32) (d : S4096.Idx → BitVec 32) (w : S4096.Idx → Elt F .f32) (t : Fin 2048) (c : Fin 768) : Elt F .f32 :=
  FloatOps.addf (φ := .f32) (FloatOps.mulf (w (pl0 t)) (rowAt y (d (pl0 t)) c)) (FloatOps.mulf (w (pl1 t)) (rowAt y (d (pl1 t)) c))

/-- The whole result. -/
def comb (y : S8192x768.Idx → Elt F .f32) (d : S4096.Idx → BitVec 32) (w : S4096.Idx → Elt F .f32) : S2048x768.Idx → Elt F .f32 :=
  fun x => combAt y d w (x 0) (x 1)

end Cert.Proof.Kernel.Comb

end
-- ==== Proof.Kernel.Gemm.Body.lean ====
/-
  One grid point of the expert call: from the point's block of rows and its expert's weights the body leaves the expert's output of the rows in the output block; at a point past the last block
  with entries it leaves the output block as it was.
-/
module

public import proofs.«01_k».proof.Proof.Kernel.Base
public import proofs.«01_k».proof.Proof.Kernel.Steps
public import Idealize.ShloMosaic.Lib.VecWindow

@[expose] public section

noncomputable section

namespace Cert.Proof.Kernel.Gemm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 2) (Elt F) ℕ UU ℕ

/-! ## The value -/

/-- The hidden layer before the activation. -/
def hidden (x : Vec F S512x768 .f32) (w1 : Vec F S1x768x1536 .f32) (b1 : Vec F S1x1x1536 .f32) : FVec F S512x1536 .f32 :=
  addf (matmul dot_S512x768_S768x1536_S512x1536_1_0_0_1_n_n none (truncf .bf16 (shapeCast S512x768 x shapeCasts_S512x768_S512x768 : FVec F S512x768 .f32) bitsLt_bf16_f32)
      (truncf .bf16 (shapeCast S768x1536 w1 shapeCasts_S1x768x1536_S768x1536 : FVec F S768x1536 .f32) bitsLt_bf16_f32) (constant S512x1536 .f32 0x00000000#32))
    (broadcastTo S512x1536 (shapeCast S1x1536 b1 shapeCasts_S1x1x1536_S1x1536 : FVec F S1x1536 .f32) broadcasts_S1x1536_S512x1536)

/-- The activation. -/
def gelu (h : FVec F S512x1536 .f32) : FVec F S512x1536 .f32 :=
  mulf (mulf (broadcast S512x1536 (Scalar.ofBits .f32 0x3F000000#32)) h)
    (addf (broadcast S512x1536 (Scalar.ofBits .f32 0x3F800000#32)) (erf (mulf h (broadcast S512x1536 (Scalar.ofBits .f32 0x3F3504F3#32)))))

/-- An expert's output of a block of rows. -/
def expert (x : Vec F S512x768 .f32) (w1 : Vec F S1x768x1536 .f32) (w2 : Vec F S1x1536x768 .f32) (b1 : Vec F S1x1x1536 .f32) (b2 : Vec F S1x1x768 .f32) : Vec F S512x768 .f32 :=
  addf (matmul dot_S512x1536_S1536x768_S512x768_1_0_0_1_n_n none (truncf .bf16 (gelu (hidden x w1 b1)) bitsLt_bf16_f32)
      (truncf .bf16 (shapeCast S1536x768 w2 shapeCasts_S1x1536x768_S1536x768 : FVec F S1536x768 .f32) bitsLt_bf16_f32) (constant S512x768 .f32 0x00000000#32))
    (broadcastTo S512x768 (shapeCast S1x768 b2 shapeCasts_S1x1x768_S1x768 : FVec F S1x768 .f32) broadcasts_S1x768_S512x768)

/-! ## The steps -/

variable (c : Dev nD)

/-- A load of all of a memref. -/
theorem load_all {cs : CoreSpace} {s : Shape} {e : EltTy} {m : Memref sig .tc cs s e} {off : Fin s.rank → ℕ} {inb : ∀ a, off a + s.size a ≤ s.size a}
    {hl : m.view.LoadsAt (Rect.unit off s.size inb).toLoadRect} {X : s.Idx → Elt F e} {α : Type} {Q : α → sProp 𝕄} {k : (s.Idx → Elt F e) → Prog (TpuEff nD τ sig (Elt F) Λ₀ .tc) α} :
    (owns (c : Thread nD τ) m fullShare X : sProp 𝕄)
      ⊢ iprop((owns (c : Thread nD τ) m fullShare X -∗ wp frame (wpE (defs₀ (F := F)) 𝒱₀ (c : Thread nD τ) none) Set.univ (k X) Q)
        -∗ wp frame (wpE (defs₀ (F := F)) 𝒱₀ (c : Thread nD τ) none) Set.univ (.op (.load m (Rect.unit off s.size inb).toLoadRect hl) k) Q) := by
  unfold owns
  iintro ⟨%f, %hf, H⟩ Hk
  have hr : m.view.readAt (Elt F) (Rect.unit off s.size inb).toLoadRect f = X := (m.view.readAt_full f inb).trans hf
  iapply (wp_load 𝒱₀ (c : Thread nD τ) none Set.univ (m := m) (S := m.view.set) (View.setOn_subset_set _ _)) $$ H
  iintro H
  rw [hr]
  iapply Hk
  iexists f
  iframe H
  ipureintro; exact hf

/-- A store to all of a memref. -/
theorem store_all {cs : CoreSpace} {s : Shape} {e : EltTy} {m : Memref sig .tc cs s e} {off : Fin s.rank → ℕ} {inb : ∀ a, off a + s.size a ≤ s.size a} {w : s.Idx → Elt F e}
    {hx : (m.access (Rect.unit off s.size inb)).Stores Finset.univ} {hm : (Finset.univ : Finset (Rect.unit off s.size inb).shape.Idx) = Finset.univ ∨ ∀ a, (Rect.unit off s.size inb).stride a = 1}
    {Y : s.Idx → Elt F e} {α : Type} {Q : α → sProp 𝕄} {k : PUnit → Prog (TpuEff nD τ sig (Elt F) Λ₀ .tc) α} :
    (owns (c : Thread nD τ) m fullShare Y : sProp 𝕄)
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off s.size inb) w Finset.univ hx hm) k) Q) := by
  unfold owns
  iintro ⟨%f, %hf, H⟩ Hk
  have hr : m.view.read (Elt F) ((m.access (Rect.unit off s.size inb)).write (Elt F) f w Finset.univ) = w := m.view.read_writes_full f inb w []
  iapply (wp_store 𝒱₀ (c : Thread nD τ) none Set.univ (m := m) (r := Rect.unit off s.size inb) (w := w) (Mk := Finset.univ) (hx := hx) (hm := hm) (f := f) (S := m.view.set)
    ((View.setOn_subset_set _ _).trans (m.view.set_slice_subset _))) $$ H
  iintro H
  iapply Hk
  iexists _
  iframe H
  ipureintro; exact hr

/-- The load of the table's last word. -/
theorem load_last {V : S32.Idx → BitVec 32} {off : Fin 1 → ℕ} {inb : ∀ a, off a + S1.size a ≤ S32.size a} {hl} {α : Type} {Q : α → sProp 𝕄}
    {k : (S1.Idx → BitVec 32) → Prog (TpuEff nD τ sig (Elt F) Λ₀ .tc) α} (hoff : off = ![31]) :
    (((c : Thread nD τ).loc main_v3 ↦{fullShare} V : sProp 𝕄))
      ⊢ iprop((((c : Thread nD τ).loc main_v3 ↦{fullShare} V) -∗ wp frame (wpE (defs₀ (F := F)) 𝒱₀ (c : Thread nD τ) none) Set.univ (k fun _ => V (ValueIdx.ix1 (n := 32) 31)) Q)
        -∗ wp frame (wpE (defs₀ (F := F)) 𝒱₀ (c : Thread nD τ) none) Set.univ
          (.op (.load (Memref.whole main_v3 : Memref sig .tc .smem S32 .i32) (Rect.unit (s := S32) off S1.size inb).toLoadRect hl) k) Q) := by
  have hv : (Memref.whole main_v3 : Memref sig .tc .smem S32 .i32).view.readAt (Elt F) (Rect.unit (s := S32) off S1.size inb).toLoadRect V = fun _ => V (ValueIdx.ix1 (n := 32) 31) := by
    subst hoff
    funext y
    refine congrArg V (funext fun a => Fin.ext ?_)
    have h0 : (y 0).val < 1 := (y 0).isLt
    match a with
    | 0 => show 31 + 1 * (y 0).val = 31; omega
  rw [show (k fun _ => V (ValueIdx.ix1 (n := 32) 31)) = k _ from congrArg k hv.symm]
  exact wp_load 𝒱₀ (c : Thread nD τ) none Set.univ (m := (Memref.whole main_v3 : Memref sig .tc .smem S32 .i32)) (S := Finset.univ) (Finset.subset_univ _)

/-! ## A choice -/

theorem taken {P : Prop} {dec : Decidable P} (h : P) {α : Type} {Q : α → sProp 𝕄} {A : P → Prog (TpuEff nD τ sig (Elt F) Λ₀ .tc) α}
    {B : ¬P → Prog (TpuEff nD τ sig (Elt F) Λ₀ .tc) α} :
    wp frame (wpE (defs₀ (F := F)) 𝒱₀ (c : Thread nD τ) none) Set.univ (A h) Q ⊢ wp frame (wpE (defs₀ (F := F)) 𝒱₀ (c : Thread nD τ) none) Set.univ (dite P A B) Q :=
  Entails.of_eq (by rw [dif_pos h])

theorem skipped {P : Prop} {dec : Decidable P} (h : ¬P) {α : Type} {Q : α → sProp 𝕄} {A : P → Prog (TpuEff nD τ sig (Elt F) Λ₀ .tc) α}
    {B : ¬P → Prog (TpuEff nD τ sig (Elt F) Λ₀ .tc) α} :
    wp frame (wpE (defs₀ (F := F)) 𝒱₀ (c : Thread nD τ) none) Set.univ (B h) Q ⊢ wp frame (wpE (defs₀ (F := F)) 𝒱₀ (c : Thread nD τ) none) Set.univ (dite P A B) Q :=
  Entails.of_eq (by rw [dif_neg h])

/-! ## The body -/

set_option maxHeartbeats 2000000 in
/-- The body at a point. -/
theorem body_wp (i : grid1.Coords) (V : S32.Idx → BitVec 32) {arg2 : Memref sig .tc .vmem S512x768 .f32} {arg3 : Memref sig .tc .vmem S1x768x1536 .f32} {arg4 : Memref sig .tc .vmem S1x1536x768 .f32}
    {arg5 : Memref sig .tc .vmem S1x1x1536 .f32} {arg6 : Memref sig .tc .vmem S1x1x768 .f32} {arg7 : Memref sig .tc .vmem S512x768 .f32} {h2 h3 h4 h5 h6 h7}
    (X : S512x768.Idx → Elt F .f32) (W1 : S1x768x1536.Idx → Elt F .f32) (W2 : S1x1536x768.Idx → Elt F .f32) (B1 : S1x1x1536.Idx → Elt F .f32) (B2 : S1x1x768.Idx → Elt F .f32)
    (Y : S512x768.Idx → Elt F .f32) :
    iprop(((c : Thread nD τ).loc main_v3 ↦{fullShare} V) ∗ owns (c : Thread nD τ) arg2 fullShare X ∗ owns (c : Thread nD τ) arg3 fullShare W1 ∗ owns (c : Thread nD τ) arg4 fullShare W2
        ∗ owns (c : Thread nD τ) arg5 fullShare B1 ∗ owns (c : Thread nD τ) arg6 fullShare B2 ∗ owns (c : Thread nD τ) arg7 fullShare Y)
      ⊢ wp (M := 𝕄) frame (wpE (defs₀ (F := F)) 𝒱₀ (c : Thread nD τ) none) Set.univ
        (cc1__gemm_body i (Memref.whole main_v3) (Memref.isWhole_whole _) arg2 h2 arg3 h3 arg4 h4 arg5 h5 arg6 h6 arg7 h7) fun _ =>
        iprop(((c : Thread nD τ).loc main_v3 ↦{fullShare} V) ∗ owns (c : Thread nD τ) arg2 fullShare X ∗ owns (c : Thread nD τ) arg3 fullShare W1 ∗ owns (c : Thread nD τ) arg4 fullShare W2
          ∗ owns (c : Thread nD τ) arg5 fullShare B1 ∗ owns (c : Thread nD τ) arg6 fullShare B2
          ∗ ∃ Z, ⌜k1_cond1 i (V (ValueIdx.ix1 (n := 32) 31)) = 1#1 → Z = expert X W1 W2 B1 B2⌝ ∗ owns (c : Thread nD τ) arg7 fullShare Z) := by
  unfold cc1__gemm_body
  iintro ⟨Ht, H2, H3, H4, H5, H6, H7⟩
  iapply (load_last c ?hoff) $$ Ht; case hoff => rfl
  iintro Ht
  by_cases hc : k1_cond1 i (V (ValueIdx.ix1 (n := 32) 31)) = 1#1
  · iapply (taken c hc)
    iapply (load_all c) $$ H2; iintro H2
    iapply (load_all c) $$ H3; iintro H3
    iapply (load_all c) $$ H5; iintro H5
    iapply (load_all c) $$ H4; iintro H4
    iapply (load_all c) $$ H6; iintro H6
    iapply (load_all c) $$ H7; iintro H7
    iapply (store_all c) $$ H7; iintro H7
    iapply (le_wp_ret _ _ _ _ _)
    iframe Ht H2 H3 H4 H5 H6
    iexists _; iframe H7; ipureintro; intro _; rfl
  · iapply (skipped c hc)
    iapply (le_wp_ret _ _ _ _ _)
    iframe Ht H2 H3 H4 H5 H6
    iexists _; iframe H7; ipureintro; exact fun h => absurd h hc

end Cert.Proof.Kernel.Gemm

end
-- ==== Proof.Kernel.Gemm.Region.lean ====
/-
  The expert call as its launch runs it: from the rows, the weights and the table of experts it leaves, in every block of the output below the number of blocks with entries, the block's expert's
  output of the block's rows. Of the blocks past it nothing is said.
-/
module

public import proofs.«01_k».proof.Proof.Kernel.Gemm.Body
public import proofs.«01_k».proof.Proof.Gen.Kernel.Launch
public import Idealize.ShloMosaic.Lib.Pipeline.RegionArraysT
public import Idealize.ShloMosaic.Lib.Pipeline.DatRel
public import Idealize.ShloMosaic.Lib.Pipeline.ArrRel
public import Idealize.ShloMosaic.Lib.Pipeline.FrameBody

@[expose] public section

noncomputable section

namespace Cert.Proof.Kernel.Gemm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.Pipeline (Dat RDat)

variable {F : FTy → Type} [FloatOps F]

local notation "𝕄" => MT nD τ sig (HIx 2) (Elt F) ℕ UU ℕ

/-! ## The table -/

/-- The table of experts as the call prefetches it. -/
def tab (V : S32.Idx → BitVec 32) : pre1.Contents (Elt F) := fun | 0 => V | ⟨_ + 1, h⟩ => absurd h (Nat.not_lt.2 (Nat.le_add_left _ _))

/-- The expert of a grid point. -/
def of (V : S32.Idx → BitVec 32) (i : grid1.Coords) : ℕ := (V (ValueIdx.ix1 (n := 32) ⟨(i 0).val, Nat.lt_of_lt_of_le (i 0).isLt (by decide)⟩)).toNat

theorem tab_at (V : S32.Idx → BitVec 32) (i : grid1.Coords) :
    ((tab (F := F) V).at 0 (Rect.unit (s := S32) (k1_off1 i) S1.size (k1_off1_inb i)) numel1_S1 : BitVec 32).toNat = of V i := by
  show (V ((Rect.unit (s := S32) (k1_off1 i) S1.size (k1_off1_inb i)).point numel1_S1)).toNat = _
  unfold of
  refine congrArg (fun z => (V z).toNat) (funext fun a => Fin.ext ?_)
  match a with
  | 0 =>
    have h := (Shape.Idx.first (numel1_S1.symm ▸ Nat.one_pos : 0 < S1.numel) 0).isLt
    have e : k1_off1 i 0 = (i 0).val := congrFun (k1_off1_eq i) 0
    show k1_off1 i 0 + 1 * (Shape.Idx.first _ 0).val = (i 0).val
    rw [e, show (Shape.Idx.first (numel1_S1.symm ▸ Nat.one_pos : 0 < S1.numel) 0).val = 0 from Nat.lt_one_iff.mp h]
    rfl

theorem map_1 (V : S32.Idx → BitVec 32) (i : grid1.Coords) : cc1_transform_1 k1_off1_inb numel1_S1 (tab (F := F) V) i = ![of V i, 0, 0] :=
  congrArg (fun n => ![n, 0, 0]) (tab_at V i)
theorem map_2 (V : S32.Idx → BitVec 32) (i : grid1.Coords) : cc1_transform_2 k1_off1_inb numel1_S1 (tab (F := F) V) i = ![of V i, 0, 0] :=
  congrArg (fun n => ![n, 0, 0]) (tab_at V i)
theorem map_3 (V : S32.Idx → BitVec 32) (i : grid1.Coords) : cc1_transform_3 k1_off1_inb numel1_S1 (tab (F := F) V) i = ![of V i, 0, 0] :=
  congrArg (fun n => ![n, 0, 0]) (tab_at V i)
theorem map_4 (V : S32.Idx → BitVec 32) (i : grid1.Coords) : cc1_transform_4 k1_off1_inb numel1_S1 (tab (F := F) V) i = ![of V i, 0, 0] :=
  congrArg (fun n => ![n, 0, 0]) (tab_at V i)

/-- A table that names experts only is one the call takes. -/
theorem tab_ok {V : S32.Idx → BitVec 32} (h : ∀ i, of V i < 8) : ok1 (tab (F := F) V) := by
  have key : ∀ (n a b : ℕ), n < 8 → ∀ c : Fin 3, (![n, 0, 0] c + 1) * (![1, a, b] : Fin 3 → ℕ) c ≤ (![8, a, b] : Fin 3 → ℕ) c := by
    intro n a b hn c
    match c with
    | 0 => show (n + 1) * 1 ≤ 8; omega
    | 1 => show (0 + 1) * a ≤ a; omega
    | 2 => show (0 + 1) * b ≤ b; omega
  refine ⟨fun i => ⟨fun a => ?_, .inl rfl⟩, fun i => ⟨fun a => ?_, .inl rfl⟩, fun i => ⟨fun a => ?_, .inl rfl⟩, fun i => ⟨fun a => ?_, .inl rfl⟩⟩
  · rw [map_1]; exact key _ 768 1536 (h i) a
  · rw [map_2]; exact key _ 1536 768 (h i) a
  · rw [map_3]; exact key _ 1 1536 (h i) a
  · rw [map_4]; exact key _ 1 768 (h i) a

/-! ## The value -/

section Value

variable (V : S32.Idx → BitVec 32) (X : S8192x768.Idx → Elt F .f32) (W1 : S8x768x1536.Idx → Elt F .f32) (W2 : S8x1536x768.Idx → Elt F .f32)
  (B1 : S8x1x1536.Idx → Elt F .f32) (B2 : S8x1x768.Idx → Elt F .f32)

/-- The rows of a grid point. -/
def rowsOf (i : grid1.Coords) : S512x768.Idx → Elt F .f32 := fun z =>
  X (ValueIdx.ix2 (n0 := 8192) (n1 := 768) ⟨512 * (i 0).val + (z 0).val, by
    have h : (i 0).val < 16 := (i 0).isLt
    have h' : (z 0).val < 512 := (z 0).isLt
    omega⟩ (z 1))

/-- An expert's slab of an array. -/
def slab {a b : ℕ} (W : (⟨3, ![8, a, b]⟩ : Shape).Idx → Elt F .f32) (n : ℕ) (hn : n < 8) : (⟨3, ![1, a, b]⟩ : Shape).Idx → Elt F .f32 := fun z =>
  W (ValueIdx.ix3 (n0 := 8) (n1 := a) (n2 := b) ⟨n, hn⟩ (z 1) (z 2))

/-- What the body leaves in the output block of a point below the number of blocks with entries. -/
def block (h : ∀ i, of V i < 8) (i : grid1.Coords) : S512x768.Idx → Elt F .f32 :=
  expert (rowsOf X i) (slab W1 (of V i) (h i)) (slab W2 (of V i) (h i)) (slab B1 (of V i) (h i)) (slab B2 (of V i) (h i))

end Value

/-! ## The call's data -/

section Data

open Pipeline (pin)

variable {V : S32.Idx → BitVec 32} (hV : ∀ i, of V i < 8) (X : S8192x768.Idx → Elt F .f32) (W1 : S8x768x1536.Idx → Elt F .f32) (W2 : S8x1536x768.Idx → Elt F .f32)
  (B1 : S8x1x1536.Idx → Elt F .f32) (B2 : S8x1x768.Idx → Elt F .f32) (Y : S8192x768.Idx → Elt F .f32) (O : CellTallies nD τ sig (HIx 2)) (n : ℕ)

/-- The table, as admitted. -/
def adm : (p : Fin 1) → (pcfgs (F := F) p).Adm := fun _ => ⟨tab V, tab_ok hV⟩

/-- The call's configuration at the table. -/
abbrev cfg : Pipeline.Cfg sig Λ₀ := pin (pcfgs (F := F)) (adm hV) 0

/-- The arrays as the call finds them. -/
def arrs (c : Dev nD) : (w : Fin (cfg (F := F) hV).W) → Buf (Elt F) (((cfg (F := F) hV).win w).arr.view.loc (c.tc : Thread nD τ))
  | 0 => X | 1 => W1 | 2 => W2 | 3 => B1 | 4 => B2 | 5 => Y | ⟨_ + 6, h⟩ => absurd h (Nat.not_lt.2 (Nat.le_add_left _ _))

/-- What each staging buffer holds after the body, the output's apart. -/
def leaves : (w : Fin (cfg (F := F) hV).W) → Fin (cfg (F := F) hV).N → (((cfg (F := F) hV).win w).block.Idx → Elt F ((cfg (F := F) hV).win w).elt)
  | 0 => fun t => (((cfg (F := F) hV).win 0).blk t).view.read (Elt F) X
  | 1 => fun t => (((cfg (F := F) hV).win 1).blk t).view.read (Elt F) W1
  | 2 => fun t => (((cfg (F := F) hV).win 2).blk t).view.read (Elt F) W2
  | 3 => fun t => (((cfg (F := F) hV).win 3).blk t).view.read (Elt F) B1
  | 4 => fun t => (((cfg (F := F) hV).win 4).blk t).view.read (Elt F) B2
  | 5 => fun t => (((cfg (F := F) hV).win 5).blk t).view.read (Elt F) Y
  | ⟨_ + 6, h⟩ => absurd h (Nat.not_lt.2 (Nat.le_add_left _ _))

/-- The call's data. -/
def data (c : Dev nD) : Dat τ (Elt F) (HIx 2) ℕ UU ℕ (cfg (F := F) hV) c where
  A := arrs hV X W1 W2 B1 B2 Y c
  after := leaves hV X W1 W2 B1 B2 Y
  Φ _ := (c : Thread nD τ).loc main_v3 ↦{fullShare} V
  q _ := fullShare
  owed _ := O
  recorded _ := {p | (K (F := F)).lev (SparseCore.T c, p.1) p.2 ≤ n}

theorem slab_idx {a b m : ℕ} {f : Fin 3 → ℕ} (hf : f = ![m, 0, 0]) {hm : m < 8} (z : (⟨3, ![1, a, b]⟩ : Shape).Idx) (c : Fin 3) :
    f c * (⟨3, ![1, a, b]⟩ : Shape).size c + 1 * (z c).val = ((ValueIdx.ix3 (n0 := 8) (n1 := a) (n2 := b) ⟨m, hm⟩ (z 1) (z 2)) c).val := by
  subst hf
  match c with
  | 0 => have h : (z 0).val < 1 := (z 0).isLt; show m * 1 + 1 * (z 0).val = m; omega
  | 1 => show 0 * a + 1 * (z 1).val = (z 1).val; omega
  | 2 => show 0 * b + 1 * (z 2).val = (z 2).val; omega

theorem rows_map : ∀ i : grid1.Coords, cc1_transform_0 i = ![(i 0).val, 0] := by decide +kernel

theorem blk_0 (t : Fin (cfg (F := F) hV).N) : (((cfg (F := F) hV).win 0).blk t).view.read (Elt F) X = rowsOf X (grid1.coords t) := by
  refine funext fun (z : S512x768.Idx) => ?_
  refine congrArg X (funext fun (a : Fin 2) => Fin.ext ?_)
  have hm := rows_map (grid1.coords t)
  match a with
  | 0 =>
    show cc1_transform_0 (grid1.coords t) 0 * 512 + 1 * (z 0).val = 512 * (grid1.coords t 0).val + (z 0).val
    rw [hm]; show (grid1.coords t 0).val * 512 + 1 * (z 0).val = _; omega
  | 1 =>
    show cc1_transform_0 (grid1.coords t) 1 * 768 + 1 * (z 1).val = (z 1).val
    rw [hm]; show 0 * 768 + 1 * (z 1).val = _; omega

theorem blk_1 (t : Fin (cfg (F := F) hV).N) : (((cfg (F := F) hV).win 1).blk t).view.read (Elt F) W1 = slab W1 (of V (grid1.coords t)) (hV _) := by
  funext z
  refine congrArg W1 (funext fun (a : Fin 3) => Fin.ext ?_)
  exact slab_idx (map_1 V _) z a

theorem blk_2 (t : Fin (cfg (F := F) hV).N) : (((cfg (F := F) hV).win 2).blk t).view.read (Elt F) W2 = slab W2 (of V (grid1.coords t)) (hV _) := by
  funext z
  refine congrArg W2 (funext fun (a : Fin 3) => Fin.ext ?_)
  exact slab_idx (map_2 V _) z a

theorem blk_3 (t : Fin (cfg (F := F) hV).N) : (((cfg (F := F) hV).win 3).blk t).view.read (Elt F) B1 = slab B1 (of V (grid1.coords t)) (hV _) := by
  funext z
  refine congrArg B1 (funext fun (a : Fin 3) => Fin.ext ?_)
  exact slab_idx (map_3 V _) z a

theorem blk_4 (t : Fin (cfg (F := F) hV).N) : (((cfg (F := F) hV).win 4).blk t).view.read (Elt F) B2 = slab B2 (of V (grid1.coords t)) (hV _) := by
  funext z
  refine congrArg B2 (funext fun (a : Fin 3) => Fin.ext ?_)
  exact slab_idx (map_4 V _) z a

/-! ## The obligation -/

local notation "DAT" => data hV X W1 W2 B1 B2 Y O n

/-- Only of the output is anything left open. -/
def fgt : Fin (cfg (F := F) hV).W → Bool := fun w => w == 5

/-- What is said of the output's block. -/
def Rl : (w : Fin (cfg (F := F) hV).W) → (t : Fin (cfg (F := F) hV).N) → (((cfg (F := F) hV).win w).block.Idx → Elt F ((cfg (F := F) hV).win w).elt) → Prop
  | 5 => fun t Z => k1_cond1 (grid1.coords t) (V (ValueIdx.ix1 (n := 32) 31)) = 1#1 → (Z : S512x768.Idx → Elt F .f32) = block V X W1 W2 B1 B2 hV (grid1.coords t)
  | _ => fun _ _ => True

theorem before_0 (c : Dev nD) (t : Fin (cfg (F := F) hV).N) (d) : (DAT c).before 0 t d = rowsOf X (grid1.coords t) :=
  ((DAT c).before_in_eq_fetched 0 rfl (fun _ => rfl) (fun _ _ _ => rfl) (fun _ => rfl) t d).trans (blk_0 hV X t)
theorem before_1 (c : Dev nD) (t : Fin (cfg (F := F) hV).N) (d) : (DAT c).before 1 t d = slab W1 (of V (grid1.coords t)) (hV _) :=
  ((DAT c).before_in_eq_fetched 1 rfl (fun _ => rfl) (fun _ _ _ => rfl) (fun _ => rfl) t d).trans (blk_1 hV W1 t)
theorem before_2 (c : Dev nD) (t : Fin (cfg (F := F) hV).N) (d) : (DAT c).before 2 t d = slab W2 (of V (grid1.coords t)) (hV _) :=
  ((DAT c).before_in_eq_fetched 2 rfl (fun _ => rfl) (fun _ _ _ => rfl) (fun _ => rfl) t d).trans (blk_2 hV W2 t)
theorem before_3 (c : Dev nD) (t : Fin (cfg (F := F) hV).N) (d) : (DAT c).before 3 t d = slab B1 (of V (grid1.coords t)) (hV _) :=
  ((DAT c).before_in_eq_fetched 3 rfl (fun _ => rfl) (fun _ _ _ => rfl) (fun _ => rfl) t d).trans (blk_3 hV B1 t)
theorem before_4 (c : Dev nD) (t : Fin (cfg (F := F) hV).N) (d) : (DAT c).before 4 t d = slab B2 (of V (grid1.coords t)) (hV _) :=
  ((DAT c).before_in_eq_fetched 4 rfl (fun _ => rfl) (fun _ _ _ => rfl) (fun _ => rfl) t d).trans (blk_4 hV B2 t)

theorem body (c : Dev nD) : Pipeline.BodyObligationRel (DAT c) (defs₀ (F := F)) 𝒱₀ (none : HIx 2) Set.univ (fgt (F := F) hV) (Rl (F := F) hV X W1 W2 B1 B2) := by
  intro t
  rw [bigSep_W1, bigSep_W1]
  show iprop(_ ∗ _ ∗ (∃ d, owns (c : Thread nD τ) (((cfg (F := F) hV).win 0).stage ((cfg (F := F) hV).slots t 0)) fullShare ((DAT c).before 0 t d)) ∗ (∃ d, owns (c : Thread nD τ) (((cfg (F := F) hV).win 1).stage ((cfg (F := F) hV).slots t 1)) fullShare ((DAT c).before 1 t d)) ∗ (∃ d, owns (c : Thread nD τ) (((cfg (F := F) hV).win 2).stage ((cfg (F := F) hV).slots t 2)) fullShare ((DAT c).before 2 t d)) ∗ (∃ d, owns (c : Thread nD τ) (((cfg (F := F) hV).win 3).stage ((cfg (F := F) hV).slots t 3)) fullShare ((DAT c).before 3 t d)) ∗ (∃ d, owns (c : Thread nD τ) (((cfg (F := F) hV).win 4).stage ((cfg (F := F) hV).slots t 4)) fullShare ((DAT c).before 4 t d))
      ∗ (∃ Z, ⌜_⌝ ∗ owns (c : Thread nD τ) (((cfg (F := F) hV).win 5).stage ((cfg (F := F) hV).slots t 5)) fullShare Z))
    ⊢ wp _ _ _ _ fun _ => iprop(_ ∗ _ ∗ owns (c : Thread nD τ) (((cfg (F := F) hV).win 0).stage ((cfg (F := F) hV).slots t 0)) fullShare ((DAT c).after 0 t) ∗ owns (c : Thread nD τ) (((cfg (F := F) hV).win 1).stage ((cfg (F := F) hV).slots t 1)) fullShare ((DAT c).after 1 t) ∗ owns (c : Thread nD τ) (((cfg (F := F) hV).win 2).stage ((cfg (F := F) hV).slots t 2)) fullShare ((DAT c).after 2 t) ∗ owns (c : Thread nD τ) (((cfg (F := F) hV).win 3).stage ((cfg (F := F) hV).slots t 3)) fullShare ((DAT c).after 3 t) ∗ owns (c : Thread nD τ) (((cfg (F := F) hV).win 4).stage ((cfg (F := F) hV).slots t 4)) fullShare ((DAT c).after 4 t)
      ∗ (∃ Z, ⌜Rl (F := F) hV X W1 W2 B1 B2 5 t Z⌝ ∗ owns (c : Thread nD τ) (((cfg (F := F) hV).win 5).stage ((cfg (F := F) hV).slots t 5)) fullShare Z))
  iintro ⟨Ht, HO, ⟨%d0, H0⟩, ⟨%d1, H1⟩, ⟨%d2, H2⟩, ⟨%d3, H3⟩, ⟨%d4, H4⟩, ⟨%Z, -, H5⟩⟩
  iapply (wp_wand_r Idealize.ShloMosaic.frame (wpE (defs₀ (F := F)) 𝒱₀ (c : Thread nD τ) none) Set.univ)
  isplitl [Ht H0 H1 H2 H3 H4 H5]
  · iapply (body_wp c (h2 := hstage1_0 _) (h3 := hstage1_1 _) (h4 := hstage1_2 _) (h5 := hstage1_3 _) (h6 := hstage1_4 _) (h7 := hstage1_5 _) (grid1.coords t) V (rowsOf X (grid1.coords t)) (slab W1 (of V (grid1.coords t)) (hV _)) (slab W2 (of V (grid1.coords t)) (hV _))
      (slab B1 (of V (grid1.coords t)) (hV _)) (slab B2 (of V (grid1.coords t)) (hV _)) Z)
    isplitl [Ht]; · iapply (Entails.of_eq (show (DAT c).Φ t.castSucc = ((c : Thread nD τ).loc main_v3 ↦{fullShare} V : sProp 𝕄) from rfl)); iexact Ht
    isplitl [H0]; · iapply (Entails.of_eq (congrArg (owns (c : Thread nD τ) _ fullShare) (before_0 hV X W1 W2 B1 B2 Y O n c t d0))); iexact H0
    isplitl [H1]; · iapply (Entails.of_eq (congrArg (owns (c : Thread nD τ) _ fullShare) (before_1 hV X W1 W2 B1 B2 Y O n c t d1))); iexact H1
    isplitl [H2]; · iapply (Entails.of_eq (congrArg (owns (c : Thread nD τ) _ fullShare) (before_2 hV X W1 W2 B1 B2 Y O n c t d2))); iexact H2
    isplitl [H3]; · iapply (Entails.of_eq (congrArg (owns (c : Thread nD τ) _ fullShare) (before_3 hV X W1 W2 B1 B2 Y O n c t d3))); iexact H3
    isplitl [H4]; · iapply (Entails.of_eq (congrArg (owns (c : Thread nD τ) _ fullShare) (before_4 hV X W1 W2 B1 B2 Y O n c t d4))); iexact H4
    iexact H5
  iintro %u ⟨Ht, H0, H1, H2, H3, H4, %Z', %hZ, H5⟩
  isplitl [Ht]; · iapply (Entails.of_eq (show ((c : Thread nD τ).loc main_v3 ↦{fullShare} V : sProp 𝕄) = (DAT c).Φ t.succ from rfl)); iexact Ht
  isplitl [HO]; · iexact HO
  isplitl [H0]; · iapply (Entails.of_eq (congrArg (owns (c : Thread nD τ) _ fullShare) (blk_0 hV X t).symm)); iexact H0
  isplitl [H1]; · iapply (Entails.of_eq (congrArg (owns (c : Thread nD τ) _ fullShare) (blk_1 hV W1 t).symm)); iexact H1
  isplitl [H2]; · iapply (Entails.of_eq (congrArg (owns (c : Thread nD τ) _ fullShare) (blk_2 hV W2 t).symm)); iexact H2
  isplitl [H3]; · iapply (Entails.of_eq (congrArg (owns (c : Thread nD τ) _ fullShare) (blk_3 hV B1 t).symm)); iexact H3
  isplitl [H4]; · iapply (Entails.of_eq (congrArg (owns (c : Thread nD τ) _ fullShare) (blk_4 hV B2 t).symm)); iexact H4
  iexists Z'; isplitr
  · ipureintro; exact hZ
  iexact H5

/-! ## The region -/

/-- The call's arrays, the output at `G`. -/
abbrev heldAt (c : Dev nD) (G : S8192x768.Idx → Elt F .f32) : sProp 𝕄 :=
  iprop(((c : Thread nD τ).loc main_v1_0 ↦{fullShare} X) ∗ ((c : Thread nD τ).loc main_arg3 ↦{fullShare} W1) ∗ ((c : Thread nD τ).loc main_arg4 ↦{fullShare} W2)
    ∗ ((c : Thread nD τ).loc main_v4 ↦{fullShare} B1) ∗ ((c : Thread nD τ).loc main_v5 ↦{fullShare} B2) ∗ ((c : Thread nD τ).loc main_v6 ↦{fullShare} G))

/-- What the core owes. -/
abbrev owing (c : Dev nD) : sProp 𝕄 := iprop(∃ Wd, ⌜(K (F := F)).WBelow (SparseCore.T c) Wd n⌝ ∗ owes (c : Thread nD τ) O Wd)

/-- What the output holds at the end: in the blocks with entries the experts' outputs of the rows. -/
def Good (G : S8192x768.Idx → Elt F .f32) : Prop :=
  ∀ i : grid1.Coords, k1_cond1 i (V (ValueIdx.ix1 (n := 32) 31)) = 1#1 → rowsOf G i = block V X W1 W2 B1 B2 hV i

/-- The data as a family. -/
def rdats : (p : Fin 1) → (c : Dev nD) → RDat τ (Elt F) (HIx 2) ℕ UU ℕ (pin (pcfgs (F := F)) (adm hV) p) c :=
  fun | 0 => fun c => (DAT c).toRRel (fgt (F := F) hV) (Rl (F := F) hV X W1 W2 B1 B2)

theorem at_whole (c : Dev nD) (b : Ref sig .tc) (f : Buf (Elt F) ((c : Thread nD τ).loc b)) :
    ((c : Thread nD τ).loc b ↦[(View.whole b).set]{fullShare} f : sProp 𝕄) = ((c : Thread nD τ).loc b ↦{fullShare} f) := by rw [View.set_whole]

theorem arrays_eq (c : Dev nD) (G : S8192x768.Idx → Elt F .f32) :
    (DAT c).arrays (arrs hV X W1 W2 B1 B2 G c) = heldAt X W1 W2 B1 B2 c G := by
  unfold Dat.arrays
  rw [bigSep_W1]
  exact congrArg₂ BIBase.sep (at_whole c main_v1_0 X) (congrArg₂ BIBase.sep (at_whole c main_arg3 W1) (congrArg₂ BIBase.sep (at_whole c main_arg4 W2)
    (congrArg₂ BIBase.sep (at_whole c main_v4 B1) (congrArg₂ BIBase.sep (at_whole c main_v5 B2) (at_whole c main_v6 G)))))

theorem tables_eq (c : Dev nD) : (Pipeline.prefHeld (pcfgs (F := F) 0).pre c (fun _ => fullShare) (adm (F := F) hV 0).1 : sProp 𝕄) = ((c : Thread nD τ).loc main_v3 ↦{fullShare} V) := by
  unfold Pipeline.prefHeld
  exact bigSep_univ_of_subsingleton (0 : Fin 1)

theorem out_map : ∀ i : grid1.Coords, cc1_transform_5 i = ![(i 0).val, 0] := by decide +kernel

theorem out_index : ∀ t t' : Fin grid1.N, cc1_transform_5 (grid1.coords t) = cc1_transform_5 (grid1.coords t') → t = t' := by decide +kernel

theorem coords_at : ∀ i : grid1.Coords, ∃ t : Fin grid1.N, grid1.coords t = i := by decide +kernel

theorem blk_5 (G : S8192x768.Idx → Elt F .f32) (t : Fin (cfg (F := F) hV).N) : (((cfg (F := F) hV).win 5).blk t).view.read (Elt F) G = rowsOf G (grid1.coords t) := by
  refine funext fun (z : S512x768.Idx) => ?_
  refine congrArg G (funext fun (a : Fin 2) => Fin.ext ?_)
  have hm := out_map (grid1.coords t)
  match a with
  | 0 =>
    show cc1_transform_5 (grid1.coords t) 0 * 512 + 1 * (z 0).val = 512 * (grid1.coords t 0).val + (z 0).val
    rw [hm]; show (grid1.coords t 0).val * 512 + 1 * (z 0).val = _; omega
  | 1 =>
    show cc1_transform_5 (grid1.coords t) 1 * 768 + 1 * (z 1).val = (z 1).val
    rw [hm]; show 0 * 768 + 1 * (z 1).val = _; omega

theorem flush_5 (t : Fin (cfg (F := F) hV).N) : ((cfg (F := F) hV).win 5).flush t = true := by
  rw [Pipeline.Window.flush_out _ rfl]
  by_cases h : t.val + 1 = grid1.N
  · exact .inl h
  · refine .inr ⟨Nat.lt_of_le_of_ne t.isLt h, fun e => ?_⟩
    have := congrArg Fin.val (out_index _ _ e)
    exact absurd this (Nat.succ_ne_self _)

/-- The output, from its blocks. -/
theorem good_of (c : Dev nD) [∀ e, Nonempty (Elt F e)] (G : S8192x768.Idx → Elt F .f32)
    (hG : ((DAT c).toRRel (fgt (F := F) hV) (Rl (F := F) hV X W1 W2 B1 B2)).ArrAt 5 (cfg (F := F) hV).N G) : Good hV X W1 W2 B1 B2 G := by
  obtain ⟨Z, hZ, hA⟩ := hG.exists_exact
  let after : (w : Fin (cfg (F := F) hV).W) → Fin (cfg (F := F) hV).N → (((cfg (F := F) hV).win w).block.Idx → Elt F ((cfg (F := F) hV).win w).elt) :=
    fun | 5 => Z | w => leaves hV X W1 W2 B1 B2 Y w
  intro i hi
  obtain ⟨t, rfl⟩ := coords_at i
  have e : G = _ := hA after fun _ _ _ => rfl
  have hd := Dat.read_blk_arrAt_eq_flushed (((DAT c).toRRel (fgt (F := F) hV) (Rl (F := F) hV X W1 W2 B1 B2)).withAfter after) 5
    (fun t t' _ _ h => ((cfg (F := F) hV).win 5).disjoint_blk fun e => h (out_index _ _ e)) (cfg (F := F) hV).N t t.isLt (flush_5 hV t)
  rw [← e] at hd
  have hz := (DAT c).toRRel_leaves (w := 5) rfl (hZ t t.isLt (flush_5 hV t)) hi
  exact (blk_5 hV G t).symm.trans (hd.trans hz)

/-- An array that the call only reads is as it was. -/
theorem keep {g : Pipeline.Cfg sig Λ₀} {c : Dev nD} (rd : RDat τ (Elt F) (HIx 2) ℕ UU ℕ g c) (m : ℕ) (w : Fin g.W) (hw : (g.win w).isOut = false) :
    iprop(∃ G, ⌜rd.ArrAt w m G⌝ ∗ (g.win w).arr.view.loc (c.tc : Thread nD τ) ↦[(g.win w).arr.view.set]{rd.share w} G)
      ⊢ ((g.win w).arr.view.loc (c.tc : Thread nD τ) ↦[(g.win w).arr.view.set]{rd.share w} rd.A w : sProp 𝕄) := by
  iintro ⟨%G, %h, H⟩
  rw [rd.ArrAt_in w hw] at h
  subst h
  iexact H

/-- The arrays at the end. -/
theorem arrays_out (c : Dev nD) [∀ e, Nonempty (Elt F e)] :
    ((DAT c).toRRel (fgt (F := F) hV) (Rl (F := F) hV X W1 W2 B1 B2)).arraysAt (cfg (F := F) hV).N
      ⊢ iprop(∃ G, ⌜Good hV X W1 W2 B1 B2 G⌝ ∗ heldAt X W1 W2 B1 B2 c G) := by
  unfold RDat.arraysAt
  rw [bigSep_W1]
  iintro ⟨H0, H1, H2, H3, H4, ⟨%G, %hG, H5⟩⟩
  ihave H0 := (keep _ _ 0 rfl) $$ H0
  ihave H1 := (keep _ _ 1 rfl) $$ H1
  ihave H2 := (keep _ _ 2 rfl) $$ H2
  ihave H3 := (keep _ _ 3 rfl) $$ H3
  ihave H4 := (keep _ _ 4 rfl) $$ H4
  iexists G
  isplitr; · ipureintro; exact good_of hV X W1 W2 B1 B2 Y O n c G hG
  iapply (Entails.of_eq (arrays_eq hV X W1 W2 B1 B2 Y O n c G))
  unfold Dat.arrays
  rw [bigSep_W1]
  isplitl [H0]; · iexact H0
  isplitl [H1]; · iexact H1
  isplitl [H2]; · iexact H2
  isplitl [H3]; · iexact H3
  isplitl [H4]; · iexact H4
  iexact H5

variable (hO : ∀ g, O g none = 0)

/-- The call's region. -/
def region [∀ e, Nonempty (Elt F e)] : RDat.RegionSeg (pcfgs (F := F)) (adm hV) (rdats hV X W1 W2 B1 B2 Y O n) (none : HIx 2) (defs₀ (F := F)) 𝒱₀ (K (F := F)).L (K (F := F)).lev 0 where
  win := (launch1 (F := F)).to₀.win
  block_pos := (launch1 (F := F)).to₀.block_pos
  stage_whole := (launch1 (F := F)).to₀.stage_whole
  K := PEmpty
  osem k := k.elim
  ho := .none _
  hbody c := (body hV X W1 W2 B1 B2 Y O n c).toRRel
  hwaits c := RDat.cellsWaits_intro (pin (pcfgs (F := F)) (adm hV)) (rdats hV X W1 W2 B1 B2 Y O n) (none : HIx 2) 0 c fun w s t =>
    (K (F := F)).mayWait_none _ hO
  pre c := iprop(((c : Thread nD τ).loc main_v3 ↦{fullShare} V) ∗ heldAt X W1 W2 B1 B2 c Y ∗ owing (F := F) O n c)
  post c := iprop(((c : Thread nD τ).loc main_v3 ↦{fullShare} V) ∗ (∃ G, ⌜Good hV X W1 W2 B1 B2 G⌝ ∗ heldAt X W1 W2 B1 B2 c G) ∗ owing (F := F) O n c)
  X c := iprop(emp)
  Y c := iprop((c : Thread nD τ).loc main_v3 ↦{fullShare} V)
  Z c := iprop(emp)
  hentry c := by
    show _ ⊢ |={Set.univ}=> iprop((DAT c).arrays (arrs hV X W1 W2 B1 B2 Y c) ∗ Pipeline.prefHeld (pcfgs (F := F) 0).pre c (fun _ => fullShare) (adm (F := F) hV 0).1
        ∗ (DAT c).owesAt none 0 ∗ _ ∗ _)
    rw [arrays_eq, tables_eq]
    iintro ⟨⟨Ht, Ha, %Wd, %hW, HO⟩, -, -⟩
    imodintro
    iframe Ht Ha
    isplitl [HO]
    · iexists Wd; isplitr
      · ipureintro; exact fun p hp => .inl (hW p hp)
      iexact HO
    isplitr <;> iempintro
  hin c := by
    show iprop(emp ∗ Pipeline.prefHeld (pcfgs (F := F) 0).pre c (fun _ => fullShare) (adm (F := F) hV 0).1 ∗ _) ⊢ ((c : Thread nD τ).loc main_v3 ↦{fullShare} V)
    rw [tables_eq]
    iintro ⟨-, Ht, -⟩
    iexact Ht
  hout c := by
    refine (show (DAT c).Φ (Fin.last (cfg (F := F) hV).N) ⊢ _ from ?_)
    rw [show (DAT c).Φ (Fin.last (cfg (F := F) hV).N) = ((c : Thread nD τ).loc main_v3 ↦{fullShare} V : sProp 𝕄) from rfl]
    iintro Ht
    isplitl [Ht]; · iexact Ht
    isplitr
    · rw [Pipeline.ownSems0_none]; iempintro
    · iapply (Entails.of_eq (scopedRest1_eq c).symm); iempintro
  hexit c := by
    refine (show iprop(((DAT c).toRRel (fgt (F := F) hV) (Rl (F := F) hV X W1 W2 B1 B2)).arraysAt (cfg (F := F) hV).N ∗ (DAT c).owesAt none (Fin.last (cfg (F := F) hV).N)
      ∗ ((c : Thread nD τ).loc main_v3 ↦{fullShare} V) ∗ emp) ⊢ _ from ?_)
    iintro ⟨Ha, ⟨%Wd, %hW, HO⟩, Ht, -⟩
    imodintro
    isplitl [Ht]; · iexact Ht
    isplitl [Ha]; · iapply (arrays_out hV X W1 W2 B1 B2 Y O n c); iexact Ha
    iexists Wd; isplitr
    · ipureintro
      intro p hp
      rcases hW hp with h | ⟨w, s, rfl⟩
      · exact h
      · exact Nat.zero_le _
    iexact HO

end Data

end Cert.Proof.Kernel.Gemm

end
-- ==== Proof.Kernel.Total.lean ====
/-
  What the whole program computes: the placed rows, the experts' outputs of them, and the result, as functions of the arguments.
-/
module

public import proofs.«01_k».proof.Proof.Kernel.Route.Count
public import proofs.«01_k».proof.Proof.Kernel.Comb.Value
public import proofs.«01_k».proof.Proof.Kernel.Gemm.Region

@[expose] public section

noncomputable section

namespace Cert.Proof.Kernel

open Cert.Kernel Cert.Kernel.Gen

open Idealize.ShloMosaic
open Idealize.ShloMosaic.ValueIdx (ix2)
open Route (row row_inj row_lt dest blocks ex)
open Gemm (rowsOf slab expert)

variable {F : FTy → Type}

/-- An entry's own place: the row that it gets, if the row is an entry's. -/
def Taken (te : S4096.Idx → BitVec 32) (r : ℕ) : Prop := ∃ p, p < 4096 ∧ row te p = r

open Classical in
/-- The rows once placed: each entry's row holds its token's, the others what they held. -/
def placed (te : S4096.Idx → BitVec 32) (x : S2048x768.Idx → Elt F .f32) (f : S8192x768.Idx → Elt F .f32) : S8192x768.Idx → Elt F .f32 := fun z =>
  if h : Taken te (z 0).val then x (ix2 (n0 := 2048) (n1 := 768) ⟨h.choose / 2, by have := h.choose_spec.1; omega⟩ (z 1)) else f z

theorem placed_row {te : S4096.Idx → BitVec 32} (hte : ∀ x, (te x).toNat < 8) (x : S2048x768.Idx → Elt F .f32) (f : S8192x768.Idx → Elt F .f32)
    {p : ℕ} (hp : p < 4096) (z : S8192x768.Idx) (hz : (z 0).val = row te p) :
    placed te x f z = x (ix2 (n0 := 2048) (n1 := 768) ⟨p / 2, by omega⟩ (z 1)) := by
  have h : Taken te (z 0).val := ⟨p, hp, hz.symm⟩
  rw [placed, dif_pos h]
  have e : h.choose = p := row_inj hte h.choose_spec.1 hp (h.choose_spec.2.trans hz)
  congr 2
  exact Fin.ext (congrArg (· / 2) e)

variable [FloatOps F]

/-- The grid point of a block. -/
def pt (i : Fin 16) : grid1.Coords := fun | 0 => i | ⟨_ + 1, h⟩ => absurd h (Nat.not_lt.2 (Nat.le_add_left _ _))

/-- The expert's output of every row, the rows taken in blocks, the experts by the table. -/
def outputs (V : S32.Idx → BitVec 32) (X : S8192x768.Idx → Elt F .f32) (W1 : S8x768x1536.Idx → Elt F .f32) (W2 : S8x1536x768.Idx → Elt F .f32)
    (B1 : S8x1x1536.Idx → Elt F .f32) (B2 : S8x1x768.Idx → Elt F .f32) : S8192x768.Idx → Elt F .f32 := fun z =>
  let i : Fin 16 := ⟨(z 0).val / 512, by have h : (z 0).val < 8192 := (z 0).isLt; omega⟩
  let e := Gemm.of V (pt i) % 8
  have he : e < 8 := Nat.mod_lt _ (by decide)
  expert (rowsOf X (pt i)) (slab W1 e he) (slab W2 e he) (slab B1 e he) (slab B2 e he) (ix2 (n0 := 512) (n1 := 768) ⟨(z 0).val % 512, Nat.mod_lt _ (by decide)⟩ (z 1))

/-- The arguments and the array of rows as the launch finds it. -/
structure Args (F : FTy → Type) where
  hidden : S2048x768.Idx → Elt F .f32
  gates : S2048x2.Idx → Elt F .f32
  experts : S2048x2.Idx → BitVec 32
  w1 : S8x768x1536.Idx → Elt F .f32
  w2 : S8x1536x768.Idx → Elt F .f32
  b1 : S8x1536.Idx → Elt F .f32
  b2 : S8x768.Idx → Elt F .f32
  rows : S8192x768.Idx → Elt F .f32

namespace Args

variable (A : Args F)

/-- The entries' experts, one after another, -/
def te : S4096.Idx → BitVec 32 := shapeCast S4096 A.experts shapeCasts_S2048x2_S4096
/-- and their weights; -/
def ew : S4096.Idx → Elt F .f32 := shapeCast S4096 A.gates shapeCasts_S2048x2_S4096
/-- the biases with a unit axis. -/
def c1 : S8x1x1536.Idx → Elt F .f32 := shapeCast S8x1x1536 A.b1 shapeCasts_S8x1536_S8x1x1536
def c2 : S8x1x768.Idx → Elt F .f32 := shapeCast S8x1x768 A.b2 shapeCasts_S8x768_S8x1x768
/-- The rows placed. -/
def xs : S8192x768.Idx → Elt F .f32 := placed A.te A.hidden A.rows
/-- The experts' outputs. -/
def ys : S8192x768.Idx → Elt F .f32 := outputs (blocks A.te) A.xs A.w1 A.w2 A.c1 A.c2
/-- The result. -/
def out : S2048x768.Idx → Elt F .f32 := Comb.comb A.ys (dest A.te) A.ew

/-- The experts are experts. -/
def Ok : Prop := ∀ x, (A.experts x).toNat < 8

theorem te_lt {A : Args F} (h : A.Ok) (x : S4096.Idx) : (A.te x).toNat < 8 := h _

/-- An array that holds the experts' outputs in the entries' rows. -/
def Agrees (G : S8192x768.Idx → Elt F .f32) : Prop := ∀ p < 4096, ∀ z : S8192x768.Idx, (z 0).val = row A.te p → G z = A.ys z

theorem comb_agrees {A : Args F} (h : A.Ok) {G : S8192x768.Idx → Elt F .f32} (hG : A.Agrees G) : Comb.comb G (dest A.te) A.ew = A.out := by
  have key : ∀ (x : S4096.Idx) (c : Fin 768), Comb.rowAt G (dest A.te x) c = Comb.rowAt A.ys (dest A.te x) c := fun x c => by
    refine hG (x 0).val (x 0).isLt _ ?_
    show (dest A.te x).toNat % 8192 = _
    have hr := row_lt (te_lt h) (show (x 0).val < 4096 from (x 0).isLt)
    rw [Route.dest_toNat (te_lt h)]; omega
  funext x
  exact congrArg₂ (FloatOps.addf (φ := .f32)) (congrArg _ (key _ _)) (congrArg _ (key _ _))

/-- The table names experts. -/
theorem of_lt {A : Args F} (h : A.Ok) (i : grid1.Coords) : Gemm.of (blocks A.te) i < 8 :=
  Route.blocks_lt (te_lt h) (i 0)

theorem pt_eq (i : grid1.Coords) : pt (i 0) = i := by
  funext (a : Fin 1)
  match a with
  | 0 => rfl

/-- What the TensorCore call leaves agrees. -/
theorem agrees_of_good {A : Args F} (h : A.Ok) {G : S8192x768.Idx → Elt F .f32}
    (hG : Gemm.Good (V := blocks A.te) (of_lt h) A.xs A.w1 A.w2 A.c1 A.c2 G) : A.Agrees G := by
  intro p hp z hz
  have hb := Route.row_used (te_lt h) hp
  have h15 := Route.start_last (te_lt h)
  have hr := row_lt (te_lt h) hp
  let i : Fin 16 := ⟨(z 0).val / 512, by omega⟩
  have hc : k1_cond1 (pt i) (blocks A.te (ValueIdx.ix1 (n := 32) 31)) = 1#1 := by
    rw [Route.blocks_last (te_lt h)]
    have e : (BitVec.ofNat 32 i.val).slt (BitVec.ofNat 32 (Route.start A.te 8)) = true := by
      rw [Route.slt_small (by omega) (by omega)]
      exact decide_eq_true (by show (z 0).val / 512 < _; omega)
    show Scalar.cmpi .ne (Scalar.extui (BitVec.ofBool ((BitVec.ofNat 32 i.val).slt (BitVec.ofNat 32 (Route.start A.te 8))))) 0#32 = 1#1
    rw [e]; decide
  have g := congrFun (hG (pt i) hc) (ix2 (n0 := 512) (n1 := 768) ⟨(z 0).val % 512, Nat.mod_lt _ (by decide)⟩ (z 1))
  have ez : G z = rowsOf G (pt i) (ix2 (n0 := 512) (n1 := 768) ⟨(z 0).val % 512, Nat.mod_lt _ (by decide)⟩ (z 1)) := by
    refine congrArg G (funext fun (a : Fin 2) => ?_)
    match a with
    | 0 => exact Fin.ext (show (z 0).val = 512 * ((z 0).val / 512) + (z 0).val % 512 by omega)
    | 1 => rfl
  rw [ez, g]
  unfold ys outputs Gemm.block
  have em : Gemm.of (blocks A.te) (pt i) = Gemm.of (blocks A.te) (pt i) % 8 := (Nat.mod_eq_of_lt (of_lt h _)).symm
  have key : ∀ (n m : ℕ) (hn : n < 8) (hm : m < 8), n = m →
      expert (rowsOf A.xs (pt i)) (slab A.w1 n hn) (slab A.w2 n hn) (slab A.c1 n hn) (slab A.c2 n hn) = expert (rowsOf A.xs (pt i)) (slab A.w1 m hm) (slab A.w2 m hm) (slab A.c1 m hm) (slab A.c2 m hm) := by
    intro n m hn hm e; subst e; rfl
  exact congrFun (key _ _ _ _ em) _

end Args

end Cert.Proof.Kernel

end
-- ==== Proof.Kernel.Route.Start.lean ====
/-
  The first part of a routing task: it copies in all expert numbers, starts the copy of its tokens' rows and counts the experts' entries, those before its own and all of them.
-/
module

public import proofs.«01_k».proof.Proof.Kernel.Route.Lists

@[expose] public section

noncomputable section

namespace Cert.Proof.Kernel.Route

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx Pay tileRest ownBufs ownSems0 ownCells ownRefs mem_ownCells mem_ownRefs mem_ownRefs_of_owner)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

/-- What the first part hands on: the counts before the task's entries and of all entries, the first expert's already summed over the lanes. -/
def counted (te : S4096.Idx → BitVec 32) : Σ' (v1 : BitVec 32) (v2 : IVec S16 32) (v14_1 : IVec S16 32) (v14_2 : IVec S16 32) (v14_3 : IVec S16 32) (v14_4 : IVec S16 32) (v14_5 : IVec S16 32) (v14_6 : IVec S16 32) (v14_7 : IVec S16 32) (v22_0 : IVec S16 32) (v22_1 : IVec S16 32) (v22_2 : IVec S16 32) (v22_3 : IVec S16 32) (v22_4 : IVec S16 32) (v22_5 : IVec S16 32) (v22_6 : IVec S16 32) (v22_7 : IVec S16 32) (v24 : IVec S16 32) (v33 : IVec S16 32), BitVec 32 :=
  ⟨Scalar.addi (Scalar.muli (BitVec.ofNat 32 (L 1).val) 2#32) (BitVec.ofNat 32 (L 0).val), lane, cnt te 1#32 (8 * wid L), cnt te 2#32 (8 * wid L), cnt te 3#32 (8 * wid L), cnt te 4#32 (8 * wid L),
    cnt te 5#32 (8 * wid L), cnt te 6#32 (8 * wid L), cnt te 7#32 (8 * wid L), cnt te 0#32 256, cnt te 1#32 256, cnt te 2#32 256, cnt te 3#32 256, cnt te 4#32 256, cnt te 5#32 256,
    cnt te 6#32 256, cnt te 7#32 256, bc 0#32, addi (bc 0#32) (only 0#32 (bc (total (cnt te 0#32 (8 * wid L))))), 0#32⟩

set_option maxHeartbeats 8000000 in
theorem start_wp {O : CellTallies nD τ sig (HIx 2)} {W : Waits sig (HIx 2)} {q : PosShare TreeShare} (te : S4096.Idx → BitVec 32) (x : S2048x768.Idx → Elt F .f32)
    (j0 : S4096.Idx → BitVec 32) (j4 : S64x768.Idx → Elt F .f32) :
    iprop(MayWaits (thr d L) (default : HIx 2) O ∗ Owe (thr d L) O W ∗ ((teV).view.loc (thr d L) ↦{q} te) ∗ ((xV).view.loc (thr d L) ↦{q} x)
        ∗ ((aT).view.loc (thr d L) ↦{fullShare} j0) ∗ ((aX).view.loc (thr d L) ↦{fullShare} j4)
        ∗ semVal (thr d L, .dma cc0_scoped0.sem) 0 ∗ semVal (thr d L, .dma cc0_scratch6.sem) 0)
      ⊢ wp (M := 𝕄) frame (wpE (defs₀ (F := F)) 𝒱₀ (thr d L) none) Set.univ (k0_part5 L teV (Memref.isWhole_whole _) xV (Memref.isWhole_whole _) xsV (Memref.isWhole_whole _) dV (Memref.isWhole_whole _) beV (Memref.isWhole_whole _) aT (Memref.isWhole_whole _)
      aD (Memref.isWhole_whole _) aE (Memref.isWhole_whole _) aO (Memref.isWhole_whole _) aX (Memref.isWhole_whole _) aB (Memref.isWhole_whole _)
      cc0_scratch6 cc0_scratch7 cc0_scoped0 cc0_scoped1 cc0_scoped2)
        fun r => iprop(⌜r = counted L te⌝ ∗ Owe (thr d L) O W ∗ ((teV).view.loc (thr d L) ↦{q} te) ∗ ((aT).view.loc (thr d L) ↦{fullShare} te)
          ∗ semVal (thr d L, .dma cc0_scoped0.sem) 0
          ∗ Flight countersEmb (thr d L) (.dma cc0_scratch6.sem) (default : HIx 2) (aX).view.dmaCredit
            iprop(((aX).view.loc (thr d L) ↦{fullShare} xBlk L x) ∗ ((xV).view.loc (thr d L) ↦{q} x))) := by
  have hw := wid_lt L
  unfold k0_part5
  iintro ⟨#Hm, HO, Ht, Hx, H0, H4, S0, S1⟩
  iapply (fetchT d L) $$ [Ht H0 S0]; (on_goal 1 => iframe Ht H0 S0)
  iintro Hf
  iapply (wait_copy (thr d L)) $$ [Hf HO]; (on_goal 1 => iframe Hf HO; iexact Hm)
  iintro ⟨⟨H0, Ht⟩, S0, HO⟩
  iapply (fetchX d L) $$ [Hx H4 S1]; (on_goal 1 => iframe Hx H4 S1)
  iintro HX
  iapply (count_loop d L (te := te) 0 (8 * wid L) ?hb ?hoff ?hi ?hn) $$ H0
  case hb => rfl
  case hoff => exact fun t => (k0_off2_eq L t).trans (congrArg (fun n => ![16 * n]) (Nat.zero_add _).symm)
  case hi => rfl
  case hn => rw [Nat.zero_add]; exact trips1 L
  iintro H0
  iapply (no_loop d L (Nat.le_zero.mp (k0_t2_abs L).2.1))
  iapply (count_loop d L (te := te) (8 * wid L) 256 ?hb ?hoff ?hi ?hn) $$ H0
  case hb => rfl
  case hoff => exact fun t => (k0_off4_eq L t).trans (congrArg (fun n => ![n]) (by unfold wid; omega))
  case hi => rfl
  case hn => have := trips3 L; omega
  iintro H0
  iapply (no_loop d L (Nat.le_zero.mp (k0_t4_abs L).2.1))
  iapply (le_wp_ret _ _ _ _ _)
  iframe HO Ht H0 S0 HX
  ipureintro
  rfl

/-- The first part, before whatever follows it. -/
theorem start_step {O : CellTallies nD τ sig (HIx 2)} {W : Waits sig (HIx 2)} {q : PosShare TreeShare} (te : S4096.Idx → BitVec 32) (x : S2048x768.Idx → Elt F .f32)
    (j0 : S4096.Idx → BitVec 32) (j4 : S64x768.Idx → Elt F .f32) {α : Type} {Q : α → sProp 𝕄} {k : _ → Prog (TpuEff nD τ sig (Elt F) Λ₀ (thr d L).2) α} :
    iprop(MayWaits (thr d L) (default : HIx 2) O ∗ Owe (thr d L) O W ∗ ((teV).view.loc (thr d L) ↦{q} te) ∗ ((xV).view.loc (thr d L) ↦{q} x)
        ∗ ((aT).view.loc (thr d L) ↦{fullShare} j0) ∗ ((aX).view.loc (thr d L) ↦{fullShare} j4)
        ∗ semVal (thr d L, .dma cc0_scoped0.sem) 0 ∗ semVal (thr d L, .dma cc0_scratch6.sem) 0)
      ⊢ iprop((iprop(Owe (thr d L) O W ∗ ((teV).view.loc (thr d L) ↦{q} te) ∗ ((aT).view.loc (thr d L) ↦{fullShare} te)
          ∗ semVal (thr d L, .dma cc0_scoped0.sem) 0
          ∗ Flight countersEmb (thr d L) (.dma cc0_scratch6.sem) (default : HIx 2) (aX).view.dmaCredit
            iprop(((aX).view.loc (thr d L) ↦{fullShare} xBlk L x) ∗ ((xV).view.loc (thr d L) ↦{q} x)))
          -∗ wp (M := 𝕄) frame (wpE (defs₀ (F := F)) 𝒱₀ (thr d L) none) Set.univ (k (counted L te)) Q)
        -∗ wp (M := 𝕄) frame (wpE (defs₀ (F := F)) 𝒱₀ (thr d L) none) Set.univ (k0_part5 L teV (Memref.isWhole_whole _) xV (Memref.isWhole_whole _) xsV (Memref.isWhole_whole _) dV (Memref.isWhole_whole _) beV (Memref.isWhole_whole _) aT (Memref.isWhole_whole _)
      aD (Memref.isWhole_whole _) aE (Memref.isWhole_whole _) aO (Memref.isWhole_whole _) aX (Memref.isWhole_whole _) aB (Memref.isWhole_whole _)
      cc0_scratch6 cc0_scratch7 cc0_scoped0 cc0_scoped1 cc0_scoped2 >>= k) Q) := by
  rw [wp_bind]
  iintro H Hk
  iapply (wp_wand_r frame (wpE (defs₀ (F := F)) 𝒱₀ (thr d L) none) Set.univ)
  isplitl [H]
  · iapply (start_wp d L te x j0 j4) $$ H
  iintro %r ⟨%hr, H⟩
  subst hr
  iapply Hk $$ H

end Cert.Proof.Kernel.Route

end
-- ==== Proof.Kernel.Route.Tile.lean ====
/-
  One routing task from its start to its end: it takes read shares of the expert numbers and of the tokens' rows, the rows of the array of placed rows that it owns, its block of the entries'
  rows — and, for the first task, the blocks' experts — and brings them back filled.
-/
module

public import proofs.«01_k».proof.Proof.Kernel.Route.Start

@[expose] public section

noncomputable section

namespace Cert.Proof.Kernel.Route

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx Pay tileRest ownBufs ownSems0 ownCells ownRefs mem_ownCells mem_ownRefs mem_ownRefs_of_owner)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

/-! ## A subcore's own semaphores and buffers -/

/-- The task's five semaphores. -/
def semOf : Fin 5 → DmaSem sig
  | 0 => cc0_scoped0.sem
  | 1 => cc0_scratch6.sem
  | 2 => cc0_scoped1.sem
  | 3 => cc0_scratch7.sem
  | 4 => cc0_scoped2.sem

/-- The task's six buffers. -/
def bufOf : Fin 6 → Ref sig .scVector
  | 0 => cc0_scratch0
  | 1 => cc0_scratch1
  | 2 => cc0_scratch2
  | 3 => cc0_scratch3
  | 4 => cc0_scratch4
  | 5 => cc0_scratch5

theorem semOf_inj : Function.Injective semOf := by decide
theorem bufOf_inj : Function.Injective bufOf := by decide

def cells : Fin 5 ↪ GSem nD τ sig := ⟨fun i => (thr d L, .dma (semOf i)), fun i j h => semOf_inj (by injection h with _ h; injection h)⟩
def refs : Fin 6 ↪ DevRef τ sig := ⟨fun i => (Proc.scVector (cV L) (jV L)).devRef (bufOf i), fun _ _ h => bufOf_inj (Proc.devRef_injective _ h)⟩

theorem cells_sub : Finset.univ.map (cells d L) ⊆ ownCells (thr d L) := by
  intro g hg
  obtain ⟨i, -, rfl⟩ := Finset.mem_map.mp hg
  have h : ∀ i, (SemLoc.dma (semOf i) : SemLoc sig).isScoped .scVector = true := by decide
  exact mem_ownCells.mpr ⟨rfl, h i⟩

theorem refs_sub : Finset.univ.map (refs L) ⊆ ownRefs (τ := τ) (sig := sig) (Proc.scVector (cV L) (jV L)) := by
  intro b hb
  obtain ⟨i, -, rfl⟩ := Finset.mem_map.mp hb
  clear hb
  refine mem_ownRefs_of_owner ?_
  fin_cases i <;> rfl

/-- The task's semaphores at zero. -/
abbrev sems : sProp 𝕄 := iprop(semVal (thr d L, .dma cc0_scoped0.sem) 0 ∗ semVal (thr d L, .dma cc0_scratch6.sem) 0 ∗ semVal (thr d L, .dma cc0_scoped1.sem) 0
  ∗ semVal (thr d L, .dma cc0_scratch7.sem) 0 ∗ semVal (thr d L, .dma cc0_scoped2.sem) 0)
/-- The task's buffers at some contents. -/
abbrev bufs : sProp 𝕄 := iprop((∃ f, (aT).view.loc (thr d L) ↦{fullShare} f) ∗ (∃ f, (aD).view.loc (thr d L) ↦{fullShare} f) ∗ (∃ f, (aE).view.loc (thr d L) ↦{fullShare} f)
  ∗ (∃ f, (aO).view.loc (thr d L) ↦{fullShare} f) ∗ (∃ f, (aX).view.loc (thr d L) ↦{fullShare} f) ∗ (∃ f, (aB).view.loc (thr d L) ↦{fullShare} f))

/-- The semaphores at zero: the task's five and the rest. -/
theorem sems_split : (ownSems0 (thr d L) : sProp 𝕄) = iprop(sems d L ∗ bigSep (ownCells (thr d L) \ Finset.univ.map (cells d L)) fun g => semVal g 0) := by
  unfold SparseCore.Cfg.ownSems0
  rw [bigSep_sdiff_split (cells_sub d L), bigSep_map, bigSep_univ_eq_bigSepL [0, 1, 2, 3, 4] (by decide) (by decide)]
  rfl

/-- The buffers at some contents: the task's six and the rest. -/
theorem bufs_split : (ownBufs (thr d L) : sProp 𝕄)
    = iprop(bufs d L ∗ bigSep (ownRefs (τ := τ) (Proc.scVector (cV L) (jV L)) \ Finset.univ.map (refs L)) fun b => iprop(∃ f, ((d, b) : Loc nD τ sig) ↦{fullShare} f)) := by
  unfold SparseCore.Cfg.ownBufs
  refine (bigSep_sdiff_split (refs_sub L)).trans ?_
  rw [bigSep_map, bigSep_univ_eq_bigSepL [0, 1, 2, 3, 4, 5] (by decide) (by decide)]
  rfl

/-! ## The task -/

/-- The kernel's function on one vector subcore. -/
abbrev task : Prog (TpuEff nD τ sig (Elt F) Λ₀ (thr d L).2) PUnit :=
  cc0__routing_body L teV (Memref.isWhole_whole _) xV (Memref.isWhole_whole _) xsV (Memref.isWhole_whole _) dV (Memref.isWhole_whole _) beV (Memref.isWhole_whole _) aT (Memref.isWhole_whole _)
    aD (Memref.isWhole_whole _) aE (Memref.isWhole_whole _) aO (Memref.isWhole_whole _) aX (Memref.isWhole_whole _) aB (Memref.isWhole_whole _)
    cc0_scratch6 cc0_scratch7 cc0_scoped0 cc0_scoped1 cc0_scoped2

/-- The blocks' experts, which the first task alone holds and fills. -/
def first (f : S32.Idx → BitVec 32) : sProp 𝕄 := if wid L = 0 then iprop((beV).view.loc (thr d L) ↦{fullShare} f) else iprop(emp)

set_option maxHeartbeats 8000000 in
/-- The task's program from its buffers and semaphores. -/
theorem task_wp {O : CellTallies nD τ sig (HIx 2)} {W : Waits sig (HIx 2)} {q : PosShare TreeShare} (te : S4096.Idx → BitVec 32) (x : S2048x768.Idx → Elt F .f32)
    (f : S8192x768.Idx → Elt F .f32) (fd : S4096.Idx → BitVec 32) (fb : S32.Idx → BitVec 32) (mine : Finset S8192x768.Idx)
    (hlt : ∀ n < 128, (own te (wid L) n).toNat < 8192) (hinj : ∀ n m, n < 128 → m < 128 → (own te (wid L) n).toNat = (own te (wid L) m).toNat → n = m)
    (hown : ∀ n < 128, ∀ z : S8192x768.Idx, (z 0).val = (own te (wid L) n).toNat → z ∈ mine)
    (j0 : S4096.Idx → BitVec 32) (j1 : S128.Idx → BitVec 32) (j2 j3 : S64.Idx → BitVec 32) (j4 : S64x768.Idx → Elt F .f32) (j5 : S32.Idx → BitVec 32) :
    iprop(MayWaits (thr d L) (default : HIx 2) O ∗ Owe (thr d L) O W
        ∗ (((teV).view.loc (thr d L) ↦{q} te) ∗ ((xV).view.loc (thr d L) ↦{q} x) ∗ ((xsV).view.loc (thr d L) ↦[mine]{fullShare} f)
          ∗ ((dV).view.loc (thr d L) ↦[(dSl L).view.set]{fullShare} fd) ∗ first d L fb)
        ∗ (((aT).view.loc (thr d L) ↦{fullShare} j0) ∗ ((aD).view.loc (thr d L) ↦{fullShare} j1) ∗ ((aE).view.loc (thr d L) ↦{fullShare} j2)
          ∗ ((aO).view.loc (thr d L) ↦{fullShare} j3) ∗ ((aX).view.loc (thr d L) ↦{fullShare} j4) ∗ ((aB).view.loc (thr d L) ↦{fullShare} j5))
        ∗ sems d L)
      ⊢ wp (M := 𝕄) frame (wpE (defs₀ (F := F)) 𝒱₀ (thr d L) none) Set.univ (task d L) fun _ => iprop(Owe (thr d L) O W
        ∗ (((teV).view.loc (thr d L) ↦{q} te) ∗ ((xV).view.loc (thr d L) ↦{q} x)
          ∗ (∃ f', ⌜Placed (own te (wid L)) (xBlk L x) f' 6 6⌝ ∗ ((xsV).view.loc (thr d L) ↦[mine]{fullShare} f'))
          ∗ ((dV).view.loc (thr d L) ↦[(dSl L).view.set]{fullShare} dest te) ∗ first d L (blocks te))
        ∗ bufs d L ∗ sems d L) := by
  have hw := wid_lt L
  have z1 := fill_zero (n := 128) (own te (wid L)) j1
  have z2 := fill_zero (n := 64) (pick te (wid L) 0) j2
  have z3 := fill_zero (n := 64) (pick te (wid L) 1) j3
  have f1 : fill (n := 128) (own te (wid L)) j1 (7 + 1) = ownList te (wid L) := fill_all _ _ (by decide)
  have f2 : fill (n := 64) (pick te (wid L) 0) j2 (3 + 1) = pickList te (wid L) 0 := fill_all _ _ (by decide)
  have f3 : fill (n := 64) (pick te (wid L) 1) j3 (3 + 1) = pickList te (wid L) 1 := fill_all _ _ (by decide)
  have z5 := fill_zero (n := 32) (blockAt te) j5
  have f5 : fill (n := 32) (blockAt te) j5 (1 + 1) = blocks te := (fill_all _ _ (by decide)).trans (blockAt_eq te)
  have l0 : ∀ z, (pickList te (wid L) 0 z).toNat < 8192 := fun z => hlt _ (by have : (z 0).val < 64 := (z 0).isLt; omega)
  have l1 : ∀ z, (pickList te (wid L) 1 z).toNat < 8192 := fun z => hlt _ (by have : (z 0).val < 64 := (z 0).isLt; omega)
  have i0 : Function.Injective fun z => (pickList te (wid L) 0 z).toNat := list_injective _ hinj (by decide) rfl
  have i1 : Function.Injective fun z => (pickList te (wid L) 1 z).toNat := list_injective _ hinj (by decide) rfl
  have o0 : ∀ (k : Fin 64) (z : S8192x768.Idx), (z 0).val = (pickList te (wid L) 0 (ValueIdx.ix1 (n := 64) k)).toNat → z ∈ mine := fun k z h => hown (2 * k.val + 0) (by omega) z h
  have o1 : ∀ (k : Fin 64) (z : S8192x768.Idx), (z 0).val = (pickList te (wid L) 1 (ValueIdx.ix1 (n := 64) k)).toNat → z ∈ mine := fun k z h => hown (2 * k.val + 1) (by omega) z h
  unfold task cc0__routing_body
  iintro ⟨#Hm, HO, ⟨Ht, Hx, Hs, Hd, Hb⟩, ⟨H0, H1, H2, H3, H4, H5⟩, ⟨S0, S1, S2, S3, S4⟩⟩
  iapply (start_step d L te x j0 j4) $$ [HO Ht Hx H0 H4 S0 S1]; (on_goal 1 => iframe HO Ht Hx H0 H4 S0 S1; iexact Hm)
  iintro ⟨HO, Ht, H0, S0, HX⟩
  rw [← z1]
  iapply (load_as (thr d L) (read_grp te (n := 8 * wid L + 0) ?hoff)) $$ H0; case hoff => exact (k0_off6_eq L 0).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 0) ?hoff ?hP) $$ H1; case hoff => rfl
  case hP => rw [sixteen_own]; rfl
  iintro H1
  iapply (load_as (thr d L) (read_grp te (n := 8 * wid L + 1) ?hoff)) $$ H0; case hoff => exact (k0_off6_eq L 1).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 1) ?hoff ?hP) $$ H1; case hoff => rfl
  case hP => rw [sixteen_own]; rfl
  iintro H1
  iapply (load_as (thr d L) (read_grp te (n := 8 * wid L + 2) ?hoff)) $$ H0; case hoff => exact (k0_off6_eq L 2).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 2) ?hoff ?hP) $$ H1; case hoff => rfl
  case hP => rw [sixteen_own]; rfl
  iintro H1
  iapply (load_as (thr d L) (read_grp te (n := 8 * wid L + 3) ?hoff)) $$ H0; case hoff => exact (k0_off6_eq L 3).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 3) ?hoff ?hP) $$ H1; case hoff => rfl
  case hP => rw [sixteen_own]; rfl
  iintro H1
  iapply (load_as (thr d L) (read_grp te (n := 8 * wid L + 4) ?hoff)) $$ H0; case hoff => exact (k0_off6_eq L 4).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 4) ?hoff ?hP) $$ H1; case hoff => rfl
  case hP => rw [sixteen_own]; rfl
  iintro H1
  iapply (load_as (thr d L) (read_grp te (n := 8 * wid L + 5) ?hoff)) $$ H0; case hoff => exact (k0_off6_eq L 5).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 5) ?hoff ?hP) $$ H1; case hoff => rfl
  case hP => rw [sixteen_own]; rfl
  iintro H1
  iapply (load_as (thr d L) (read_grp te (n := 8 * wid L + 6) ?hoff)) $$ H0; case hoff => exact (k0_off6_eq L 6).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 6) ?hoff ?hP) $$ H1; case hoff => rfl
  case hP => rw [sixteen_own]; rfl
  iintro H1
  iapply (load_as (thr d L) (read_grp te (n := 8 * wid L + 7) ?hoff)) $$ H0; case hoff => exact (k0_off6_eq L 7).trans (congrArg (fun n => ![n]) (by unfold wid; omega))
  iintro H0
  iapply (wp_load 𝒱₀ (thr d L) none Set.univ (m := aD) (S := Finset.univ) (Finset.subset_univ _)) $$ H1; iintro H1
  iapply (store_aD d L (own te (wid L)) j1 (k := 7) ?hoff ?hP) $$ H1; case hoff => rfl
  case hP => rw [sixteen_own]; rfl
  iintro H1
  rw [f1]
  iapply (putD d L (te := te) (f := fd)) $$ [H1 Hd S2]; (on_goal 1 => iframe H1 Hd S2)
  iintro Hf
  iapply (wait_copy (thr d L)) $$ [Hf HO]; (on_goal 1 => iframe Hf HO; iexact Hm)
  iintro ⟨⟨Hd, H1⟩, S2, HO⟩
  rw [← z2, ← z3]
  iapply (assume_step (thr d L) ?h); case h => exact chk_of 0 0 (by decide) (by decide) (by decide +kernel)
  iapply (loadD d L) $$ H1; iintro H1
  iapply (wp_load 𝒱₀ (thr d L) none Set.univ (m := aE) (S := Finset.univ) (Finset.subset_univ _)) $$ H2; iintro H2
  iapply (store_aE d L (pick te (wid L) 0) j2 (k := 0) ?hoff ?hP) $$ H2; case hoff => rfl
  case hP => exact lanes_eq (by decide +kernel)
  iintro H2
  iapply (assume_step (thr d L) ?h); case h => exact chk_of 0 1 (by decide) (by decide) (by decide +kernel)
  iapply (loadD d L) $$ H1; iintro H1
  iapply (wp_load 𝒱₀ (thr d L) none Set.univ (m := aO) (S := Finset.univ) (Finset.subset_univ _)) $$ H3; iintro H3
  iapply (store_aO d L (pick te (wid L) 1) j3 (k := 0) ?hoff ?hP) $$ H3; case hoff => rfl
  case hP => exact lanes_eq (by decide +kernel)
  iintro H3
  iapply (assume_step (thr d L) ?h); case h => exact chk_of 1 0 (by decide) (by decide) (by decide +kernel)
  iapply (loadD d L) $$ H1; iintro H1
  iapply (wp_load 𝒱₀ (thr d L) none Set.univ (m := aE) (S := Finset.univ) (Finset.subset_univ _)) $$ H2; iintro H2
  iapply (store_aE d L (pick te (wid L) 0) j2 (k := 1) ?hoff ?hP) $$ H2; case hoff => rfl
  case hP => exact lanes_eq (by decide +kernel)
  iintro H2
  iapply (assume_step (thr d L) ?h); case h => exact chk_of 1 1 (by decide) (by decide) (by decide +kernel)
  iapply (loadD d L) $$ H1; iintro H1
  iapply (wp_load 𝒱₀ (thr d L) none Set.univ (m := aO) (S := Finset.univ) (Finset.subset_univ _)) $$ H3; iintro H3
  iapply (store_aO d L (pick te (wid L) 1) j3 (k := 1) ?hoff ?hP) $$ H3; case hoff => rfl
  case hP => exact lanes_eq (by decide +kernel)
  iintro H3
  iapply (assume_step (thr d L) ?h); case h => exact chk_of 2 0 (by decide) (by decide) (by decide +kernel)
  iapply (loadD d L) $$ H1; iintro H1
  iapply (wp_load 𝒱₀ (thr d L) none Set.univ (m := aE) (S := Finset.univ) (Finset.subset_univ _)) $$ H2; iintro H2
  iapply (store_aE d L (pick te (wid L) 0) j2 (k := 2) ?hoff ?hP) $$ H2; case hoff => rfl
  case hP => exact lanes_eq (by decide +kernel)
  iintro H2
  iapply (assume_step (thr d L) ?h); case h => exact chk_of 2 1 (by decide) (by decide) (by decide +kernel)
  iapply (loadD d L) $$ H1; iintro H1
  iapply (wp_load 𝒱₀ (thr d L) none Set.univ (m := aO) (S := Finset.univ) (Finset.subset_univ _)) $$ H3; iintro H3
  iapply (store_aO d L (pick te (wid L) 1) j3 (k := 2) ?hoff ?hP) $$ H3; case hoff => rfl
  case hP => exact lanes_eq (by decide +kernel)
  iintro H3
  iapply (assume_step (thr d L) ?h); case h => exact chk_of 3 0 (by decide) (by decide) (by decide +kernel)
  iapply (loadD d L) $$ H1; iintro H1
  iapply (wp_load 𝒱₀ (thr d L) none Set.univ (m := aE) (S := Finset.univ) (Finset.subset_univ _)) $$ H2; iintro H2
  iapply (store_aE d L (pick te (wid L) 0) j2 (k := 3) ?hoff ?hP) $$ H2; case hoff => rfl
  case hP => exact lanes_eq (by decide +kernel)
  iintro H2
  iapply (assume_step (thr d L) ?h); case h => exact chk_of 3 1 (by decide) (by decide) (by decide +kernel)
  iapply (loadD d L) $$ H1; iintro H1
  iapply (wp_load 𝒱₀ (thr d L) none Set.univ (m := aO) (S := Finset.univ) (Finset.subset_univ _)) $$ H3; iintro H3
  iapply (store_aO d L (pick te (wid L) 1) j3 (k := 3) ?hoff ?hP) $$ H3; case hoff => rfl
  case hP => exact lanes_eq (by decide +kernel)
  iintro H3
  rw [f2, f3]
  iapply (wait_copy (thr d L)) $$ [HX HO]; (on_goal 1 => iframe HX HO; iexact Hm)
  iintro ⟨⟨H4, Hx⟩, S1, HO⟩
  have p00 : Placed (own te (wid L)) (xBlk L x) f 0 0 := fun _ _ => ⟨fun _ h => absurd h (Nat.not_lt_zero _), fun _ h => absurd h (Nat.not_lt_zero _)⟩
  ihave ⟨%f00, %p00, Hs⟩ : iprop(∃ f', ⌜Placed (own te (wid L)) (xBlk L x) f' 0 0⌝ ∗ ((xsV).view.loc (thr d L) ↦[mine]{fullShare} f')) $$ [Hs]
  · iexists f; iframe Hs; ipureintro; exact p00
  iapply (scatter_op d L (aL := aE) (hp := rfl) (hn := rfl) (he := rfl) (hsp := .inl rfl) (hr := by decide) ((aE).view.loc (thr d L) ↦{fullShare} pickList te (wid L) 0) (E := pickList te (wid L) 0) (own := mine) (c := 0)
    (Placed (own te (wid L)) (xBlk L x) · 1 0) rfl rfl (pickList te (wid L) 0) (.of_eq (by rfl)) rfl l0 i0 o0 (fun _ _ => placed_even d L _ _ _ _ _ hinj rfl p00)) $$ [H4 Hs H2 S3]
  on_goal 1 => iframe H4 Hs H2 S3
  iintro Hf
  iapply (wait_copy (thr d L)) $$ [Hf HO]; (on_goal 1 => iframe Hf HO; iexact Hm)
  iintro ⟨⟨H4, ⟨%f10, %p10, Hs⟩, H2⟩, S3, HO⟩
  iapply (scatter_op d L (aL := aO) (hp := rfl) (hn := rfl) (he := rfl) (hsp := .inl rfl) (hr := by decide) ((aO).view.loc (thr d L) ↦{fullShare} pickList te (wid L) 1) (E := pickList te (wid L) 1) (own := mine) (c := 0)
    (Placed (own te (wid L)) (xBlk L x) · 1 1) rfl rfl (pickList te (wid L) 1) (.of_eq (by rfl)) rfl l1 i1 o1 (fun _ _ => placed_odd d L _ _ _ _ _ hinj rfl p10)) $$ [H4 Hs H3 S3]
  on_goal 1 => iframe H4 Hs H3 S3
  iintro Hf
  iapply (wait_copy (thr d L)) $$ [Hf HO]; (on_goal 1 => iframe Hf HO; iexact Hm)
  iintro ⟨⟨H4, ⟨%f11, %p11, Hs⟩, H3⟩, S3, HO⟩
  iapply (scatter_op d L (aL := aE) (hp := rfl) (hn := rfl) (he := rfl) (hsp := .inl rfl) (hr := by decide) ((aE).view.loc (thr d L) ↦{fullShare} pickList te (wid L) 0) (E := pickList te (wid L) 0) (own := mine) (c := 1)
    (Placed (own te (wid L)) (xBlk L x) · 2 1) rfl rfl (pickList te (wid L) 0) (.of_eq (by rfl)) rfl l0 i0 o0 (fun _ _ => placed_even d L _ _ _ _ _ hinj rfl p11)) $$ [H4 Hs H2 S3]
  on_goal 1 => iframe H4 Hs H2 S3
  iintro Hf
  iapply (wait_copy (thr d L)) $$ [Hf HO]; (on_goal 1 => iframe Hf HO; iexact Hm)
  iintro ⟨⟨H4, ⟨%f21, %p21, Hs⟩, H2⟩, S3, HO⟩
  iapply (scatter_op d L (aL := aO) (hp := rfl) (hn := rfl) (he := rfl) (hsp := .inl rfl) (hr := by decide) ((aO).view.loc (thr d L) ↦{fullShare} pickList te (wid L) 1) (E := pickList te (wid L) 1) (own := mine) (c := 1)
    (Placed (own te (wid L)) (xBlk L x) · 2 2) rfl rfl (pickList te (wid L) 1) (.of_eq (by rfl)) rfl l1 i1 o1 (fun _ _ => placed_odd d L _ _ _ _ _ hinj rfl p21)) $$ [H4 Hs H3 S3]
  on_goal 1 => iframe H4 Hs H3 S3
  iintro Hf
  iapply (wait_copy (thr d L)) $$ [Hf HO]; (on_goal 1 => iframe Hf HO; iexact Hm)
  iintro ⟨⟨H4, ⟨%f22, %p22, Hs⟩, H3⟩, S3, HO⟩
  iapply (scatter_op d L (aL := aE) (hp := rfl) (hn := rfl) (he := rfl) (hsp := .inl rfl) (hr := by decide) ((aE).view.loc (thr d L) ↦{fullShare} pickList te (wid L) 0) (E := pickList te (wid L) 0) (own := mine) (c := 2)
    (Placed (own te (wid L)) (xBlk L x) · 3 2) rfl rfl (pickList te (wid L) 0) (.of_eq (by rfl)) rfl l0 i0 o0 (fun _ _ => placed_even d L _ _ _ _ _ hinj rfl p22)) $$ [H4 Hs H2 S3]
  on_goal 1 => iframe H4 Hs H2 S3
  iintro Hf
  iapply (wait_copy (thr d L)) $$ [Hf HO]; (on_goal 1 => iframe Hf HO; iexact Hm)
  iintro ⟨⟨H4, ⟨%f32, %p32, Hs⟩, H2⟩, S3, HO⟩
  iapply (scatter_op d L (aL := aO) (hp := rfl) (hn := rfl) (he := rfl) (hsp := .inl rfl) (hr := by decide) ((aO).view.loc (thr d L) ↦{fullShare} pickList te (wid L) 1) (E := pickList te (wid L) 1) (own := mine) (c := 2)
    (Placed (own te (wid L)) (xBlk L x) · 3 3) rfl rfl (pickList te (wid L) 1) (.of_eq (by rfl)) rfl l1 i1 o1 (fun _ _ => placed_odd d L _ _ _ _ _ hinj rfl p32)) $$ [H4 Hs H3 S3]
  on_goal 1 => iframe H4 Hs H3 S3
  iintro Hf
  iapply (wait_copy (thr d L)) $$ [Hf HO]; (on_goal 1 => iframe Hf HO; iexact Hm)
  iintro ⟨⟨H4, ⟨%f33, %p33, Hs⟩, H3⟩, S3, HO⟩
  iapply (scatter_op d L (aL := aE) (hp := rfl) (hn := rfl) (he := rfl) (hsp := .inl rfl) (hr := by decide) ((aE).view.loc (thr d L) ↦{fullShare} pickList te (wid L) 0) (E := pickList te (wid L) 0) (own := mine) (c := 3)
    (Placed (own te (wid L)) (xBlk L x) · 4 3) rfl rfl (pickList te (wid L) 0) (.of_eq (by rfl)) rfl l0 i0 o0 (fun _ _ => placed_even d L _ _ _ _ _ hinj rfl p33)) $$ [H4 Hs H2 S3]
  on_goal 1 => iframe H4 Hs H2 S3
  iintro Hf
  iapply (wait_copy (thr d L)) $$ [Hf HO]; (on_goal 1 => iframe Hf HO; iexact Hm)
  iintro ⟨⟨H4, ⟨%f43, %p43, Hs⟩, H2⟩, S3, HO⟩
  iapply (scatter_op d L (aL := aO) (hp := rfl) (hn := rfl) (he := rfl) (hsp := .inl rfl) (hr := by decide) ((aO).view.loc (thr d L) ↦{fullShare} pickList te (wid L) 1) (E := pickList te (wid L) 1) (own := mine) (c := 3)
    (Placed (own te (wid L)) (xBlk L x) · 4 4) rfl rfl (pickList te (wid L) 1) (.of_eq (by rfl)) rfl l1 i1 o1 (fun _ _ => placed_odd d L _ _ _ _ _ hinj rfl p43)) $$ [H4 Hs H3 S3]
  on_goal 1 => iframe H4 Hs H3 S3
  iintro Hf
  iapply (wait_copy (thr d L)) $$ [Hf HO]; (on_goal 1 => iframe Hf HO; iexact Hm)
  iintro ⟨⟨H4, ⟨%f44, %p44, Hs⟩, H3⟩, S3, HO⟩
  iapply (scatter_op d L (aL := aE) (hp := rfl) (hn := rfl) (he := rfl) (hsp := .inl rfl) (hr := by decide) ((aE).view.loc (thr d L) ↦{fullShare} pickList te (wid L) 0) (E := pickList te (wid L) 0) (own := mine) (c := 4)
    (Placed (own te (wid L)) (xBlk L x) · 5 4) rfl rfl (pickList te (wid L) 0) (.of_eq (by rfl)) rfl l0 i0 o0 (fun _ _ => placed_even d L _ _ _ _ _ hinj rfl p44)) $$ [H4 Hs H2 S3]
  on_goal 1 => iframe H4 Hs H2 S3
  iintro Hf
  iapply (wait_copy (thr d L)) $$ [Hf HO]; (on_goal 1 => iframe Hf HO; iexact Hm)
  iintro ⟨⟨H4, ⟨%f54, %p54, Hs⟩, H2⟩, S3, HO⟩
  iapply (scatter_op d L (aL := aO) (hp := rfl) (hn := rfl) (he := rfl) (hsp := .inl rfl) (hr := by decide) ((aO).view.loc (thr d L) ↦{fullShare} pickList te (wid L) 1) (E := pickList te (wid L) 1) (own := mine) (c := 4)
    (Placed (own te (wid L)) (xBlk L x) · 5 5) rfl rfl (pickList te (wid L) 1) (.of_eq (by rfl)) rfl l1 i1 o1 (fun _ _ => placed_odd d L _ _ _ _ _ hinj rfl p54)) $$ [H4 Hs H3 S3]
  on_goal 1 => iframe H4 Hs H3 S3
  iintro Hf
  iapply (wait_copy (thr d L)) $$ [Hf HO]; (on_goal 1 => iframe Hf HO; iexact Hm)
  iintro ⟨⟨H4, ⟨%f55, %p55, Hs⟩, H3⟩, S3, HO⟩
  iapply (scatter_op d L (aL := aE) (hp := rfl) (hn := rfl) (he := rfl) (hsp := .inl rfl) (hr := by decide) ((aE).view.loc (thr d L) ↦{fullShare} pickList te (wid L) 0) (E := pickList te (wid L) 0) (own := mine) (c := 5)
    (Placed (own te (wid L)) (xBlk L x) · 6 5) rfl rfl (pickList te (wid L) 0) (.of_eq (by rfl)) rfl l0 i0 o0 (fun _ _ => placed_even d L _ _ _ _ _ hinj rfl p55)) $$ [H4 Hs H2 S3]
  on_goal 1 => iframe H4 Hs H2 S3
  iintro Hf
  iapply (wait_copy (thr d L)) $$ [Hf HO]; (on_goal 1 => iframe Hf HO; iexact Hm)
  iintro ⟨⟨H4, ⟨%f65, %p65, Hs⟩, H2⟩, S3, HO⟩
  iapply (scatter_op d L (aL := aO) (hp := rfl) (hn := rfl) (he := rfl) (hsp := .inl rfl) (hr := by decide) ((aO).view.loc (thr d L) ↦{fullShare} pickList te (wid L) 1) (E := pickList te (wid L) 1) (own := mine) (c := 5)
    (Placed (own te (wid L)) (xBlk L x) · 6 6) rfl rfl (pickList te (wid L) 1) (.of_eq (by rfl)) rfl l1 i1 o1 (fun _ _ => placed_odd d L _ _ _ _ _ hinj rfl p65)) $$ [H4 Hs H3 S3]
  on_goal 1 => iframe H4 Hs H3 S3
  iintro Hf
  iapply (wait_copy (thr d L)) $$ [Hf HO]; (on_goal 1 => iframe Hf HO; iexact Hm)
  iintro ⟨⟨H4, ⟨%f66, %p66, Hs⟩, H3⟩, S3, HO⟩
  by_cases h0 : wid L = 0
  · iapply (take_then (thr d L) ?h); case h => exact (is_first L).mpr h0
    rw [← z5]
    iapply (wp_load 𝒱₀ (thr d L) none Set.univ (m := aB) (S := Finset.univ) (Finset.subset_univ _)) $$ H5; iintro H5
    iapply (store_aB d L (blockAt te) j5 (k := 0) ?hoff ?hP) $$ H5; case hoff => rfl
    case hP => rw [blocks_low]; rfl
    iintro H5
    iapply (wp_load 𝒱₀ (thr d L) none Set.univ (m := aB) (S := Finset.univ) (Finset.subset_univ _)) $$ H5; iintro H5
    iapply (store_aB d L (blockAt te) j5 (k := 1) ?hoff ?hP) $$ H5; case hoff => rfl
    case hP => rw [blocks_high]; rfl
    iintro H5
    rw [f5]
    have e1 : ∀ g, first (F := F) d L g = iprop((beV).view.loc (thr d L) ↦{fullShare} g) := fun _ => if_pos h0
    ihave Hb := (Entails.of_eq (e1 fb)) $$ Hb
    iapply (putB d L) $$ [H5 Hb S4]; (on_goal 1 => iframe H5 Hb S4)
    iintro Hf
    iapply (wait_copy (thr d L)) $$ [Hf HO]; (on_goal 1 => iframe Hf HO; iexact Hm)
    iintro ⟨⟨Hb, H5⟩, S4, HO⟩
    ihave Hb := (Entails.of_eq (e1 (blocks te)).symm) $$ Hb
    iapply (le_wp_ret _ _ _ _ _)
    iframe HO Ht Hx Hd Hb S0 S1 S2 S3 S4
    isplitl [Hs]
    · iexists f66; iframe Hs; ipureintro; exact p66
    isplitl [H0]; · iexists _; iexact H0
    isplitl [H1]; · iexists _; iexact H1
    isplitl [H2]; · iexists _; iexact H2
    isplitl [H3]; · iexists _; iexact H3
    isplitl [H4]; · iexists _; iexact H4
    iexists _; iexact H5
  · iapply (take_else (thr d L) ?h); case h => exact fun h => h0 ((is_first L).mp h)
    have e1 : ∀ g, first (F := F) d L g = iprop(emp) := fun _ => if_neg h0
    ihave Hb := (Entails.of_eq ((e1 fb).trans (e1 (blocks te)).symm)) $$ Hb
    iapply (le_wp_ret _ _ _ _ _)
    iframe HO Ht Hx Hd Hb S0 S1 S2 S3 S4
    isplitl [Hs]
    · iexists f66; iframe Hs; ipureintro; exact p66
    isplitl [H0]; · iexists _; iexact H0
    isplitl [H1]; · iexists _; iexact H1
    isplitl [H2]; · iexists _; iexact H2
    isplitl [H3]; · iexists _; iexact H3
    isplitl [H4]; · iexists _; iexact H4
    iexists _; iexact H5

end Cert.Proof.Kernel.Route

end
-- ==== Proof.Kernel.Comb.Steps.lean ====
/-
  One trip of the combining loop, an access at a time. While trip `t` runs, the block of first rows holds, above row `t`, combined rows; in row `t`, combined groups of
  sixteen columns up to the current one; everywhere else what was gathered (`accAt`). Each load and each store of the trip is one step on that state.
-/
module

public import proofs.«01_k».proof.Proof.Kernel.Comb.Value
public import Idealize.ShloMosaic.Lib.VecWindow
public import Idealize.ShloMosaic.Lib.ValueLayout

@[expose] public section

noncomputable section

namespace Cert.Proof.Kernel.Comb

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The SparseCore and the subcore of a task, and its number among the 32. -/
abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-! ## The state of the rows during a trip -/

/-- Word `n` of the fetched weights. -/
def wAt (w : S144.Idx → Elt F .f32) (n : ℕ) : Elt F .f32 := w (ValueIdx.ix1 (n := 144) ⟨n % 144, Nat.mod_lt _ (by decide)⟩)

/-- Sixteen columns of row `t` of a block of rows: the `k`-th group. -/
def grp (g : S64x768.Idx → Elt F .f32) (t k : ℕ) : S1x16.Idx → Elt F .f32 :=
  fun x => g (ix2 (n0 := 64) (n1 := 768) ⟨t % 64, Nat.mod_lt _ (by decide)⟩ ⟨(16 * k + (x 1).val) % 768, Nat.mod_lt _ (by decide)⟩)

/-- Row `r`'s combined element. -/
def mixAt (w : S144.Idx → Elt F .f32) (g₀ g₁ : S64x768.Idx → Elt F .f32) (x : S64x768.Idx) : Elt F .f32 :=
  FloatOps.addf (φ := .f32) (FloatOps.mulf (wAt w (2 * (x 0).val)) (g₀ x)) (FloatOps.mulf (wAt w (2 * (x 0).val + 1)) (g₁ x))

/-- The block of first rows in trip `t`, after `k` groups. -/
def accAt (w : S144.Idx → Elt F .f32) (g₀ g₁ : S64x768.Idx → Elt F .f32) (t k : ℕ) : S64x768.Idx → Elt F .f32 :=
  fun x => if (x 0).val < t ∨ ((x 0).val = t ∧ (x 1).val < 16 * k) then mixAt w g₀ g₁ x else g₀ x

theorem accAt_next (w : S144.Idx → Elt F .f32) (g₀ g₁ : S64x768.Idx → Elt F .f32) (t : ℕ) : accAt w g₀ g₁ t 48 = accAt w g₀ g₁ (t + 1) 0 := by
  funext x
  have h : (x 1).val < 768 := (x 1).isLt
  unfold accAt
  refine if_congr ?_ rfl rfl
  omega

/-! ## The accesses -/

/-- The access's bounds bound its row and its group. -/
theorem row_lt {t k : ℕ} (inb : ∀ a, (![t, 16 * k] : Fin 2 → ℕ) a + S1x16.size a ≤ S64x768.size a) : t < 64 := inb 0
theorem grp_lt {t k : ℕ} (inb : ∀ a, (![t, 16 * k] : Fin 2 → ℕ) a + S1x16.size a ≤ S64x768.size a) : k < 48 := by
  have h : 16 * k + 16 ≤ 768 := inb 1
  omega

/-- Where a group's columns sit in the block. -/
theorem emb_grp {t k : ℕ} {inb : ∀ a, (![t, 16 * k] : Fin 2 → ℕ) a + S1x16.size a ≤ S64x768.size a} (ht : t < 64) (hk : k < 48) (x : S1x16.Idx) :
    (Rect.unit (s := S64x768) ![t, 16 * k] S1x16.size inb).emb x
      = ix2 (n0 := 64) (n1 := 768) ⟨t % 64, Nat.mod_lt _ (by decide)⟩ ⟨(16 * k + (x 1).val) % 768, Nat.mod_lt _ (by decide)⟩ := by
  have hx : (x 1).val < 16 := (x 1).isLt
  have hx0 : (x 0).val < 1 := (x 0).isLt
  refine (eq_ix2 _).trans (congrArg₂ ix2 (Fin.ext ?_) (Fin.ext ?_))
  · show t + 1 * (x 0).val = t % 64
    omega
  · show 16 * k + 1 * (x 1).val = (16 * k + (x 1).val) % 768
    omega

variable (d : Dev nD) (L : grid2.Coords)

theorem loadA {w : S144.Idx → Elt F .f32} {g₀ g₁ : S64x768.Idx → Elt F .f32} {t k : ℕ} {off : Fin 2 → ℕ} {inb : ∀ a, off a + S1x16.size a ≤ S64x768.size a}
    {hl : (aA).view.LoadsAt (Rect.unit (s := S64x768) off S1x16.size inb).toLoadRect} {α : Type} {kont : (S1x16.Idx → Elt F .f32) → Prog (TpuEff nD τ sig (Elt F) Λ₀ (thr d L).2) α}
    {Q : α → sProp 𝕄} (hoff : off = ![t, 16 * k]) :
    ((aA).view.loc (thr d L) ↦{fullShare} accAt w g₀ g₁ t k)
      ⊢ iprop((((aA).view.loc (thr d L) ↦{fullShare} accAt w g₀ g₁ t k) -∗ wp frame (wpE (defs₀ (F := F)) 𝒱₀ (thr d L) none) Set.univ (kont (grp g₀ t k)) Q)
        -∗ wp frame (wpE (defs₀ (F := F)) 𝒱₀ (thr d L) none) Set.univ (.op (.load aA (Rect.unit (s := S64x768) off S1x16.size inb).toLoadRect hl) kont) Q) := by
  subst hoff
  have ht := row_lt inb
  have hk := grp_lt inb
  have e : (aA).view.readAt (Elt F) (Rect.unit (s := S64x768) ![t, 16 * k] S1x16.size inb).toLoadRect (accAt w g₀ g₁ t k) = grp g₀ t k := by
    funext x
    show accAt w g₀ g₁ t k ((Rect.unit (s := S64x768) ![t, 16 * k] S1x16.size inb).emb x) = _
    have hx : (x 1).val < 16 := (x 1).isLt
    rw [emb_grp ht hk]
    unfold accAt grp
    rw [if_neg]
    show ¬(t % 64 < t ∨ (t % 64 = t ∧ (16 * k + (x 1).val) % 768 < 16 * k))
    omega
  rw [← e]
  exact wp_load 𝒱₀ (thr d L) none Set.univ (m := (aA)) (Finset.subset_univ _)

theorem loadB {w : S144.Idx → Elt F .f32} {g₀ g₁ : S64x768.Idx → Elt F .f32} {t k : ℕ} {off : Fin 2 → ℕ} {inb : ∀ a, off a + S1x16.size a ≤ S64x768.size a}
    {hl : (aB).view.LoadsAt (Rect.unit (s := S64x768) off S1x16.size inb).toLoadRect} {α : Type} {kont : (S1x16.Idx → Elt F .f32) → Prog (TpuEff nD τ sig (Elt F) Λ₀ (thr d L).2) α}
    {Q : α → sProp 𝕄} (hoff : off = ![t, 16 * k]) :
    iprop(((aA).view.loc (thr d L) ↦{fullShare} accAt w g₀ g₁ t k) ∗ ((aB).view.loc (thr d L) ↦{fullShare} g₁))
      ⊢ iprop((((aA).view.loc (thr d L) ↦{fullShare} accAt w g₀ g₁ t k) -∗ ((aB).view.loc (thr d L) ↦{fullShare} g₁)
          -∗ wp frame (wpE (defs₀ (F := F)) 𝒱₀ (thr d L) none) Set.univ (kont (grp g₁ t k)) Q)
        -∗ wp frame (wpE (defs₀ (F := F)) 𝒱₀ (thr d L) none) Set.univ (.op (.load aB (Rect.unit (s := S64x768) off S1x16.size inb).toLoadRect hl) kont) Q) := by
  subst hoff
  have ht := row_lt inb
  have hk := grp_lt inb
  have e : (aB).view.readAt (Elt F) (Rect.unit (s := S64x768) ![t, 16 * k] S1x16.size inb).toLoadRect g₁ = grp g₁ t k := by
    funext x
    show g₁ ((Rect.unit (s := S64x768) ![t, 16 * k] S1x16.size inb).emb x) = _
    rw [emb_grp ht hk]; rfl
  rw [← e]
  iintro ⟨Ha, Hb⟩ Hk
  iapply (wp_load 𝒱₀ (thr d L) none Set.univ (m := (aB)) (S := Finset.univ) (Finset.subset_univ _)) $$ Hb; iintro Hb
  iapply Hk $$ Ha Hb

/-- Sixteen weights from row `t`'s first on. -/
def wRow (w : S144.Idx → Elt F .f32) (t : ℕ) : S16.Idx → Elt F .f32 := fun x => wAt w (2 * t + (x 0).val)

/-- The sixteen weights loaded at the trip's start: the first two are the row's. -/
theorem loadW {w : S144.Idx → Elt F .f32} {t : ℕ} {off : Fin 1 → ℕ} {inb : ∀ a, off a + S16.size a ≤ S144.size a}
    {hl : (aW).view.LoadsAt (Rect.unit (s := S144) off S16.size inb).toLoadRect} {α : Type} {kont : (S16.Idx → Elt F .f32) → Prog (TpuEff nD τ sig (Elt F) Λ₀ (thr d L).2) α}
    {Q : α → sProp 𝕄} (ht : t < 64) (hoff : off = ![2 * t]) :
    ((aW).view.loc (thr d L) ↦{fullShare} w)
      ⊢ iprop((((aW).view.loc (thr d L) ↦{fullShare} w) -∗ wp frame (wpE (defs₀ (F := F)) 𝒱₀ (thr d L) none) Set.univ (kont (wRow w t)) Q)
        -∗ wp frame (wpE (defs₀ (F := F)) 𝒱₀ (thr d L) none) Set.univ (.op (.load aW (Rect.unit (s := S144) off S16.size inb).toLoadRect hl) kont) Q) := by
  subst hoff
  have e : (aW).view.readAt (Elt F) (Rect.unit (s := S144) ![2 * t] S16.size inb).toLoadRect w = wRow w t := by
    funext x
    have hx : (x 0).val < 16 := (x 0).isLt
    have ex : (Rect.unit (s := S144) ![2 * t] S16.size inb).emb x = ValueIdx.ix1 (n := 144) ⟨(2 * t + (x 0).val) % 144, Nat.mod_lt _ (by decide)⟩ :=
      (eq_ix1 _).trans (congrArg ValueIdx.ix1 (Fin.ext (by
        show 2 * t + 1 * (x 0).val = (2 * t + (x 0).val) % 144
        omega)))
    show w ((Rect.unit (s := S144) ![2 * t] S16.size inb).emb x) = _
    rw [ex]; rfl
  rw [← e]
  exact wp_load 𝒱₀ (thr d L) none Set.univ (m := (aW)) (Finset.subset_univ _)

/-- One group's combined columns, over the row's two weights. -/
abbrev mix (w : S144.Idx → Elt F .f32) (g₀ g₁ : S64x768.Idx → Elt F .f32) (t k : ℕ) : FVec F S16 .f32 :=
  k2_pay1 (wAt w (2 * t)) (wAt w (2 * t + 1)) (grp g₀ t k) (grp g₁ t k)

theorem mix_apply (w : S144.Idx → Elt F .f32) (g₀ g₁ : S64x768.Idx → Elt F .f32) (t k : ℕ) (x : S1x16.Idx) (y : S64x768.Idx) (ht : t < 64) (hk : k < 48)
    (h0 : (y 0).val = t) (h1 : (y 1).val = 16 * k + (x 1).val) :
    shapeCast S1x16 (mix w g₀ g₁ t k) shapeCasts_S16_S1x16 x = mixAt w g₀ g₁ y := by
  have hx : (x 1).val < 16 := (x 1).isLt
  have hx0 : x 0 = (0 : Fin 1) := Subsingleton.elim (α := Fin 1) _ _
  have ey : ix2 (n0 := 64) (n1 := 768) ⟨t % 64, Nat.mod_lt _ (by decide)⟩ ⟨(16 * k + (x 1).val) % 768, Nat.mod_lt _ (by decide)⟩ = y :=
    ((eq_ix2 (n0 := 64) (n1 := 768) y).trans (congrArg₂ ix2 (Fin.ext (show (y 0).val = t % 64 by omega)) (Fin.ext (show (y 1).val = (16 * k + (x 1).val) % 768 by omega)))).symm
  have e0 : shapeCast S1x16 (mix w g₀ g₁ t k) shapeCasts_S16_S1x16 x = mix w g₀ g₁ t k (ValueIdx.ix1 (n := 16) (x 1)) := by
    conv_lhs => rw [eq_ix2 (n0 := 1) (n1 := 16) x, hx0]
    exact ValueIdx.shapeCast_a_1a_apply _ _ _ _
  have e1 : ∀ g : S64x768.Idx → Elt F .f32, shapeCast S16 (grp g t k) shapeCasts_S1x16_S16 (ValueIdx.ix1 (n := 16) (x 1)) = g y := fun g => by
    refine (ValueIdx.shapeCast_1a_a_apply (a := 16) (grp g t k) shapeCasts_S1x16_S16 (x 1)).trans ?_
    exact congrArg g ey
  rw [e0]
  show FloatOps.addf (φ := .f32) (FloatOps.mulf (wAt w (2 * t)) (shapeCast S16 (grp g₀ t k) shapeCasts_S1x16_S16 (ValueIdx.ix1 (n := 16) (x 1))))
    (FloatOps.mulf (wAt w (2 * t + 1)) (shapeCast S16 (grp g₁ t k) shapeCasts_S1x16_S16 (ValueIdx.ix1 (n := 16) (x 1)))) = _
  rw [e1, e1]
  unfold mixAt
  rw [h0]

/-- Writing a group's combined columns over the state after `k` groups leaves the state after one more. -/
theorem write_grp (w : S144.Idx → Elt F .f32) (g₀ g₁ : S64x768.Idx → Elt F .f32) {t k : ℕ} {inb : ∀ a, (![t, 16 * k] : Fin 2 → ℕ) a + S1x16.size a ≤ S64x768.size a}
    (P : S1x16.Idx → Elt F .f32)
    (hP : ∀ (x : S1x16.Idx) (y : S64x768.Idx), (y 0).val = t → (y 1).val = 16 * k + (x 1).val → P x = mixAt w g₀ g₁ y) :
    ((aA).access (Rect.unit (s := S64x768) ![t, 16 * k] S1x16.size inb)).write (Elt F) (accAt w g₀ g₁ t k) P Finset.univ = accAt w g₀ g₁ t (k + 1) := by
  funext y
  by_cases hy : (y 0).val = t ∧ 16 * k ≤ (y 1).val ∧ (y 1).val < 16 * k + 16
  · obtain ⟨h0, h1, h2⟩ := hy
    obtain ⟨x, hx0, hx1⟩ : ∃ x : S1x16.Idx, (x 0).val = 0 ∧ (y 1).val = 16 * k + (x 1).val :=
      ⟨ix2 (n0 := 1) (n1 := 16) 0 ⟨(y 1).val - 16 * k, by omega⟩, rfl, by show (y 1).val = 16 * k + ((y 1).val - 16 * k); omega⟩
    have hxy : ((aA).access (Rect.unit (s := S64x768) ![t, 16 * k] S1x16.size inb)).emb x = y := by
      refine (eq_ix2 (n0 := 64) (n1 := 768) _).trans ((congrArg₂ ix2 (Fin.ext ?_) (Fin.ext ?_)).trans (eq_ix2 (n0 := 64) (n1 := 768) y).symm)
      · show t + 1 * (x 0).val = (y 0).val
        omega
      · show 16 * k + 1 * (x 1).val = (y 1).val
        omega
    have h3 := View.write_emb_of_mem (Val := Elt F) (v := (aA).access (Rect.unit (s := S64x768) ![t, 16 * k] S1x16.size inb)) (accAt w g₀ g₁ t k) P (Finset.mem_univ x)
    rw [hxy] at h3
    refine h3.trans ((hP x y h0 hx1).trans ?_)
    unfold accAt
    rw [if_pos (by omega)]
  · refine (View.write_of_not_mem (Val := Elt F) (v := (aA).access (Rect.unit (s := S64x768) ![t, 16 * k] S1x16.size inb)) (accAt w g₀ g₁ t k) P Finset.univ ?_).trans ?_
    · intro hmem
      rw [View.setOn_univ] at hmem
      obtain ⟨x, -, hx⟩ := Finset.mem_map.mp hmem
      have hx1 : (x 1).val < 16 := (x 1).isLt
      have hx0 : (x 0).val < 1 := (x 0).isLt
      have a0 : t + 1 * (x 0).val = (y 0).val := congrArg (fun z : S64x768.Idx => (z 0).val) hx
      have a1 : 16 * k + 1 * (x 1).val = (y 1).val := congrArg (fun z : S64x768.Idx => (z 1).val) hx
      omega
    · unfold accAt
      refine if_congr ?_ rfl rfl
      omega

/-- The store of a group's combined columns. -/
theorem storeA {w : S144.Idx → Elt F .f32} {g₀ g₁ : S64x768.Idx → Elt F .f32} {t k : ℕ} {off : Fin 2 → ℕ} {inb : ∀ a, off a + S1x16.size a ≤ S64x768.size a}
    {P : FVec F S16 .f32} {hx hm}
    {α : Type} {kont : PUnit → Prog (TpuEff nD τ sig (Elt F) Λ₀ (thr d L).2) α}
    {Q : α → sProp 𝕄} (hoff : off = ![t, 16 * k]) (hP : P = mix w g₀ g₁ t k) :
    ((aA).view.loc (thr d L) ↦{fullShare} accAt w g₀ g₁ t k)
      ⊢ iprop((((aA).view.loc (thr d L) ↦{fullShare} accAt w g₀ g₁ t (k + 1)) -∗ wp frame (wpE (defs₀ (F := F)) 𝒱₀ (thr d L) none) Set.univ (kont ⟨⟩) Q)
        -∗ wp frame (wpE (defs₀ (F := F)) 𝒱₀ (thr d L) none) Set.univ
            (.op (.store aA (Rect.unit (s := S64x768) off S1x16.size inb) (shapeCast S1x16 P shapeCasts_S16_S1x16) Finset.univ hx hm) kont) Q) := by
  subst hoff hP
  have ht := row_lt inb
  have hk := grp_lt inb
  have e := write_grp w g₀ g₁ (inb := inb) (shapeCast S1x16 (mix w g₀ g₁ t k) shapeCasts_S16_S1x16) (fun x y h0 h1 => mix_apply w g₀ g₁ t k x y ht hk h0 h1)
  generalize accAt w g₀ g₁ t (k + 1) = A at *
  generalize accAt w g₀ g₁ t k = B at *
  subst e
  generalize shapeCast S1x16 (mix w g₀ g₁ t k) shapeCasts_S16_S1x16 = P
  refine wp_store (hx := hx) (hm := hm) (k := kont) (Q := Q) 𝒱₀ (thr d L) none Set.univ (m := (aA)) (r := Rect.unit (s := S64x768) ![t, 16 * k] S1x16.size inb) (w := P) (f := B) (S := Finset.univ) (Mk := Finset.univ) ?_
  exact fun x _ => Finset.mem_univ x

end Cert.Proof.Kernel.Comb

end
-- ==== Proof.Kernel.Comb.Trip.lean ====
/-
  A whole trip of the combining loop: from the state before row `t` to the state before row `t + 1`.
-/
module

public import proofs.«01_k».proof.Proof.Kernel.Comb.Steps

@[expose] public section

noncomputable section

namespace Cert.Proof.Kernel.Comb

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid2.Coords)

/-- The body's buffers, in the order in which the printed functions take them. -/
abbrev body (t : Fin k2_t1_loop.trips) : Prog (TpuEff nD τ sig (Elt F) Λ₀ (thr d L).2) Unit :=
  k2_t1_body L yV (Memref.isWhole_whole _) dV (Memref.isWhole_whole _) wV (Memref.isWhole_whole _) oV (Memref.isWhole_whole _) aD (Memref.isWhole_whole _) aW (Memref.isWhole_whole _)
    aE (Memref.isWhole_whole _) aO (Memref.isWhole_whole _) aA (Memref.isWhole_whole _) aB (Memref.isWhole_whole _) cc2_scratch6 cc2_scoped0 cc2_scoped1 cc2_scoped2 t ()

/-- What a finished program's postcondition asks is all that is left to show. -/
theorem le_wp_ret {c : Thread nD τ} {α : Type} (a : α) {Q : α → sProp 𝕄} :
    Q a ⊢ wp frame (wpE (defs₀ (F := F)) 𝒱₀ c none) Set.univ (.ret a) Q := by
  iintro H
  sl_step
  iexact H

theorem trip (t : Fin k2_t1_loop.trips) (w : S144.Idx → Elt F .f32) (g₀ g₁ : S64x768.Idx → Elt F .f32) :
    iprop(((aW).view.loc (thr d L) ↦{fullShare} w) ∗ ((aA).view.loc (thr d L) ↦{fullShare} accAt w g₀ g₁ t.val 0) ∗ ((aB).view.loc (thr d L) ↦{fullShare} g₁))
      ⊢ wp (M := 𝕄) frame (wpE (defs₀ (F := F)) 𝒱₀ (thr d L) none) Set.univ (body d L t)
        fun _ => iprop(((aW).view.loc (thr d L) ↦{fullShare} w) ∗ ((aA).view.loc (thr d L) ↦{fullShare} accAt w g₀ g₁ (t.val + 1) 0) ∗ ((aB).view.loc (thr d L) ↦{fullShare} g₁)) := by
  have ht : t.val < 64 := Nat.lt_of_lt_of_eq t.isLt (by decide)
  unfold body k2_t1_body
  iintro ⟨Hw, Ha, Hb⟩
  iapply (loadW d L ht (k2_off2_eq t)) $$ Hw; iintro Hw
  iterate 48
    iapply (loadA d L ?hoff) $$ Ha; case hoff => refine ClosedOff.eq.trans ?_; rfl
    iintro Ha
    iapply (loadB d L ?hoff) $$ [Ha Hb]; (on_goal 2 => iframe Ha Hb); case hoff => refine ClosedOff.eq.trans ?_; rfl
    iintro Ha Hb
    iapply (loadA d L ?hoff) $$ Ha; case hoff => refine ClosedOff.eq.trans ?_; rfl
    iintro Ha
    iapply (storeA d L ?hoff ?hP) $$ Ha; case hoff => refine ClosedOff.eq.trans ?_; rfl
    case hP => rfl
    iintro Ha
  iapply (le_wp_ret ())
  rw [accAt_next]
  iframe Hw Ha Hb

end Cert.Proof.Kernel.Comb

end
-- ==== Proof.Kernel.Comb.Gather.lean ====
/-
  The gathers of a task, one block of 128 columns at a time. After `c` blocks a buffer of rows holds, in its first `128 c` columns, the rows that the list names; elsewhere what
  it held before (`gath`).
-/
module

public import proofs.«01_k».proof.Proof.Kernel.Comb.Trip
public import Idealize.ShloMosaic.Lib.SparseCore.FromWhole

@[expose] public section

noncomputable section

namespace Cert.Proof.Kernel.Comb

open Cert.Kernel Cert.Kernel.Gen

open Idealize.ShloMosaic
open Idealize.ShloMosaic.ValueIdx (ix2 eq_ix1 eq_ix2)
open Idealize.ShloMosaic.SparseCore (S V T rowOf gatherPayload rows)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-! ## Waiting -/

/-! ## The state of a buffer of rows -/

/-- The rows of `y` named by `n`, in the first `128 c` columns. -/
def gath (y : S8192x768.Idx → Elt F .f32) (n : S64.Idx → BitVec 32) (g : S64x768.Idx → Elt F .f32) (c : ℕ) : S64x768.Idx → Elt F .f32 :=
  fun x => if (x 1).val < 128 * c then rowAt y (n (ValueIdx.ix1 (n := 64) (x 0))) (x 1) else g x

/-- All the rows. -/
def rowsOf (y : S8192x768.Idx → Elt F .f32) (n : S64.Idx → BitVec 32) : S64x768.Idx → Elt F .f32 :=
  fun x => rowAt y (n (ValueIdx.ix1 (n := 64) (x 0))) (x 1)

theorem gath_zero (y : S8192x768.Idx → Elt F .f32) (n : S64.Idx → BitVec 32) (g : S64x768.Idx → Elt F .f32) : gath y n g 0 = g :=
  funext fun x => if_neg (by omega)
theorem gath_six (y : S8192x768.Idx → Elt F .f32) (n : S64.Idx → BitVec 32) (g : S64x768.Idx → Elt F .f32) : gath y n g 6 = rowsOf y n :=
  funext fun x => if_pos (show (x 1).val < 768 from (x 1).isLt)

/-- A block of columns of the expert outputs, as the stream takes it. -/
abbrev yCols (off : Fin 2 → ℕ) (inb : ∀ a, off a + S8192x128.size a ≤ S8192x768.size a) : Memref sig .scVector .hbm S8192x128 .f32 :=
  (yV.slice (Rect.unit (s := S8192x768) off S8192x128.size inb) (fun _ => rfl)).slice
    (Rect.unit (s := S8192x128) ![0, 0] S8192x128.size inb_S8192x128_S8192x128_0_0) (fun _ => rfl)
abbrev aCols (off : Fin 2 → ℕ) (inb : ∀ a, off a + S64x128.size a ≤ S64x768.size a) : Memref sig .scVector .vmem S64x128 .f32 :=
  aA.slice (Rect.unit (s := S64x768) off S64x128.size inb) (fun _ => rfl)
abbrev bCols (off : Fin 2 → ℕ) (inb : ∀ a, off a + S64x128.size a ≤ S64x768.size a) : Memref sig .scVector .vmem S64x128 .f32 :=
  aB.slice (Rect.unit (s := S64x768) off S64x128.size inb) (fun _ => rfl)

/-- The `k`-th element of a list of 64 words is its word `k`. -/
theorem row_ix : ∀ k : Fin 64, S64.rowMajor.symm (k.cast (show 64 = S64.numel from rfl)) = ValueIdx.ix1 (n := 64) k := by decide +kernel

/-- The words that arrive: at `(r, x)`, column `128 c + x` of the row that word `r` of the list names. -/
theorem arrive (y : S8192x768.Idx → Elt F .f32) (n : S64.Idx → BitVec 32) {c : ℕ} {inb : ∀ a, (![0, 128 * c] : Fin 2 → ℕ) a + S8192x128.size a ≤ S8192x768.size a}
    (hn hin) (x : S64x128.Idx) (z : S64x768.Idx) (h0 : (z 0).val = (x 0).val) (h1 : (z 1).val = 128 * c + (x 1).val) :
    gatherPayload gathers_S8192x128_S64x128 ((yCols ![0, 128 * c] inb).view.read (Elt F) y) (rows (F := F) n hn hin) x = rowAt y (n (ValueIdx.ix1 (n := 64) (z 0))) (z 1) := by
  have hr : ∀ k : Fin 64, S64.rowMajor.symm (k.cast hn.symm) = ValueIdx.ix1 (n := 64) k := row_ix
  have e : (yCols ![0, 128 * c] inb).view.emb (gathers_S8192x128_S64x128.idx (rows (F := F) n hn hin) x)
      = ix2 (n0 := 8192) (n1 := 768) ⟨(n (ValueIdx.ix1 (n := 64) (z 0))).toNat % 8192, Nat.mod_lt _ (by decide)⟩ (z 1) := by
    have hz : z 0 = x 0 := Fin.ext h0
    refine (eq_ix2 _).trans (congrArg₂ ix2 (Fin.ext ?_) (Fin.ext ?_))
    · show 0 + 1 * (0 + 1 * (n (S64.rowMajor.symm ((x 0).cast hn.symm))).toNat) = (n (ValueIdx.ix1 (n := 64) (z 0))).toNat % 8192
      have er : S64.rowMajor.symm ((x 0).cast hn.symm) = ValueIdx.ix1 (n := 64) (z 0) := (hr (x 0)).trans (congrArg (ValueIdx.ix1 (n := 64)) hz.symm)
      have e1 : (n (S64.rowMajor.symm ((x 0).cast hn.symm))).toNat = (n (ValueIdx.ix1 (n := 64) (z 0))).toNat := congrArg (fun i => (n i).toNat) er
      have hlt : (n (ValueIdx.ix1 (n := 64) (z 0))).toNat < 8192 := hin _
      omega
    · show 128 * c + 1 * (0 + 1 * (x 1).val) = (z 1).val
      omega
  show y ((yCols ![0, 128 * c] inb).view.emb (gathers_S8192x128_S64x128.idx (rows (F := F) n hn hin) x)) = _
  rw [e]; rfl

/-- Where a block's element sits in its buffer. -/
theorem cols_cases {c : ℕ} (hc : c < 6) (z : S64x768.Idx) :
    (∃ x : S64x128.Idx, (z 0).val = (x 0).val ∧ (z 1).val = 128 * c + (x 1).val) ∨ ¬(128 * c ≤ (z 1).val ∧ (z 1).val < 128 * c + 128) := by
  by_cases h : 128 * c ≤ (z 1).val ∧ (z 1).val < 128 * c + 128
  · exact .inl ⟨ix2 (n0 := 64) (n1 := 128) (z 0) ⟨(z 1).val - 128 * c, by omega⟩, rfl, by show (z 1).val = 128 * c + ((z 1).val - 128 * c); omega⟩
  · exact .inr h

theorem write_aCols (y : S8192x768.Idx → Elt F .f32) (n : S64.Idx → BitVec 32) (g : S64x768.Idx → Elt F .f32) {c : ℕ}
    {inb : ∀ a, (![0, 128 * c] : Fin 2 → ℕ) a + S64x128.size a ≤ S64x768.size a} (hc : c < 6) (P : S64x128.Idx → Elt F .f32)
    (hP : ∀ (x : S64x128.Idx) (z : S64x768.Idx), (z 0).val = (x 0).val → (z 1).val = 128 * c + (x 1).val → P x = rowAt y (n (ValueIdx.ix1 (n := 64) (z 0))) (z 1)) :
    (aCols ![0, 128 * c] inb).view.write (Elt F) (gath y n g c) P Finset.univ = gath y n g (c + 1) := by
  funext z
  rcases cols_cases hc z with ⟨x, h0, h1⟩ | h
  · have hx : (x 1).val < 128 := (x 1).isLt
    have hxz : (aCols ![0, 128 * c] inb).view.emb x = z := by
      refine (eq_ix2 (n0 := 64) (n1 := 768) _).trans ((congrArg₂ ix2 (Fin.ext ?_) (Fin.ext ?_)).trans (eq_ix2 (n0 := 64) (n1 := 768) z).symm)
      · show 0 + 1 * (x 0).val = (z 0).val
        omega
      · show 128 * c + 1 * (x 1).val = (z 1).val
        omega
    have h3 := View.write_emb_of_mem (Val := Elt F) (v := (aCols ![0, 128 * c] inb).view) (gath y n g c) P (Finset.mem_univ x)
    rw [hxz] at h3
    refine h3.trans ((hP x z h0 h1).trans (if_pos ?_).symm)
    omega
  · refine (View.write_of_not_mem (Val := Elt F) (v := (aCols ![0, 128 * c] inb).view) (gath y n g c) P Finset.univ ?_).trans ?_
    · intro hmem
      rw [View.setOn_univ] at hmem
      obtain ⟨x, -, hx⟩ := Finset.mem_map.mp hmem
      have hx1 : (x 1).val < 128 := (x 1).isLt
      have a1 : 128 * c + 1 * (x 1).val = (z 1).val := congrArg (fun z : S64x768.Idx => (z 1).val) hx
      omega
    · refine if_congr ?_ rfl rfl
      omega

theorem write_bCols (y : S8192x768.Idx → Elt F .f32) (n : S64.Idx → BitVec 32) (g : S64x768.Idx → Elt F .f32) {c : ℕ}
    {inb : ∀ a, (![0, 128 * c] : Fin 2 → ℕ) a + S64x128.size a ≤ S64x768.size a} (hc : c < 6) (P : S64x128.Idx → Elt F .f32)
    (hP : ∀ (x : S64x128.Idx) (z : S64x768.Idx), (z 0).val = (x 0).val → (z 1).val = 128 * c + (x 1).val → P x = rowAt y (n (ValueIdx.ix1 (n := 64) (z 0))) (z 1)) :
    (bCols ![0, 128 * c] inb).view.write (Elt F) (gath y n g c) P Finset.univ = gath y n g (c + 1) :=
  (show (bCols ![0, 128 * c] inb).view.write (Elt F) (gath y n g c) P Finset.univ = (aCols ![0, 128 * c] inb).view.write (Elt F) (gath y n g c) P Finset.univ from rfl).trans
    (write_aCols y n g hc P hP)

/-! ## The steps -/

variable (d : Dev nD) (L : grid2.Coords)

/-- One entry of the stream of a gather, as the program states it: row `w` of the source into row `k` of the destination. -/
abbrev entry (src : Memref sig (thr d L).2.kind .hbm S8192x128 .f32) (dst : Memref sig (thr d L).2.kind .vmem S64x128 .f32) (sem : DmaSem sig) (hsrc : src.view.WordExact)
    (he : EltTy.f32.bits = 32) (hsp : Space.hbm = Space.hbm ∨ Space.hbm = Space.shared) (hr : S8192x128.StreamRows 0)
    (k : Fin (S64x128.size gathers_S8192x128_S64x128.axis')) (w : Elt F .i32) : Option (RowDma τ sig (Elt F) (thr d L).2 sem) :=
  (rowOf (F := F) (S8192x128.size gathers_S8192x128_S64x128.axis) w).map fun r =>
    { src := src, dst := dst.slice (S64x128.rowRect gathers_S8192x128_S64x128.axis' k) (S64x128.stride_rowRect _ _), via := .row gathers_S8192x128_S64x128 r,
      hsrc := hsrc, hdst := View.wordExact_bits he, hsp := .inl ⟨hsp, rfl⟩, hbits := he, hrow := gathers_S8192x128_S64x128.streamRow_rowShape hr }

/-- A gather of a block of columns through the list of even entries, into the block of first rows. -/
theorem gatherA {q : PosShare TreeShare} {y : S8192x768.Idx → Elt F .f32} {n : S64.Idx → BitVec 32} {g : S64x768.Idx → Elt F .f32} {c : ℕ} {off off' : Fin 2 → ℕ}
    {inb : ∀ a, off a + S64x128.size a ≤ S64x768.size a} {inb' : ∀ a, off' a + S8192x128.size a ≤ S8192x768.size a}
    {hp : (thr d L).2.kind = .scVector} {hn : S64.numel = S64x128.size gathers_S8192x128_S64x128.axis'} {sem : DmaSem sig} {hsrc he hsp hr} {α : Type} {Q : α → sProp 𝕄}
    {k : PUnit → Prog (TpuEff nD τ sig (Elt F) Λ₀ (thr d L).2) α} (hoff : off = ![0, 128 * c]) (hoff' : off' = ![0, 128 * c]) (hlt : ∀ x, (n x).toNat < 8192) :
    iprop(((yV).view.loc (thr d L) ↦{q} y) ∗ ((aA).view.loc (thr d L) ↦{fullShare} gath y n g c) ∗ ((aE).view.loc (thr d L) ↦{fullShare} n) ∗ semVal (thr d L, SemLoc.dma sem) 0)
      ⊢ iprop((Flight countersEmb (thr d L) (.dma sem) (default : HIx 2) (aCols off inb).view.dmaCredit
            iprop(((aA).view.loc (thr d L) ↦{fullShare} gath y n g (c + 1)) ∗ ((yV).view.loc (thr d L) ↦{q} y) ∗ ((aE).view.loc (thr d L) ↦{fullShare} n))
          -∗ wp frame (wpE (defs₀ (F := F)) 𝒱₀ (thr d L) none) Set.univ (k ⟨⟩) Q)
        -∗ wp frame (wpE (defs₀ (F := F)) 𝒱₀ (thr d L) none) Set.univ
            (.op (.enqueueIndirectDma hp aE hn sem (entry d L (yCols off' inb') (aCols off inb) sem hsrc he hsp hr)) k) Q) := by
  subst hoff hoff'
  have hc : c < 6 := by have h : 128 * c + 128 ≤ 768 := inb 1; omega
  have hin : ∀ x, ((aE).view.read (Elt F) n x).toNat < S8192x128.size gathers_S8192x128_S64x128.axis := hlt
  have e := write_aCols y n g (inb := inb) hc _ (fun x z h0 h1 => arrive y n (inb := inb') hn hin x z h0 h1)
  rw [← e]
  exact SparseCore.wp_gatherFromWhole countersEmb 𝒱₀ (thr d L) none (src := yCols ![0, 128 * c] inb') (dst := aCols ![0, 128 * c] inb) (offs := aE)
    (hg := gathers_S8192x128_S64x128) (hn := hn) (hsrc := hsrc) (hsp := hsp) (hr := hr) (k := k) (q := q) (qo := fullShare) (fs := y) (fo := n) (fd := gath y n g c)
    (default : HIx 2) _ (SparseCore.sum_rowCredit_eq_dmaCredit _ _ fun _ => rfl) (by decide) hin

/-- The same through the list of odd entries, into the block of second rows. -/
theorem gatherB {q : PosShare TreeShare} {y : S8192x768.Idx → Elt F .f32} {n : S64.Idx → BitVec 32} {g : S64x768.Idx → Elt F .f32} {c : ℕ} {off off' : Fin 2 → ℕ}
    {inb : ∀ a, off a + S64x128.size a ≤ S64x768.size a} {inb' : ∀ a, off' a + S8192x128.size a ≤ S8192x768.size a}
    {hp : (thr d L).2.kind = .scVector} {hn : S64.numel = S64x128.size gathers_S8192x128_S64x128.axis'} {sem : DmaSem sig} {hsrc he hsp hr} {α : Type} {Q : α → sProp 𝕄}
    {k : PUnit → Prog (TpuEff nD τ sig (Elt F) Λ₀ (thr d L).2) α} (hoff : off = ![0, 128 * c]) (hoff' : off' = ![0, 128 * c]) (hlt : ∀ x, (n x).toNat < 8192) :
    iprop(((yV).view.loc (thr d L) ↦{q} y) ∗ ((aB).view.loc (thr d L) ↦{fullShare} gath y n g c) ∗ ((aO).view.loc (thr d L) ↦{fullShare} n) ∗ semVal (thr d L, SemLoc.dma sem) 0)
      ⊢ iprop((Flight countersEmb (thr d L) (.dma sem) (default : HIx 2) (bCols off inb).view.dmaCredit
            iprop(((aB).view.loc (thr d L) ↦{fullShare} gath y n g (c + 1)) ∗ ((yV).view.loc (thr d L) ↦{q} y) ∗ ((aO).view.loc (thr d L) ↦{fullShare} n))
          -∗ wp frame (wpE (defs₀ (F := F)) 𝒱₀ (thr d L) none) Set.univ (k ⟨⟩) Q)
        -∗ wp frame (wpE (defs₀ (F := F)) 𝒱₀ (thr d L) none) Set.univ
            (.op (.enqueueIndirectDma hp aO hn sem (entry d L (yCols off' inb') (bCols off inb) sem hsrc he hsp hr)) k) Q) := by
  subst hoff hoff'
  have hc : c < 6 := by have h : 128 * c + 128 ≤ 768 := inb 1; omega
  have hin : ∀ x, ((aO).view.read (Elt F) n x).toNat < S8192x128.size gathers_S8192x128_S64x128.axis := hlt
  have e := write_bCols y n g (inb := inb) hc _ (fun x z h0 h1 => arrive y n (inb := inb') hn hin x z h0 h1)
  rw [← e]
  exact SparseCore.wp_gatherFromWhole countersEmb 𝒱₀ (thr d L) none (src := yCols ![0, 128 * c] inb') (dst := bCols ![0, 128 * c] inb) (offs := aO)
    (hg := gathers_S8192x128_S64x128) (hn := hn) (hsrc := hsrc) (hsp := hsp) (hr := hr) (k := k) (q := q) (qo := fullShare) (fs := y) (fo := n) (fd := gath y n g c)
    (default : HIx 2) _ (SparseCore.sum_rowCredit_eq_dmaCredit _ _ fun _ => rfl) (by decide) hin

end Cert.Proof.Kernel.Comb

end
-- ==== Proof.Kernel.Comb.Lists.lean ====
/-
  The two lists of row numbers that a task makes of its 128 fetched words: the words at even places and the words at odd places, sixteen at a time.
-/
module

public import proofs.«01_k».proof.Proof.Kernel.Comb.Trip

@[expose] public section

noncomputable section

namespace Cert.Proof.Kernel.Comb

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- Word `n` of the fetched words. -/
def dAt (D : S128.Idx → BitVec 32) (n : ℕ) : BitVec 32 := D (ValueIdx.ix1 (n := 128) ⟨n % 128, Nat.mod_lt _ (by decide)⟩)

/-- The list of every second word, from word `p` on, of which `k` groups of sixteen are made; elsewhere what was there before. -/
def lst (D : S128.Idx → BitVec 32) (p : ℕ) (j : S64.Idx → BitVec 32) (k : ℕ) : S64.Idx → BitVec 32 :=
  fun x => if (x 0).val < 16 * k then dAt D (2 * (x 0).val + p) else j x

theorem lst_zero (D : S128.Idx → BitVec 32) (p : ℕ) (j : S64.Idx → BitVec 32) : lst D p j 0 = j := funext fun x => if_neg (by omega)
theorem lst_four (D : S128.Idx → BitVec 32) (p : ℕ) (j : S64.Idx → BitVec 32) : lst D p j 4 = fun x => dAt D (2 * (x 0).val + p) :=
  funext fun x => if_pos (show (x 0).val < 64 from (x 0).isLt)

/-- Group `k` of the list. -/
def lanes (D : S128.Idx → BitVec 32) (p k : ℕ) : S16.Idx → BitVec 32 := fun x => dAt D (32 * k + 2 * (x 0).val + p)

/-- Places that run over every second word from word `32 k + p` on lie among the 128 words, -/
theorem chk_of {v : IVec S16 32} (k p : ℕ) (hk : k < 4) (hp : p < 2) (hv : ∀ i : Fin 16, (v (ValueIdx.ix1 (n := 16) i)).toNat = 32 * k + 2 * i.val + p) :
    ∀ a x, ((![v] : Fin 1 → IVec S16 32) a x).toNat < S128.size a := by
  intro a x
  obtain rfl : a = 0 := Subsingleton.elim _ _
  have h := hv (x 0)
  have hx : (x 0).val < 16 := (x 0).isLt
  have e : x = ValueIdx.ix1 (n := 16) (x 0) := eq_ix1 x
  show (v x).toNat < 128
  rw [e, h]
  show 32 * k + 2 * (x 0).val + p < 128
  omega

/-- and a load through them is the list's group. -/
theorem lanes_eq {D : S128.Idx → BitVec 32} {v : IVec S16 32} {k p : ℕ} {h} (hk : k < 4) (hp : p < 2)
    (hv : ∀ i : Fin 16, (v (ValueIdx.ix1 (n := 16) i)).toNat = 32 * k + 2 * i.val + p) : loadIdx (F := F) (e := .i32) (s := S128) D ![v] h = lanes D p k := by
  funext x
  have hx : (x 0).val < 16 := (x 0).isLt
  have e : x = ValueIdx.ix1 (n := 16) (x 0) := eq_ix1 x
  have hvx : (v x).toNat = 32 * k + 2 * (x 0).val + p := by rw [e]; exact hv (x 0)
  refine congrArg D ((eq_ix1 _).trans (congrArg ValueIdx.ix1 (Fin.ext ?_)))
  show (v x).toNat = (32 * k + 2 * (x 0).val + p) % 128
  omega

/-- A group's store moves the list one group on. -/
theorem write_lst (D : S128.Idx → BitVec 32) (p : ℕ) (j : S64.Idx → BitVec 32) {k : ℕ} {inb : ∀ a, (![16 * k] : Fin 1 → ℕ) a + S16.size a ≤ S64.size a} :
    ((aE).access (Rect.unit (s := S64) ![16 * k] S16.size inb)).write (Elt F) (lst D p j k) (lanes D p k) Finset.univ = lst D p j (k + 1) := by
  funext y
  by_cases hy : 16 * k ≤ (y 0).val ∧ (y 0).val < 16 * k + 16
  · obtain ⟨x, hx0⟩ : ∃ x : S16.Idx, (y 0).val = 16 * k + (x 0).val :=
      ⟨ValueIdx.ix1 (n := 16) ⟨(y 0).val - 16 * k, by omega⟩, by show (y 0).val = 16 * k + ((y 0).val - 16 * k); omega⟩
    have hxy : ((aE).access (Rect.unit (s := S64) ![16 * k] S16.size inb)).emb x = y := by
      refine (eq_ix1 (n := 64) _).trans ((congrArg ValueIdx.ix1 (Fin.ext ?_)).trans (eq_ix1 (n := 64) y).symm)
      show 16 * k + 1 * (x 0).val = (y 0).val
      omega
    have h3 := View.write_emb_of_mem (Val := Elt F) (v := (aE).access (Rect.unit (s := S64) ![16 * k] S16.size inb)) (lst D p j k) (lanes D p k) (Finset.mem_univ x)
    rw [hxy] at h3
    refine h3.trans ?_
    unfold lst
    rw [if_pos (by omega)]
    show dAt D (32 * k + 2 * (x 0).val + p) = _
    congr 1
    omega
  · refine (View.write_of_not_mem (Val := Elt F) (v := (aE).access (Rect.unit (s := S64) ![16 * k] S16.size inb)) (lst D p j k) (lanes D p k) Finset.univ ?_).trans ?_
    · intro hmem
      rw [View.setOn_univ] at hmem
      obtain ⟨x, -, hx⟩ := Finset.mem_map.mp hmem
      have hx0 : (x 0).val < 16 := (x 0).isLt
      have a0 : 16 * k + 1 * (x 0).val = (y 0).val := congrArg (fun z : S64.Idx => (z 0).val) hx
      omega
    · unfold lst
      refine if_congr ?_ rfl rfl
      omega

variable (d : Dev nD) (L : grid2.Coords)

/-- The fetched words read whole. -/
theorem loadD {D : S128.Idx → BitVec 32} {hl : (aD).view.LoadsAt (Rect.whole S128).toLoadRect} {α : Type} {Q : α → sProp 𝕄}
    {kont : (S128.Idx → BitVec 32) → Prog (TpuEff nD τ sig (Elt F) Λ₀ (thr d L).2) α} :
    ((aD).view.loc (thr d L) ↦{fullShare} D)
      ⊢ iprop((((aD).view.loc (thr d L) ↦{fullShare} D) -∗ wp frame (wpE (defs₀ (F := F)) 𝒱₀ (thr d L) none) Set.univ (kont D) Q)
        -∗ wp frame (wpE (defs₀ (F := F)) 𝒱₀ (thr d L) none) Set.univ (.op (.load aD (Rect.whole S128).toLoadRect hl) kont) Q) := by
  have e : (aD).view.readAt (Elt F) (Rect.whole S128).toLoadRect D = D := by
    funext x
    show D ((Rect.whole S128).emb x) = D x
    exact congrArg D ((eq_ix1 (n := 128) _).trans ((congrArg ValueIdx.ix1 (Fin.ext (show 0 + 1 * (x 0).val = (x 0).val by omega))).trans (eq_ix1 (n := 128) x).symm))
  conv => rhs; lhs; rhs; rw [← e]
  exact wp_load 𝒱₀ (thr d L) none Set.univ (m := (aD)) (Finset.subset_univ _)

/-- The store of a group into the list of even words. -/
theorem storeE {D : S128.Idx → BitVec 32} {j : S64.Idx → BitVec 32} {k : ℕ} {off : Fin 1 → ℕ} {inb : ∀ a, off a + S16.size a ≤ S64.size a}
    {P : S16.Idx → BitVec 32} {hx hm} {α : Type} {kont : PUnit → Prog (TpuEff nD τ sig (Elt F) Λ₀ (thr d L).2) α} {Q : α → sProp 𝕄}
    (hoff : off = ![16 * k]) (hP : P = lanes D 0 k) :
    ((aE).view.loc (thr d L) ↦{fullShare} lst D 0 j k)
      ⊢ iprop((((aE).view.loc (thr d L) ↦{fullShare} lst D 0 j (k + 1)) -∗ wp frame (wpE (defs₀ (F := F)) 𝒱₀ (thr d L) none) Set.univ (kont ⟨⟩) Q)
        -∗ wp frame (wpE (defs₀ (F := F)) 𝒱₀ (thr d L) none) Set.univ (.op (.store aE (Rect.unit (s := S64) off S16.size inb) P Finset.univ hx hm) kont) Q) := by
  subst hoff hP
  have e := write_lst (F := F) D 0 j (inb := inb)
  generalize lst D 0 j (k + 1) = A at *
  generalize lst D 0 j k = B at *
  subst e
  refine wp_store (hx := hx) (hm := hm) (k := kont) (Q := Q) 𝒱₀ (thr d L) none Set.univ (m := (aE)) (r := Rect.unit (s := S64) ![16 * k] S16.size inb) (w := lanes D 0 k) (f := B) (S := Finset.univ) (Mk := Finset.univ) ?_
  exact fun x _ => Finset.mem_univ x

/-- The store of a group into the list of odd words. -/
theorem storeO {D : S128.Idx → BitVec 32} {j : S64.Idx → BitVec 32} {k : ℕ} {off : Fin 1 → ℕ} {inb : ∀ a, off a + S16.size a ≤ S64.size a}
    {P : S16.Idx → BitVec 32} {hx hm} {α : Type} {kont : PUnit → Prog (TpuEff nD τ sig (Elt F) Λ₀ (thr d L).2) α} {Q : α → sProp 𝕄}
    (hoff : off = ![16 * k]) (hP : P = lanes D 1 k) :
    ((aO).view.loc (thr d L) ↦{fullShare} lst D 1 j k)
      ⊢ iprop((((aO).view.loc (thr d L) ↦{fullShare} lst D 1 j (k + 1)) -∗ wp frame (wpE (defs₀ (F := F)) 𝒱₀ (thr d L) none) Set.univ (kont ⟨⟩) Q)
        -∗ wp frame (wpE (defs₀ (F := F)) 𝒱₀ (thr d L) none) Set.univ (.op (.store aO (Rect.unit (s := S64) off S16.size inb) P Finset.univ hx hm) kont) Q) := by
  subst hoff hP
  have e : ((aO).access (Rect.unit (s := S64) ![16 * k] S16.size inb)).write (Elt F) (lst D 1 j k) (lanes D 1 k) Finset.univ = lst D 1 j (k + 1) :=
    (show _ = ((aE).access (Rect.unit (s := S64) ![16 * k] S16.size inb)).write (Elt F) (lst D 1 j k) (lanes D 1 k) Finset.univ from rfl).trans (write_lst (F := F) D 1 j (inb := inb))
  generalize lst D 1 j (k + 1) = A at *
  generalize lst D 1 j k = B at *
  subst e
  refine wp_store (hx := hx) (hm := hm) (k := kont) (Q := Q) 𝒱₀ (thr d L) none Set.univ (m := (aO)) (r := Rect.unit (s := S64) ![16 * k] S16.size inb) (w := lanes D 1 k) (f := B) (S := Finset.univ) (Mk := Finset.univ) ?_
  exact fun x _ => Finset.mem_univ x

end Cert.Proof.Kernel.Comb

end
-- ==== Proof.Kernel.Comb.Copies.lean ====
/-
  The plain copies of a task — its row numbers and its weights in, its combined rows out — and the loop over the rows.
-/
module

public import proofs.«01_k».proof.Proof.Kernel.Comb.Gather
public import proofs.«01_k».proof.Proof.Kernel.Comb.Lists

@[expose] public section

noncomputable section

namespace Cert.Proof.Kernel.Comb

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- A task's number among the 32. -/
def wid (L : grid2.Coords) : ℕ := 2 * (L 1).val + (L 0).val

theorem wid_lt (L : grid2.Coords) : wid L < 32 := by
  have h0 : (L 0).val < 2 := (L 0).isLt
  have h1 : (L 1).val < 16 := (L 1).isLt
  unfold wid
  omega

/-- The task's 128 row numbers. -/
def dBlk (L : grid2.Coords) (f : S4096.Idx → BitVec 32) : S128.Idx → BitVec 32 :=
  fun x => f (ValueIdx.ix1 (n := 4096) ⟨(128 * wid L + (x 0).val) % 4096, Nat.mod_lt _ (by decide)⟩)

/-- The task's 128 weights, and after them what was there before. -/
def wBlk (L : grid2.Coords) (f : S4096.Idx → Elt F .f32) (j : S144.Idx → Elt F .f32) : S144.Idx → Elt F .f32 :=
  fun x => if (x 0).val < 128 then f (ValueIdx.ix1 (n := 4096) ⟨(128 * wid L + (x 0).val) % 4096, Nat.mod_lt _ (by decide)⟩) else j x

abbrev dSl (L : grid2.Coords) : Memref sig .scVector .hbm S128 .i32 := dV.slice (Rect.unit (s := S4096) (k2_off1 L) S128.size (k2_off1_inb L)) (fun _ => rfl)
abbrev wSl (L : grid2.Coords) : Memref sig .scVector .hbm S128 .f32 := wV.slice (Rect.unit (s := S4096) (k2_off1 L) S128.size (k2_off1_inb L)) (fun _ => rfl)
abbrev aWSl : Memref sig .scVector .vmem S128 .f32 := aW.slice (Rect.unit (s := S144) ![0] S128.size inb_S144_S128_0) (fun _ => rfl)
abbrev oSl (L : grid2.Coords) : Memref sig .scVector .hbm S64x768 .f32 := oV.slice (Rect.unit (s := S2048x768) (k2_off51 L) S64x768.size (k2_off51_inb L)) (fun _ => rfl)

/-- Where the task's entry `x` sits among the 4096. -/
theorem emb_off1 (L : grid2.Coords) (x : S128.Idx) : (Rect.unit (s := S4096) (k2_off1 L) S128.size (k2_off1_inb L)).emb x
    = ValueIdx.ix1 (n := 4096) ⟨(128 * wid L + (x 0).val) % 4096, Nat.mod_lt _ (by decide)⟩ := by
  have hw := wid_lt L
  have hx : (x 0).val < 128 := (x 0).isLt
  have e : k2_off1 L 0 = 128 * wid L := by
    rw [k2_off1_eq]
    show 256 * (L 1).val + 128 * (L 0).val = _
    unfold wid
    omega
  refine (eq_ix1 _).trans (congrArg ValueIdx.ix1 (Fin.ext ?_))
  show k2_off1 L 0 + 1 * (x 0).val = _
  rw [e]
  show 128 * wid L + 1 * (x 0).val = (128 * wid L + (x 0).val) % 4096
  omega

theorem read_dSl (L : grid2.Coords) (f : S4096.Idx → BitVec 32) : (dSl L).view.read (Elt F) f = dBlk L f :=
  funext fun x => (show _ = f ((Rect.unit (s := S4096) (k2_off1 L) S128.size (k2_off1_inb L)).emb x) from rfl).trans (congrArg f (emb_off1 L x))

theorem write_aWSl (L : grid2.Coords) (f : S4096.Idx → Elt F .f32) (j : S144.Idx → Elt F .f32) :
    aWSl.view.write (Elt F) j ((wSl L).view.read (Elt F) f) Finset.univ = wBlk L f j := by
  funext z
  by_cases hz : (z 0).val < 128
  · have hxz : aWSl.view.emb (ValueIdx.ix1 (n := 128) ⟨(z 0).val, hz⟩) = z :=
      (eq_ix1 (n := 144) _).trans ((congrArg ValueIdx.ix1 (Fin.ext (show 0 + 1 * (z 0).val = (z 0).val by omega))).trans (eq_ix1 (n := 144) z).symm)
    have h3 := View.write_emb_of_mem (Val := Elt F) (v := aWSl.view) j ((wSl L).view.read (Elt F) f) (Finset.mem_univ (ValueIdx.ix1 (n := 128) ⟨(z 0).val, hz⟩))
    rw [hxz] at h3
    refine h3.trans (Eq.trans ?_ (if_pos hz).symm)
    exact congrArg f (emb_off1 L _)
  · refine (View.write_of_not_mem (Val := Elt F) (v := aWSl.view) j ((wSl L).view.read (Elt F) f) Finset.univ ?_).trans (if_neg hz).symm
    intro hmem
    rw [View.setOn_univ] at hmem
    obtain ⟨x, -, hx⟩ := Finset.mem_map.mp hmem
    have hx0 : (x 0).val < 128 := (x 0).isLt
    have a0 : 0 + 1 * (x 0).val = (z 0).val := congrArg (fun z : S144.Idx => (z 0).val) hx
    omega

/-! ## What the task has computed -/

/-- The combined rows of a task, from its own row numbers and weights. -/
def outBlk (L : grid2.Coords) (y : S8192x768.Idx → Elt F .f32) (fd : S4096.Idx → BitVec 32) (fw : S4096.Idx → Elt F .f32) (j : S144.Idx → Elt F .f32) : S64x768.Idx → Elt F .f32 :=
  accAt (wBlk L fw j) (rowsOf y fun x => dAt (dBlk L fd) (2 * (x 0).val + 0)) (rowsOf y fun x => dAt (dBlk L fd) (2 * (x 0).val + 1)) 64 0

/-- They are rows of the whole result. -/
theorem outBlk_eq (L : grid2.Coords) (y : S8192x768.Idx → Elt F .f32) (fd : S4096.Idx → BitVec 32) (fw : S4096.Idx → Elt F .f32) (j : S144.Idx → Elt F .f32) (x : S64x768.Idx)
    (z : S2048x768.Idx) (h0 : (z 0).val = 64 * wid L + (x 0).val) (h1 : (z 1).val = (x 1).val) : outBlk L y fd fw j x = comb y fd fw z := by
  have hw := wid_lt L
  have hx : (x 0).val < 64 := (x 0).isLt
  have hz : z 1 = x 1 := Fin.ext h1
  have ew : ∀ p, p < 2 → wAt (wBlk L fw j) (2 * (x 0).val + p) = fw (ValueIdx.ix1 (n := 4096) ⟨(128 * wid L + (2 * (x 0).val + p)) % 4096, Nat.mod_lt _ (by decide)⟩) := fun p hp => by
    have e : (2 * (x 0).val + p) % 144 = 2 * (x 0).val + p := by omega
    unfold wAt wBlk
    refine (if_pos (show (2 * (x 0).val + p) % 144 < 128 by omega)).trans (congrArg fw (congrArg ValueIdx.ix1 (Fin.ext ?_)))
    show (128 * wid L + (2 * (x 0).val + p) % 144) % 4096 = _
    rw [e]
  have ed : ∀ p, p < 2 → dAt (dBlk L fd) (2 * (x 0).val + p) = fd (ValueIdx.ix1 (n := 4096) ⟨(128 * wid L + (2 * (x 0).val + p)) % 4096, Nat.mod_lt _ (by decide)⟩) := fun p hp => by
    have e : (2 * (x 0).val + p) % 128 = 2 * (x 0).val + p := by omega
    unfold dAt dBlk
    refine congrArg fd (congrArg ValueIdx.ix1 (Fin.ext ?_))
    show (128 * wid L + (2 * (x 0).val + p) % 128) % 4096 = _
    rw [e]
  have e0 : (ValueIdx.ix1 (n := 4096) ⟨(128 * wid L + (2 * (x 0).val + 0)) % 4096, Nat.mod_lt _ (by decide)⟩ : S4096.Idx) = pl0 (z 0) :=
    congrArg ValueIdx.ix1 (Fin.ext (show (128 * wid L + (2 * (x 0).val + 0)) % 4096 = 2 * (z 0).val by omega))
  have e1 : (ValueIdx.ix1 (n := 4096) ⟨(128 * wid L + (2 * (x 0).val + 1)) % 4096, Nat.mod_lt _ (by decide)⟩ : S4096.Idx) = pl1 (z 0) :=
    congrArg ValueIdx.ix1 (Fin.ext (show (128 * wid L + (2 * (x 0).val + 1)) % 4096 = 2 * (z 0).val + 1 by omega))
  have w0 := (ew 0 (by decide)).trans (congrArg fw e0)
  have w1 := (ew 1 (by decide)).trans (congrArg fw e1)
  have d0 := (ed 0 (by decide)).trans (congrArg fd e0)
  have d1 := (ed 1 (by decide)).trans (congrArg fd e1)
  unfold outBlk accAt comb combAt
  rw [if_pos (.inl hx)]
  show FloatOps.addf (φ := .f32) (FloatOps.mulf (wAt (wBlk L fw j) (2 * (x 0).val + 0)) (rowAt y (dAt (dBlk L fd) (2 * (x 0).val + 0)) (x 1)))
    (FloatOps.mulf (wAt (wBlk L fw j) (2 * (x 0).val + 1)) (rowAt y (dAt (dBlk L fd) (2 * (x 0).val + 1)) (x 1))) = _
  rw [w0, w1, d0, d1, hz]

theorem write_oSl (L : grid2.Coords) (y : S8192x768.Idx → Elt F .f32) (fd : S4096.Idx → BitVec 32) (fw : S4096.Idx → Elt F .f32) (j : S144.Idx → Elt F .f32)
    (fo : S2048x768.Idx → Elt F .f32) (z : S2048x768.Idx) (hz : z ∈ (oSl L).view.set) :
    (oSl L).view.write (Elt F) fo (outBlk L y fd fw j) Finset.univ z = comb y fd fw z := by
  obtain ⟨x, -, hx⟩ := Finset.mem_map.mp hz
  have h3 := View.write_emb_of_mem (Val := Elt F) (v := (oSl L).view) fo (outBlk L y fd fw j) (Finset.mem_univ x)
  have hx' : (oSl L).view.emb x = z := hx
  rw [hx'] at h3
  refine h3.trans (outBlk_eq L y fd fw j x z ?_ ?_)
  · have a : k2_off51 L 0 + 1 * (x 0).val = (z 0).val := congrArg (fun z : S2048x768.Idx => (z 0).val) hx
    have b : k2_off51 L 0 = 128 * (L 1).val + 64 * (L 0).val := by rw [k2_off51_eq]; rfl
    unfold wid
    omega
  · have a : k2_off51 L 1 + 1 * (x 1).val = (z 1).val := congrArg (fun z : S2048x768.Idx => (z 1).val) hx
    have b : k2_off51 L 1 = 0 := by rw [k2_off51_eq]; rfl
    omega

/-! ## The steps -/

variable (d : Dev nD) (L : grid2.Coords)

/-- The row numbers' copy. -/
theorem fetchD {q : PosShare TreeShare} {fd : S4096.Idx → BitVec 32} {j : S128.Idx → BitVec 32} {sem : DmaSem sig} {hsrc hdst hsem} {α : Type} {Q : α → sProp 𝕄}
    {k : PUnit → Prog (TpuEff nD τ sig (Elt F) Λ₀ (thr d L).2) α} :
    iprop(((dV).view.loc (thr d L) ↦{q} fd) ∗ ((aD).view.loc (thr d L) ↦{fullShare} j) ∗ semVal (thr d L, SemLoc.dma sem) 0)
      ⊢ iprop((Flight countersEmb (thr d L) (.dma sem) (default : HIx 2) (aD).view.dmaCredit
            iprop(((aD).view.loc (thr d L) ↦{fullShare} dBlk L fd) ∗ ((dV).view.loc (thr d L) ↦{q} fd))
          -∗ wp frame (wpE (defs₀ (F := F)) 𝒱₀ (thr d L) none) Set.univ (k ⟨⟩) Q)
        -∗ wp frame (wpE (defs₀ (F := F)) 𝒱₀ (thr d L) none) Set.univ (.op (.enqueueDma (dSl L) (.here aD) (.dma sem) hsrc hdst hsem) k) Q) := by
  have e : (aD).view.write (Elt F) j ((dSl L).view.read (Elt F) fd) Finset.univ = dBlk L fd := by
    rw [read_dSl]; exact View.write_whole_univ _ _ _
  rw [← e]
  exact Transfers.wp_dmaFromWhole countersEmb 𝒱₀ (thr d L) none (src := dSl L) (via := .same) (dst := aD) (sm := .dma sem) (hsrc := hsrc) (hdst := hdst) (hsem := hsem)
    (k := k) (q := q) (fs := fd) (Sd := Finset.univ) (fd := j) (default : HIx 2) _ rfl (View.amount_pos aD.view (.dma sem) (show 0 < S128.numel by decide)) (Finset.subset_univ _)

/-- The weights' copy. -/
theorem fetchW {q : PosShare TreeShare} {fw : S4096.Idx → Elt F .f32} {j : S144.Idx → Elt F .f32} {sem : DmaSem sig} {hsrc hdst hsem} {α : Type} {Q : α → sProp 𝕄}
    {k : PUnit → Prog (TpuEff nD τ sig (Elt F) Λ₀ (thr d L).2) α} :
    iprop(((wV).view.loc (thr d L) ↦{q} fw) ∗ ((aW).view.loc (thr d L) ↦{fullShare} j) ∗ semVal (thr d L, SemLoc.dma sem) 0)
      ⊢ iprop((Flight countersEmb (thr d L) (.dma sem) (default : HIx 2) (aWSl).view.dmaCredit
            iprop(((aW).view.loc (thr d L) ↦{fullShare} wBlk L fw j) ∗ ((wV).view.loc (thr d L) ↦{q} fw))
          -∗ wp frame (wpE (defs₀ (F := F)) 𝒱₀ (thr d L) none) Set.univ (k ⟨⟩) Q)
        -∗ wp frame (wpE (defs₀ (F := F)) 𝒱₀ (thr d L) none) Set.univ (.op (.enqueueDma (wSl L) (.here aWSl) (.dma sem) hsrc hdst hsem) k) Q) := by
  rw [← write_aWSl]
  exact Transfers.wp_dmaFromWhole countersEmb 𝒱₀ (thr d L) none (src := wSl L) (via := .same) (dst := aWSl) (sm := .dma sem) (hsrc := hsrc) (hdst := hdst) (hsem := hsem)
    (k := k) (q := q) (fs := fw) (Sd := Finset.univ) (fd := j) (default : HIx 2) _ rfl (View.amount_pos aWSl.view (.dma sem) (show 0 < S128.numel by decide)) (Finset.subset_univ _)

/-- The combined rows' copy out. -/
theorem writeOut {y : S8192x768.Idx → Elt F .f32} {fd : S4096.Idx → BitVec 32} {fw : S4096.Idx → Elt F .f32} {j : S144.Idx → Elt F .f32}
    {fo : S2048x768.Idx → Elt F .f32} {sem : DmaSem sig} {hsrc hdst hsem} {α : Type} {Q : α → sProp 𝕄}
    {k : PUnit → Prog (TpuEff nD τ sig (Elt F) Λ₀ (thr d L).2) α} :
    iprop(((aA).view.loc (thr d L) ↦{fullShare} outBlk L y fd fw j) ∗ ((oV).view.loc (thr d L) ↦[(oSl L).view.set]{fullShare} fo) ∗ semVal (thr d L, SemLoc.dma sem) 0)
      ⊢ iprop((Flight countersEmb (thr d L) (.dma sem) (default : HIx 2) (oSl L).view.dmaCredit
            iprop(((oV).view.loc (thr d L) ↦[(oSl L).view.set]{fullShare} comb y fd fw) ∗ ((aA).view.loc (thr d L) ↦{fullShare} outBlk L y fd fw j))
          -∗ wp frame (wpE (defs₀ (F := F)) 𝒱₀ (thr d L) none) Set.univ (k ⟨⟩) Q)
        -∗ wp frame (wpE (defs₀ (F := F)) 𝒱₀ (thr d L) none) Set.univ (.op (.enqueueDma aA (.here (oSl L)) (.dma sem) hsrc hdst hsem) k) Q) := by
  have e : ((oV).view.loc (thr d L) ↦[(oSl L).view.set]{fullShare} comb y fd fw : sProp 𝕄)
      = ((oV).view.loc (thr d L) ↦[(oSl L).view.set]{fullShare} (oSl L).view.write (Elt F) fo (outBlk L y fd fw j) Finset.univ) :=
    pointsTo_congr fun z hz => (write_oSl L y fd fw j fo z hz).symm
  rw [e]
  exact Transfers.wp_dmaFromWhole countersEmb 𝒱₀ (thr d L) none (src := aA) (via := .same) (dst := oSl L) (sm := .dma sem) (hsrc := hsrc) (hdst := hdst) (hsem := hsem)
    (k := k) (q := fullShare) (fs := outBlk L y fd fw j) (Sd := (oSl L).view.set) (fd := fo) (default : HIx 2) _ rfl (View.amount_pos (oSl L).view (.dma sem) (show 0 < S64x768.numel by decide)) (Finset.Subset.refl _)

/-- The loop: every row combined. -/
theorem loop {w : S144.Idx → Elt F .f32} {g₀ g₁ : S64x768.Idx → Elt F .f32} {α : Type} {Q : α → sProp 𝕄} {k : PUnit → Prog (TpuEff nD τ sig (Elt F) Λ₀ (thr d L).2) α}
    {b : Fin k2_t1_loop.trips → PUnit → Prog (TpuEff nD τ sig (Elt F) Λ₀ (thr d L).2) PUnit} (hb : b = fun t _ => body d L t) :
    iprop(((aW).view.loc (thr d L) ↦{fullShare} w) ∗ ((aA).view.loc (thr d L) ↦{fullShare} g₀) ∗ ((aB).view.loc (thr d L) ↦{fullShare} g₁))
      ⊢ iprop((((aW).view.loc (thr d L) ↦{fullShare} w) -∗ ((aA).view.loc (thr d L) ↦{fullShare} accAt w g₀ g₁ 64 0) -∗ ((aB).view.loc (thr d L) ↦{fullShare} g₁)
          -∗ wp frame (wpE (defs₀ (F := F)) 𝒱₀ (thr d L) none) Set.univ (k ⟨⟩) Q)
        -∗ wp frame (wpE (defs₀ (F := F)) 𝒱₀ (thr d L) none) Set.univ (Scf.Loop.for k2_t1_loop k2_t1_ok ⟨⟩ b >>= k) Q) := by
  subst hb
  have e0 : accAt w g₀ g₁ 0 0 = g₀ := funext fun x => if_neg (by omega)
  have et : Scf.trips k2_t1_loop.lb k2_t1_loop.ub k2_t1_loop.st = 64 := by decide
  iintro ⟨Hw, Ha, Hb⟩ Hk
  iapply (Scf.wp_for_bind _ _ _ k2_t1_loop.lb k2_t1_loop.ub k2_t1_loop.st k2_t1_ok ⟨⟩ (fun t _ => body d L t)
    (fun n _ => iprop(((aW).view.loc (thr d L) ↦{fullShare} w) ∗ ((aA).view.loc (thr d L) ↦{fullShare} accAt w g₀ g₁ n 0) ∗ ((aB).view.loc (thr d L) ↦{fullShare} g₁)))
    (fun t _ => trip d L t w g₀ g₁)) $$ [Hw Ha Hb]
  · rw [e0]; iframe Hw Ha Hb
  iintro %u ⟨Hw, Ha, Hb⟩
  rw [et]
  iapply Hk $$ Hw Ha Hb

end Cert.Proof.Kernel.Comb

end
-- ==== Proof.Kernel.Comb.Tile.lean ====
/-
  One task from its start to its end: it takes read shares of the expert outputs, of the row numbers and of the weights, and its block of result rows, and brings them back, the block
  holding the combined rows.
-/
module

public import proofs.«01_k».proof.Proof.Kernel.Comb.Copies

@[expose] public section

noncomputable section

namespace Cert.Proof.Kernel.Comb

open Cert.Kernel Cert.Kernel.Gen

open Idealize.ShloMosaic
open Idealize.ShloMosaic.ValueIdx (ix2 eq_ix1 eq_ix2)
open Idealize.ShloMosaic.SparseCore (S V T)
open Idealize.ShloMosaic.SparseCore.Cfg (HIx Pay tileRest ownBufs ownSems0 ownCells ownRefs mem_ownCells mem_ownRefs mem_ownRefs_of_owner)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid2.Coords)

/-! ## A subcore's own semaphores and buffers -/

/-- The task's four semaphores. -/
def semOf : Fin 4 → DmaSem sig
  | 0 => cc2_scoped0.sem
  | 1 => cc2_scoped1.sem
  | 2 => cc2_scratch6.sem
  | 3 => cc2_scoped2.sem

/-- The task's six buffers. -/
def bufOf : Fin 6 → Ref sig .scVector
  | 0 => cc2_scratch0
  | 1 => cc2_scratch1
  | 2 => cc2_scratch2
  | 3 => cc2_scratch3
  | 4 => cc2_scratch4
  | 5 => cc2_scratch5

theorem semOf_inj : Function.Injective semOf := by decide
theorem bufOf_inj : Function.Injective bufOf := by decide

def cells : Fin 4 ↪ GSem nD τ sig := ⟨fun i => (thr d L, .dma (semOf i)), fun i j h => semOf_inj (by injection h with _ h; injection h)⟩
def refs : Fin 6 ↪ DevRef τ sig := ⟨fun i => (Proc.scVector (cV L) (jV L)).devRef (bufOf i), fun _ _ h => bufOf_inj (Proc.devRef_injective _ h)⟩

theorem cells_sub : Finset.univ.map (cells d L) ⊆ ownCells (thr d L) := by
  intro g hg
  obtain ⟨i, -, rfl⟩ := Finset.mem_map.mp hg
  have h : ∀ i, (SemLoc.dma (semOf i) : SemLoc sig).isScoped .scVector = true := by decide
  exact mem_ownCells.mpr ⟨rfl, h i⟩

theorem refs_sub : Finset.univ.map (refs L) ⊆ ownRefs (τ := τ) (sig := sig) (Proc.scVector (cV L) (jV L)) := by
  intro b hb
  obtain ⟨i, -, rfl⟩ := Finset.mem_map.mp hb
  clear hb
  refine mem_ownRefs_of_owner ?_
  fin_cases i <;> rfl

/-- The semaphores at zero: the task's four and the rest. -/
theorem sems_split : (ownSems0 (thr d L) : sProp 𝕄)
    = iprop((semVal (thr d L, .dma cc2_scoped0.sem) 0 ∗ semVal (thr d L, .dma cc2_scoped1.sem) 0 ∗ semVal (thr d L, .dma cc2_scratch6.sem) 0
        ∗ semVal (thr d L, .dma cc2_scoped2.sem) 0) ∗ bigSep (ownCells (thr d L) \ Finset.univ.map (cells d L)) fun g => semVal g 0) := by
  unfold SparseCore.Cfg.ownSems0
  rw [bigSep_sdiff_split (cells_sub d L), bigSep_map, bigSep_univ_eq_bigSepL [0, 1, 2, 3] (by decide) (by decide)]
  rfl

/-- The buffers at some contents: the task's six and the rest. -/
theorem bufs_split : (ownBufs (thr d L) : sProp 𝕄)
    = iprop(((∃ f, (aD).view.loc (thr d L) ↦{fullShare} f) ∗ (∃ f, (aW).view.loc (thr d L) ↦{fullShare} f) ∗ (∃ f, (aE).view.loc (thr d L) ↦{fullShare} f)
        ∗ (∃ f, (aO).view.loc (thr d L) ↦{fullShare} f) ∗ (∃ f, (aA).view.loc (thr d L) ↦{fullShare} f) ∗ (∃ f, (aB).view.loc (thr d L) ↦{fullShare} f))
        ∗ bigSep (ownRefs (τ := τ) (Proc.scVector (cV L) (jV L)) \ Finset.univ.map (refs L)) fun b => iprop(∃ f, ((d, b) : Loc nD τ sig) ↦{fullShare} f)) := by
  unfold SparseCore.Cfg.ownBufs
  refine (bigSep_sdiff_split (refs_sub L)).trans ?_
  rw [bigSep_map, bigSep_univ_eq_bigSepL [0, 1, 2, 3, 4, 5] (by decide) (by decide)]
  rfl

/-! ## The task -/

/-- The kernel's function on one vector subcore. -/
abbrev task : Prog (TpuEff nD τ sig (Elt F) Λ₀ (thr d L).2) PUnit :=
  cc2__combine_body L yV (Memref.isWhole_whole _) dV (Memref.isWhole_whole _) wV (Memref.isWhole_whole _) oV (Memref.isWhole_whole _) aD (Memref.isWhole_whole _)
    aW (Memref.isWhole_whole _) aE (Memref.isWhole_whole _) aO (Memref.isWhole_whole _) aA (Memref.isWhole_whole _) aB (Memref.isWhole_whole _)
    cc2_scratch6 cc2_scoped0 cc2_scoped1 cc2_scoped2

set_option maxHeartbeats 4000000 in
/-- The task's program from its buffers and semaphores. -/
theorem task_wp {O : CellTallies nD τ sig (HIx 2)} {W : Waits sig (HIx 2)} {q : PosShare TreeShare} (y : S8192x768.Idx → Elt F .f32) (fd : S4096.Idx → BitVec 32)
    (fw : S4096.Idx → Elt F .f32) (fo : S2048x768.Idx → Elt F .f32) (hlt : ∀ x, (fd x).toNat < 8192) (j0 : S128.Idx → BitVec 32) (j1 : S144.Idx → Elt F .f32)
    (j2 j3 : S64.Idx → BitVec 32) (j4 j5 : S64x768.Idx → Elt F .f32) :
    iprop(MayWaits (thr d L) (default : HIx 2) O ∗ Owe (thr d L) O W
        ∗ (((yV).view.loc (thr d L) ↦{q} y) ∗ ((dV).view.loc (thr d L) ↦{q} fd) ∗ ((wV).view.loc (thr d L) ↦{q} fw) ∗ ((oV).view.loc (thr d L) ↦[(oSl L).view.set]{fullShare} fo))
        ∗ (((aD).view.loc (thr d L) ↦{fullShare} j0) ∗ ((aW).view.loc (thr d L) ↦{fullShare} j1) ∗ ((aE).view.loc (thr d L) ↦{fullShare} j2)
          ∗ ((aO).view.loc (thr d L) ↦{fullShare} j3) ∗ ((aA).view.loc (thr d L) ↦{fullShare} j4) ∗ ((aB).view.loc (thr d L) ↦{fullShare} j5))
        ∗ (semVal (thr d L, .dma cc2_scoped0.sem) 0 ∗ semVal (thr d L, .dma cc2_scoped1.sem) 0 ∗ semVal (thr d L, .dma cc2_scratch6.sem) 0
          ∗ semVal (thr d L, .dma cc2_scoped2.sem) 0))
      ⊢ wp (M := 𝕄) frame (wpE (defs₀ (F := F)) 𝒱₀ (thr d L) none) Set.univ (task d L) fun _ => iprop(Owe (thr d L) O W
        ∗ (((yV).view.loc (thr d L) ↦{q} y) ∗ ((dV).view.loc (thr d L) ↦{q} fd) ∗ ((wV).view.loc (thr d L) ↦{q} fw)
          ∗ ((oV).view.loc (thr d L) ↦[(oSl L).view.set]{fullShare} comb y fd fw))
        ∗ ((∃ f, (aD).view.loc (thr d L) ↦{fullShare} f) ∗ (∃ f, (aW).view.loc (thr d L) ↦{fullShare} f) ∗ (∃ f, (aE).view.loc (thr d L) ↦{fullShare} f)
          ∗ (∃ f, (aO).view.loc (thr d L) ↦{fullShare} f) ∗ (∃ f, (aA).view.loc (thr d L) ↦{fullShare} f) ∗ (∃ f, (aB).view.loc (thr d L) ↦{fullShare} f))
        ∗ (semVal (thr d L, .dma cc2_scoped0.sem) 0 ∗ semVal (thr d L, .dma cc2_scoped1.sem) 0 ∗ semVal (thr d L, .dma cc2_scratch6.sem) 0
          ∗ semVal (thr d L, .dma cc2_scoped2.sem) 0)) := by
  have z0 := lst_zero (dBlk L fd) 0 j2
  have z1 := lst_zero (dBlk L fd) 1 j3
  obtain ⟨e0, he0⟩ : ∃ e : S64.Idx → BitVec 32, e = fun x => dAt (dBlk L fd) (2 * (x 0).val + 0) := ⟨_, rfl⟩
  obtain ⟨e1, he1⟩ : ∃ e : S64.Idx → BitVec 32, e = fun x => dAt (dBlk L fd) (2 * (x 0).val + 1) := ⟨_, rfl⟩
  have f0 : lst (dBlk L fd) 0 j2 (3 + 1) = e0 := (lst_four _ _ _).trans he0.symm
  have f1 : lst (dBlk L fd) 1 j3 (3 + 1) = e1 := (lst_four _ _ _).trans he1.symm
  have l0 : ∀ x, (e0 x).toNat < 8192 := fun x => by rw [he0]; exact hlt _
  have l1 : ∀ x, (e1 x).toNat < 8192 := fun x => by rw [he1]; exact hlt _
  have y0 := gath_zero y e0 j4
  have y1 := gath_zero y e1 j5
  have s0 : gath y e0 j4 (5 + 1) = _ := gath_six _ _ _
  have s1 : gath y e1 j5 (5 + 1) = _ := gath_six _ _ _
  unfold task cc2__combine_body
  iintro ⟨#Hm, HO, ⟨Hy, Hd, Hw, Ho⟩, ⟨H0, H1, H2, H3, H4, H5⟩, ⟨S0, S1, S2, S3⟩⟩
  iapply (fetchD d L) $$ [Hd H0 S0]; (on_goal 1 => iframe Hd H0 S0)
  iintro Hf
  iapply (wait_copy (thr d L)) $$ [Hf HO]; (on_goal 1 => iframe Hf HO; iexact Hm)
  iintro ⟨⟨H0, Hd⟩, S0, HO⟩
  iapply (fetchW d L) $$ [Hw H1 S1]; (on_goal 1 => iframe Hw H1 S1)
  iintro Hf
  iapply (wait_copy (thr d L)) $$ [Hf HO]; (on_goal 1 => iframe Hf HO; iexact Hm)
  iintro ⟨⟨H1, Hw⟩, S1, HO⟩
  rw [← z0, ← z1]
  iapply (assume_step (thr d L) ?h); case h => exact chk_of 0 0 (by decide) (by decide) (by decide +kernel)
  iapply (loadD d L) $$ H0; iintro H0
  iapply (wp_load 𝒱₀ (thr d L) none Set.univ (m := aE) (S := Finset.univ) (Finset.subset_univ _)) $$ H2; iintro H2
  iapply (storeE d L (k := 0) ?hoff ?hP) $$ H2; case hoff => rfl
  case hP => exact lanes_eq (by decide) (by decide) (by decide +kernel)
  iintro H2
  iapply (assume_step (thr d L) ?h); case h => exact chk_of 0 1 (by decide) (by decide) (by decide +kernel)
  iapply (loadD d L) $$ H0; iintro H0
  iapply (wp_load 𝒱₀ (thr d L) none Set.univ (m := aO) (S := Finset.univ) (Finset.subset_univ _)) $$ H3; iintro H3
  iapply (storeO d L (k := 0) ?hoff ?hP) $$ H3; case hoff => rfl
  case hP => exact lanes_eq (by decide) (by decide) (by decide +kernel)
  iintro H3
  iapply (assume_step (thr d L) ?h); case h => exact chk_of 1 0 (by decide) (by decide) (by decide +kernel)
  iapply (loadD d L) $$ H0; iintro H0
  iapply (wp_load 𝒱₀ (thr d L) none Set.univ (m := aE) (S := Finset.univ) (Finset.subset_univ _)) $$ H2; iintro H2
  iapply (storeE d L (k := 1) ?hoff ?hP) $$ H2; case hoff => rfl
  case hP => exact lanes_eq (by decide) (by decide) (by decide +kernel)
  iintro H2
  iapply (assume_step (thr d L) ?h); case h => exact chk_of 1 1 (by decide) (by decide) (by decide +kernel)
  iapply (loadD d L) $$ H0; iintro H0
  iapply (wp_load 𝒱₀ (thr d L) none Set.univ (m := aO) (S := Finset.univ) (Finset.subset_univ _)) $$ H3; iintro H3
  iapply (storeO d L (k := 1) ?hoff ?hP) $$ H3; case hoff => rfl
  case hP => exact lanes_eq (by decide) (by decide) (by decide +kernel)
  iintro H3
  iapply (assume_step (thr d L) ?h); case h => exact chk_of 2 0 (by decide) (by decide) (by decide +kernel)
  iapply (loadD d L) $$ H0; iintro H0
  iapply (wp_load 𝒱₀ (thr d L) none Set.univ (m := aE) (S := Finset.univ) (Finset.subset_univ _)) $$ H2; iintro H2
  iapply (storeE d L (k := 2) ?hoff ?hP) $$ H2; case hoff => rfl
  case hP => exact lanes_eq (by decide) (by decide) (by decide +kernel)
  iintro H2
  iapply (assume_step (thr d L) ?h); case h => exact chk_of 2 1 (by decide) (by decide) (by decide +kernel)
  iapply (loadD d L) $$ H0; iintro H0
  iapply (wp_load 𝒱₀ (thr d L) none Set.univ (m := aO) (S := Finset.univ) (Finset.subset_univ _)) $$ H3; iintro H3
  iapply (storeO d L (k := 2) ?hoff ?hP) $$ H3; case hoff => rfl
  case hP => exact lanes_eq (by decide) (by decide) (by decide +kernel)
  iintro H3
  iapply (assume_step (thr d L) ?h); case h => exact chk_of 3 0 (by decide) (by decide) (by decide +kernel)
  iapply (loadD d L) $$ H0; iintro H0
  iapply (wp_load 𝒱₀ (thr d L) none Set.univ (m := aE) (S := Finset.univ) (Finset.subset_univ _)) $$ H2; iintro H2
  iapply (storeE d L (k := 3) ?hoff ?hP) $$ H2; case hoff => rfl
  case hP => exact lanes_eq (by decide) (by decide) (by decide +kernel)
  iintro H2
  iapply (assume_step (thr d L) ?h); case h => exact chk_of 3 1 (by decide) (by decide) (by decide +kernel)
  iapply (loadD d L) $$ H0; iintro H0
  iapply (wp_load 𝒱₀ (thr d L) none Set.univ (m := aO) (S := Finset.univ) (Finset.subset_univ _)) $$ H3; iintro H3
  iapply (storeO d L (k := 3) ?hoff ?hP) $$ H3; case hoff => rfl
  case hP => exact lanes_eq (by decide) (by decide) (by decide +kernel)
  iintro H3
  rw [f0, f1, ← y0, ← y1]
  iapply (gatherA d L (c := 0) (hp := rfl) (hn := rfl) (hsrc := View.wordExact_bits rfl) (he := rfl) (hsp := .inl rfl) (hr := by decide) rfl rfl l0) $$ [Hy H4 H2 S2]; (on_goal 1 => iframe Hy H4 H2 S2)
  iintro Hf
  iapply (wait_copy (thr d L)) $$ [Hf HO]; (on_goal 1 => iframe Hf HO; iexact Hm)
  iintro ⟨⟨H4, Hy, H2⟩, S2, HO⟩
  iapply (gatherB d L (c := 0) (hp := rfl) (hn := rfl) (hsrc := View.wordExact_bits rfl) (he := rfl) (hsp := .inl rfl) (hr := by decide) rfl rfl l1) $$ [Hy H5 H3 S2]; (on_goal 1 => iframe Hy H5 H3 S2)
  iintro Hf
  iapply (wait_copy (thr d L)) $$ [Hf HO]; (on_goal 1 => iframe Hf HO; iexact Hm)
  iintro ⟨⟨H5, Hy, H3⟩, S2, HO⟩
  iapply (gatherA d L (c := 1) (hp := rfl) (hn := rfl) (hsrc := View.wordExact_bits rfl) (he := rfl) (hsp := .inl rfl) (hr := by decide) rfl rfl l0) $$ [Hy H4 H2 S2]; (on_goal 1 => iframe Hy H4 H2 S2)
  iintro Hf
  iapply (wait_copy (thr d L)) $$ [Hf HO]; (on_goal 1 => iframe Hf HO; iexact Hm)
  iintro ⟨⟨H4, Hy, H2⟩, S2, HO⟩
  iapply (gatherB d L (c := 1) (hp := rfl) (hn := rfl) (hsrc := View.wordExact_bits rfl) (he := rfl) (hsp := .inl rfl) (hr := by decide) rfl rfl l1) $$ [Hy H5 H3 S2]; (on_goal 1 => iframe Hy H5 H3 S2)
  iintro Hf
  iapply (wait_copy (thr d L)) $$ [Hf HO]; (on_goal 1 => iframe Hf HO; iexact Hm)
  iintro ⟨⟨H5, Hy, H3⟩, S2, HO⟩
  iapply (gatherA d L (c := 2) (hp := rfl) (hn := rfl) (hsrc := View.wordExact_bits rfl) (he := rfl) (hsp := .inl rfl) (hr := by decide) rfl rfl l0) $$ [Hy H4 H2 S2]; (on_goal 1 => iframe Hy H4 H2 S2)
  iintro Hf
  iapply (wait_copy (thr d L)) $$ [Hf HO]; (on_goal 1 => iframe Hf HO; iexact Hm)
  iintro ⟨⟨H4, Hy, H2⟩, S2, HO⟩
  iapply (gatherB d L (c := 2) (hp := rfl) (hn := rfl) (hsrc := View.wordExact_bits rfl) (he := rfl) (hsp := .inl rfl) (hr := by decide) rfl rfl l1) $$ [Hy H5 H3 S2]; (on_goal 1 => iframe Hy H5 H3 S2)
  iintro Hf
  iapply (wait_copy (thr d L)) $$ [Hf HO]; (on_goal 1 => iframe Hf HO; iexact Hm)
  iintro ⟨⟨H5, Hy, H3⟩, S2, HO⟩
  iapply (gatherA d L (c := 3) (hp := rfl) (hn := rfl) (hsrc := View.wordExact_bits rfl) (he := rfl) (hsp := .inl rfl) (hr := by decide) rfl rfl l0) $$ [Hy H4 H2 S2]; (on_goal 1 => iframe Hy H4 H2 S2)
  iintro Hf
  iapply (wait_copy (thr d L)) $$ [Hf HO]; (on_goal 1 => iframe Hf HO; iexact Hm)
  iintro ⟨⟨H4, Hy, H2⟩, S2, HO⟩
  iapply (gatherB d L (c := 3) (hp := rfl) (hn := rfl) (hsrc := View.wordExact_bits rfl) (he := rfl) (hsp := .inl rfl) (hr := by decide) rfl rfl l1) $$ [Hy H5 H3 S2]; (on_goal 1 => iframe Hy H5 H3 S2)
  iintro Hf
  iapply (wait_copy (thr d L)) $$ [Hf HO]; (on_goal 1 => iframe Hf HO; iexact Hm)
  iintro ⟨⟨H5, Hy, H3⟩, S2, HO⟩
  iapply (gatherA d L (c := 4) (hp := rfl) (hn := rfl) (hsrc := View.wordExact_bits rfl) (he := rfl) (hsp := .inl rfl) (hr := by decide) rfl rfl l0) $$ [Hy H4 H2 S2]; (on_goal 1 => iframe Hy H4 H2 S2)
  iintro Hf
  iapply (wait_copy (thr d L)) $$ [Hf HO]; (on_goal 1 => iframe Hf HO; iexact Hm)
  iintro ⟨⟨H4, Hy, H2⟩, S2, HO⟩
  iapply (gatherB d L (c := 4) (hp := rfl) (hn := rfl) (hsrc := View.wordExact_bits rfl) (he := rfl) (hsp := .inl rfl) (hr := by decide) rfl rfl l1) $$ [Hy H5 H3 S2]; (on_goal 1 => iframe Hy H5 H3 S2)
  iintro Hf
  iapply (wait_copy (thr d L)) $$ [Hf HO]; (on_goal 1 => iframe Hf HO; iexact Hm)
  iintro ⟨⟨H5, Hy, H3⟩, S2, HO⟩
  iapply (gatherA d L (c := 5) (hp := rfl) (hn := rfl) (hsrc := View.wordExact_bits rfl) (he := rfl) (hsp := .inl rfl) (hr := by decide) rfl rfl l0) $$ [Hy H4 H2 S2]; (on_goal 1 => iframe Hy H4 H2 S2)
  iintro Hf
  iapply (wait_copy (thr d L)) $$ [Hf HO]; (on_goal 1 => iframe Hf HO; iexact Hm)
  iintro ⟨⟨H4, Hy, H2⟩, S2, HO⟩
  iapply (gatherB d L (c := 5) (hp := rfl) (hn := rfl) (hsrc := View.wordExact_bits rfl) (he := rfl) (hsp := .inl rfl) (hr := by decide) rfl rfl l1) $$ [Hy H5 H3 S2]; (on_goal 1 => iframe Hy H5 H3 S2)
  iintro Hf
  iapply (wait_copy (thr d L)) $$ [Hf HO]; (on_goal 1 => iframe Hf HO; iexact Hm)
  iintro ⟨⟨H5, Hy, H3⟩, S2, HO⟩
  rw [s0, s1]
  iapply (loop d L rfl) $$ [H1 H4 H5]; (on_goal 1 => iframe H1 H4 H5)
  iintro H1 H4 H5
  subst he0 he1
  iapply (writeOut d L (y := y) (fd := fd) (fw := fw) (j := j1) (fo := fo)) $$ [H4 Ho S3]; (on_goal 1 => iframe Ho S3; iexact H4)
  iintro Hf
  iapply (wait_copy (thr d L)) $$ [Hf HO]; (on_goal 1 => iframe Hf HO; iexact Hm)
  iintro ⟨⟨Ho, H4⟩, S3, HO⟩
  iapply (le_wp_ret ())
  iframe HO Hy Hd Hw Ho S0 S1 S2 S3
  isplitl [H0]; · iexists _; iexact H0
  isplitl [H1]; · iexists _; iexact H1
  isplitl [H2]; · iexists _; iexact H2
  isplitl [H3]; · iexists _; iexact H3
  isplitl [H4]; · iexists _; iexact H4
  iexists _; iexact H5

end Cert.Proof.Kernel.Comb

end
-- ==== Proof.Kernel.Deal.lean ====
/-
  What the two SparseCore calls hand their tasks and take back: each array read by all in shares, each array written in parts, and what the whole arrays are beside these parts.
-/
module

public import proofs.«01_k».proof.Proof.Kernel.Total
public import proofs.«01_k».proof.Proof.Kernel.Route.Tile
public import proofs.«01_k».proof.Proof.Kernel.Comb.Tile

@[expose] public section

noncomputable section

namespace Cert.Proof.Kernel

open Cert.Kernel Cert.Kernel.Gen

open Idealize.ShloMosaic
open Idealize.ShloMosaic.ValueIdx (ix2)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 2) (Elt F) ℕ UU ℕ

/-! ## Shares and parts -/

/-- Task `w`'s part of the share of an array that every task reads. -/
def part (w : ℕ) : PosShare TreeShare := leaf 5 fullShare ⟨w % 32, Nat.mod_lt _ (by decide)⟩

theorem shares {ℓ : Loc nD τ sig} (f : Buf (Elt F) ℓ) : (ℓ ↦{fullShare} f : sProp 𝕄) = bigSep Finset.univ fun i : Fin 32 => ℓ ↦{part i.val} f := by
  refine (pointsTo_leaves Finset.univ f 5 fullShare).trans (bigSep_congr fun i _ => ?_)
  have e : (⟨i.val % 32, Nat.mod_lt _ (by decide)⟩ : Fin (2 ^ 5)) = i := Fin.ext (Nat.mod_eq_of_lt i.isLt)
  unfold part
  rw [e]

/-- The rows of the result that task `w` writes, -/
def outRows (w : ℕ) : Finset S2048x768.Idx := Finset.univ.filter fun z => (z 0).val / 64 = w
/-- the entries whose rows' numbers it writes, -/
def entries (w : ℕ) : Finset S4096.Idx := Finset.univ.filter fun z => (z 0).val / 128 = w
open Classical in
/-- and the rows of these entries. -/
def mine (te : S4096.Idx → BitVec 32) (w : ℕ) : Finset S8192x768.Idx := Finset.univ.filter fun z => ∃ n < 128, Route.row te (128 * w + n) = (z 0).val
theorem mem_mine {te : S4096.Idx → BitVec 32} {w : ℕ} {z : S8192x768.Idx} : z ∈ mine te w ↔ ∃ n < 128, Route.row te (128 * w + n) = (z 0).val := by
  unfold mine
  simp only [Finset.mem_filter, Finset.mem_univ, true_and]

/-- The entries' rows. -/
def taken (te : S4096.Idx → BitVec 32) : Finset S8192x768.Idx := Finset.univ.biUnion fun i : Fin 32 => mine te i.val

theorem outRows_disjoint : ∀ i ∈ (Finset.univ : Finset (Fin 32)), ∀ j ∈ (Finset.univ : Finset (Fin 32)), i ≠ j → Disjoint (outRows i.val) (outRows j.val) := by
  intro i _ j _ h
  refine Finset.disjoint_left.mpr fun z hi hj => h (Fin.ext ?_)
  exact (Finset.mem_filter.mp hi).2.symm.trans (Finset.mem_filter.mp hj).2

theorem outRows_cover : (Finset.univ : Finset (Fin 32)).biUnion (fun i => outRows i.val) = Finset.univ := by
  refine Finset.eq_univ_iff_forall.mpr fun z => Finset.mem_biUnion.mpr ?_
  have hz : (z 0).val < 2048 := (z 0).isLt
  exact ⟨⟨(z 0).val / 64, by omega⟩, Finset.mem_univ _, Finset.mem_filter.mpr ⟨Finset.mem_univ _, rfl⟩⟩

theorem entries_disjoint : ∀ i ∈ (Finset.univ : Finset (Fin 32)), ∀ j ∈ (Finset.univ : Finset (Fin 32)), i ≠ j → Disjoint (entries i.val) (entries j.val) := by
  intro i _ j _ h
  refine Finset.disjoint_left.mpr fun z hi hj => h (Fin.ext ?_)
  exact (Finset.mem_filter.mp hi).2.symm.trans (Finset.mem_filter.mp hj).2

theorem entries_cover : (Finset.univ : Finset (Fin 32)).biUnion (fun i => entries i.val) = Finset.univ := by
  refine Finset.eq_univ_iff_forall.mpr fun z => Finset.mem_biUnion.mpr ?_
  have hz : (z 0).val < 4096 := (z 0).isLt
  exact ⟨⟨(z 0).val / 128, by omega⟩, Finset.mem_univ _, Finset.mem_filter.mpr ⟨Finset.mem_univ _, rfl⟩⟩

theorem mine_disjoint {te : S4096.Idx → BitVec 32} (hte : ∀ x, (te x).toNat < 8) :
    ∀ i ∈ (Finset.univ : Finset (Fin 32)), ∀ j ∈ (Finset.univ : Finset (Fin 32)), i ≠ j → Disjoint (mine te i.val) (mine te j.val) := by
  intro i _ j _ h
  refine Finset.disjoint_left.mpr fun z hi hj => h (Fin.ext ?_)
  obtain ⟨n, hn, e⟩ := mem_mine.mp hi
  obtain ⟨k, hk, e'⟩ := mem_mine.mp hj
  have := Route.row_inj hte (show 128 * i.val + n < 4096 by omega) (show 128 * j.val + k < 4096 by omega) (e.trans e'.symm)
  omega

theorem mem_taken {te : S4096.Idx → BitVec 32} {z : S8192x768.Idx} (h : z ∉ taken te) : ¬Taken te (z 0).val := by
  rintro ⟨p, hp, e⟩
  refine h (Finset.mem_biUnion.mpr ⟨⟨p / 128, by omega⟩, Finset.mem_univ _, mem_mine.mpr ⟨p % 128, Nat.mod_lt _ (by decide), ?_⟩⟩)
  show Route.row te (128 * (p / 128) + p % 128) = _
  rw [Nat.div_add_mod, e]

/-- The block of the result that the combining task at `L` writes. -/
theorem set_oSl (L : grid2.Coords) : (Comb.oSl L).view.set = outRows (Comb.wid L) := by
  have b : k2_off51 L 0 = 128 * (L 1).val + 64 * (L 0).val := by rw [k2_off51_eq]; rfl
  have b' : k2_off51 L 1 = 0 := by rw [k2_off51_eq]; rfl
  ext z
  refine ⟨fun hz => ?_, fun hz => ?_⟩
  · obtain ⟨x, -, hx⟩ := Finset.mem_map.mp hz
    have a : k2_off51 L 0 + 1 * (x 0).val = (z 0).val := congrArg (fun z : S2048x768.Idx => (z 0).val) hx
    have hlt : (x 0).val < 64 := (x 0).isLt
    exact Finset.mem_filter.mpr ⟨Finset.mem_univ _, by unfold Comb.wid; omega⟩
  · have h := (Finset.mem_filter.mp hz).2
    unfold Comb.wid at h
    refine Finset.mem_map.mpr ⟨ix2 (n0 := 64) (n1 := 768) ⟨(z 0).val % 64, Nat.mod_lt _ (by decide)⟩ (z 1), Finset.mem_univ _, ?_⟩
    funext a
    match a with
    | 0 => exact Fin.ext (show k2_off51 L 0 + 1 * ((z 0).val % 64) = (z 0).val by omega)
    | 1 => exact Fin.ext (show k2_off51 L 1 + 1 * (z 1).val = (z 1).val by omega)

/-- The entries whose rows' numbers the routing task at `L` writes. -/
theorem set_dSl (L : grid0.Coords) : (Route.dSl L).view.set = entries (Route.wid L) := by
  ext z
  refine ⟨fun hz => ?_, fun hz => ?_⟩
  · obtain ⟨x, -, hx⟩ := Finset.mem_map.mp hz
    have a := (Route.emb_dSl L x).symm.trans (congrArg (fun z : S4096.Idx => (z 0).val) hx)
    have hlt : (x 0).val < 128 := (x 0).isLt
    exact Finset.mem_filter.mpr ⟨Finset.mem_univ _, by omega⟩
  · have h := (Finset.mem_filter.mp hz).2
    let x : S128.Idx := ValueIdx.ix1 (n := 128) ⟨(z 0).val % 128, Nat.mod_lt _ (by decide)⟩
    refine Finset.mem_map.mpr ⟨x, Finset.mem_univ _, ?_⟩
    funext (a : Fin 1)
    match a with
    | 0 => exact Fin.ext ((Route.emb_dSl L x).trans (show 128 * Route.wid L + (z 0).val % 128 = (z 0).val by omega))

/-- What the first task alone holds. -/
def atFirst (w : ℕ) (R : sProp 𝕄) : sProp 𝕄 := if w = 0 then R else iprop(emp)

instance (w : ℕ) (R : sProp 𝕄) [BI.Storable (upEmb : UEmb _ 𝕄) R] : BI.Storable (upEmb : UEmb _ 𝕄) (atFirst w R) := by
  unfold atFirst; split <;> infer_instance

theorem atFirst_all (R : sProp 𝕄) : (bigSep Finset.univ fun i : Fin 32 => atFirst i.val R) = R := by
  have e : (Finset.univ : Finset (Fin 32)) = insert 0 (Finset.univ.erase 0) := (Finset.insert_erase (Finset.mem_univ _)).symm
  rw [e, SparseCore.bigSep_insert' (Finset.notMem_erase _ _)]
  have h : (bigSep (Finset.univ.erase (0 : Fin 32)) fun i : Fin 32 => atFirst i.val R) = bigSep (Finset.univ.erase (0 : Fin 32)) fun _ => (iprop(emp) : sProp 𝕄) :=
    bigSep_congr fun i hi => if_neg fun h => Finset.ne_of_mem_erase hi (Fin.ext h)
  rw [h, (show (bigSep (Finset.univ.erase (0 : Fin 32)) fun _ => (iprop(emp) : sProp 𝕄)) = iprop(emp) from bigSep_emp_const _), show atFirst (0 : Fin 32).val R = R from if_pos rfl]
  exact equiv_iff.mp BI.sep_emp

/-- Parts of 32 tasks, by SparseCore. -/
theorem by_core (R : ℕ → sProp 𝕄) : (bigSep Finset.univ fun w : Fin 32 => R w.val) = bigSep Finset.univ fun c : Fin 2 => bigSep Finset.univ fun i : Fin 16 => R (2 * i.val + c.val) := by
  rw [bigSep_univ_equiv (finProdFinEquiv : Fin 16 × Fin 2 ≃ Fin 32), bigSep_univ_prod, bigSep_univ_comm]
  refine bigSep_congr fun c _ => bigSep_congr fun i _ => ?_
  rw [show ((finProdFinEquiv : Fin 16 × Fin 2 ≃ Fin 32) (i, c)).val = 2 * i.val + c.val from Nat.add_comm _ _]

/-! ## The routing call -/

variable (m : (ℓ : Loc nD τ sig) → Buf (Elt F) ℓ)

/-- The arguments in the launch memory. -/
def args (d : Dev nD) : Args F where
  hidden := m ((SparseCore.T d : Thread nD τ).loc main_arg0)
  gates := m ((SparseCore.T d : Thread nD τ).loc main_arg1)
  experts := m ((SparseCore.T d : Thread nD τ).loc main_arg2)
  w1 := m ((SparseCore.T d : Thread nD τ).loc main_arg3)
  w2 := m ((SparseCore.T d : Thread nD τ).loc main_arg4)
  b1 := m ((SparseCore.T d : Thread nD τ).loc main_arg5)
  b2 := m ((SparseCore.T d : Thread nD τ).loc main_arg6)
  rows := m (xsLoc d)

/-- What routing task `w` is handed and brings back. -/
abbrev routed (d : Dev nD) (w : ℕ) (fx : Buf (Elt F) (xsLoc d)) (fd : Buf (Elt F) (dLoc d)) (fb : Buf (Elt F) (beLoc d)) : sProp 𝕄 :=
  iprop((teLoc d ↦{part w} (args m d).te) ∗ (xLoc d ↦{part w} (args m d).hidden) ∗ (xsLoc d ↦[mine (args m d).te w]{fullShare} fx) ∗ (dLoc d ↦[entries w]{fullShare} fd)
    ∗ atFirst w (beLoc d ↦{fullShare} fb))

abbrev routedCore (d : Dev nD) (c : ℕ) (fx : Buf (Elt F) (xsLoc d)) (fd : Buf (Elt F) (dLoc d)) (fb : Buf (Elt F) (beLoc d)) : sProp 𝕄 :=
  bigSep Finset.univ fun i : Fin 16 => routed m d (2 * i.val + c) fx fd fb

/-- The routing call's arrays, of the array of rows the entries' rows only. -/
abbrev routedAll (d : Dev nD) (fx : Buf (Elt F) (xsLoc d)) (fd : Buf (Elt F) (dLoc d)) (fb : Buf (Elt F) (beLoc d)) : sProp 𝕄 :=
  iprop((teLoc d ↦{fullShare} (args m d).te) ∗ (xLoc d ↦{fullShare} (args m d).hidden) ∗ (xsLoc d ↦[taken (args m d).te]{fullShare} fx) ∗ (dLoc d ↦{fullShare} fd)
    ∗ beLoc d ↦{fullShare} fb)

theorem routed_eq (d : Dev nD) (hok : (args m d).Ok) (fx : Buf (Elt F) (xsLoc d)) (fd : Buf (Elt F) (dLoc d)) (fb : Buf (Elt F) (beLoc d)) :
    routedAll m d fx fd fb = bigSep Finset.univ fun c : Fin 2 => routedCore m d c.val fx fd fb := by
  have ex : (bigSep Finset.univ fun w : Fin 32 => (xsLoc d ↦[mine (args m d).te w.val]{fullShare} fx : sProp 𝕄)) = (xsLoc d ↦[taken (args m d).te]{fullShare} fx) :=
    (pointsTo_biUnion Finset.univ (ℓ := xsLoc d) (fun i : Fin 32 => mine (args m d).te i.val) (mine_disjoint (Args.te_lt hok))).symm
  have ed : (bigSep Finset.univ fun w : Fin 32 => (dLoc d ↦[entries w.val]{fullShare} fd : sProp 𝕄)) = (dLoc d ↦{fullShare} fd) := by
    rw [← pointsTo_biUnion Finset.univ (ℓ := dLoc d) (fun i : Fin 32 => entries i.val) entries_disjoint, entries_cover]
  have e : (bigSep Finset.univ fun w : Fin 32 => routed m d w.val fx fd fb) = routedAll m d fx fd fb := by
    rw [bigSep_sep', bigSep_sep', bigSep_sep', bigSep_sep', ← shares, ← shares, ex, ed, atFirst_all]
  rw [← e]; exact by_core fun w => routed m d w fx fd fb

/-- The array of rows is the entries' rows and the others. -/
theorem rows_split (d : Dev nD) (te : S4096.Idx → BitVec 32) (f : Buf (Elt F) (xsLoc d)) :
    (xsLoc d ↦{fullShare} f : sProp 𝕄) = iprop((xsLoc d ↦[taken te]{fullShare} f) ∗ xsLoc d ↦[Finset.univ \ taken te]{fullShare} f) := by
  rw [← BI.Entails.antisymm (pointsTo_union (ℓ := xsLoc d) Finset.disjoint_sdiff).1 (pointsTo_union (ℓ := xsLoc d) Finset.disjoint_sdiff).2,
    Finset.union_sdiff_of_subset (Finset.subset_univ _)]

/-- The others hold what they held. -/
theorem rows_rest (d : Dev nD) :
    (xsLoc d ↦[Finset.univ \ taken (args m d).te]{fullShare} m (xsLoc d) : sProp 𝕄) = xsLoc d ↦[Finset.univ \ taken (args m d).te]{fullShare} (args m d).xs :=
  pointsTo_congr fun z hz => by
    show _ = placed _ _ _ z
    rw [placed, dif_neg (mem_taken (Finset.mem_sdiff.mp hz).2)]; rfl

/-! ## The combining call -/

/-- What combining task `w` is handed and brings back. -/
abbrev combined (d : Dev nD) (w : ℕ) (f : Buf (Elt F) (oLoc d)) : sProp 𝕄 :=
  iprop((∃ G, ⌜(args m d).Agrees G⌝ ∗ yLoc d ↦{part w} G) ∗ (dLoc d ↦{part w} Route.dest (args m d).te) ∗ (wLoc d ↦{part w} (args m d).ew) ∗ oLoc d ↦[outRows w]{fullShare} f)

abbrev combinedCore (d : Dev nD) (c : ℕ) (f : Buf (Elt F) (oLoc d)) : sProp 𝕄 :=
  bigSep Finset.univ fun i : Fin 16 => combined m d (2 * i.val + c) f

theorem out_parts (d : Dev nD) (f : Buf (Elt F) (oLoc d)) : (bigSep Finset.univ fun w : Fin 32 => (oLoc d ↦[outRows w.val]{fullShare} f : sProp 𝕄)) = (oLoc d ↦{fullShare} f) := by
  rw [← pointsTo_biUnion Finset.univ (ℓ := oLoc d) (fun i : Fin 32 => outRows i.val) outRows_disjoint, outRows_cover]

theorem combined_in (d : Dev nD) (G : Buf (Elt F) (yLoc d)) (hG : (args m d).Agrees G) (f : Buf (Elt F) (oLoc d)) :
    iprop((yLoc d ↦{fullShare} G) ∗ (dLoc d ↦{fullShare} Route.dest (args m d).te) ∗ (wLoc d ↦{fullShare} (args m d).ew) ∗ oLoc d ↦{fullShare} f)
      ⊢ (bigSep Finset.univ fun c : Fin 2 => combinedCore m d c.val f : sProp 𝕄) := by
  have e : (bigSep Finset.univ fun w : Fin 32 => (iprop((yLoc d ↦{part w.val} G) ∗ (dLoc d ↦{part w.val} Route.dest (args m d).te) ∗ (wLoc d ↦{part w.val} (args m d).ew) ∗ oLoc d ↦[outRows w.val]{fullShare} f) : sProp 𝕄))
      = iprop((yLoc d ↦{fullShare} G) ∗ (dLoc d ↦{fullShare} Route.dest (args m d).te) ∗ (wLoc d ↦{fullShare} (args m d).ew) ∗ oLoc d ↦{fullShare} f) := by
    rw [bigSep_sep', bigSep_sep', bigSep_sep', ← shares, ← shares, ← shares, out_parts]
  rw [← e, ← by_core fun w => combined m d w f]
  refine bigSep_mono fun w _ => (show iprop((yLoc d ↦{part w.val} G) ∗ (dLoc d ↦{part w.val} Route.dest (args m d).te) ∗ (wLoc d ↦{part w.val} (args m d).ew) ∗ oLoc d ↦[outRows w.val]{fullShare} f)
    ⊢ combined m d w.val f from ?_)
  iintro ⟨Hy, H⟩
  isplitl [Hy]
  · iexists G; isplitr; · ipureintro; exact hG
    iexact Hy
  iexact H

theorem combined_out (d : Dev nD) (f : Buf (Elt F) (oLoc d)) :
    (bigSep Finset.univ fun c : Fin 2 => combinedCore m d c.val f : sProp 𝕄) ⊢ oLoc d ↦{fullShare} f := by
  rw [← by_core fun w => combined m d w f, ← out_parts]
  refine bigSep_mono fun w _ => (show combined m d w.val f ⊢ oLoc d ↦[outRows w.val]{fullShare} f from ?_)
  iintro ⟨-, -, -, H⟩
  iexact H

/-! ## What the handshakes carry -/

/-- Each SparseCore takes its tasks' parts and deals them out as they are. -/
def P : (K (F := F)).Pay (nD := nD) (Val := Elt F) (Name := ℕ) (U := UU) where
  st := fun q d c => match q with
    | 0 => routedCore m d c.val (m (xsLoc d)) (m (dLoc d)) (m (beLoc d))
    | 1 => combinedCore m d c.val (m (oLoc d))
  dn := fun q d c => match q with
    | 0 => routedCore m d c.val (args m d).xs (Route.dest (args m d).te) (Route.blocks (args m d).te)
    | 1 => combinedCore m d c.val (args m d).out
  go := fun q d c i => match q with
    | 0 => routed m d (2 * i.val + c.val) (m (xsLoc d)) (m (dLoc d)) (m (beLoc d))
    | 1 => combined m d (2 * i.val + c.val) (m (oLoc d))
  td := fun q d c i => match q with
    | 0 => routed m d (2 * i.val + c.val) (args m d).xs (Route.dest (args m d).te) (Route.blocks (args m d).te)
    | 1 => combined m d (2 * i.val + c.val) (args m d).out
  x := fun _ _ => iprop(emp)

instance P_storable : (P (F := F) m).IsStorable where
  st q d c := match q with
    | 0 => (inferInstance : BI.Storable (upEmb : UEmb _ 𝕄) (routedCore m d c.val (m (xsLoc d)) (m (dLoc d)) (m (beLoc d))))
    | 1 => (inferInstance : BI.Storable (upEmb : UEmb _ 𝕄) (combinedCore m d c.val (m (oLoc d))))
  dn q d c := match q with
    | 0 => (inferInstance : BI.Storable (upEmb : UEmb _ 𝕄) (routedCore m d c.val (args m d).xs (Route.dest (args m d).te) (Route.blocks (args m d).te)))
    | 1 => (inferInstance : BI.Storable (upEmb : UEmb _ 𝕄) (combinedCore m d c.val (args m d).out))
  go q d c i := match q with
    | 0 => (inferInstance : BI.Storable (upEmb : UEmb _ 𝕄) (routed m d (2 * i.val + c.val) (m (xsLoc d)) (m (dLoc d)) (m (beLoc d))))
    | 1 => (inferInstance : BI.Storable (upEmb : UEmb _ 𝕄) (combined m d (2 * i.val + c.val) (m (oLoc d))))
  td q d c i := match q with
    | 0 => (inferInstance : BI.Storable (upEmb : UEmb _ 𝕄) (routed m d (2 * i.val + c.val) (args m d).xs (Route.dest (args m d).te) (Route.blocks (args m d).te)))
    | 1 => (inferInstance : BI.Storable (upEmb : UEmb _ 𝕄) (combined m d (2 * i.val + c.val) (args m d).out))

theorem vecSplit0 : (K (F := F)).VecSplit' (P m) 0 := by
  intro d c
  show routedCore m d c.val (m (xsLoc d)) (m (dLoc d)) (m (beLoc d)) ⊢ |={Set.univ}=> iprop(routedCore m d c.val (m (xsLoc d)) (m (dLoc d)) (m (beLoc d))
    ∗ (routedCore m d c.val (args m d).xs (Route.dest (args m d).te) (Route.blocks (args m d).te) -∗ routedCore m d c.val (args m d).xs (Route.dest (args m d).te) (Route.blocks (args m d).te)))
  iintro H; imodintro
  isplitl [H]; · iexact H
  iintro H; iexact H

theorem vecSplit1 : (K (F := F)).VecSplit' (P m) 1 := by
  intro d c
  show combinedCore m d c.val (m (oLoc d)) ⊢ |={Set.univ}=> iprop(combinedCore m d c.val (m (oLoc d)) ∗ (combinedCore m d c.val (args m d).out -∗ combinedCore m d c.val (args m d).out))
  iintro H; imodintro
  isplitl [H]; · iexact H
  iintro H; iexact H

end Cert.Proof.Kernel

end
-- ==== Proof.Kernel.Tasks.lean ====
/-
  The tasks' obligations: from what a call hands a task and its subcore's own buffers and semaphores, the task's program to what it brings back.
-/
module

public import proofs.«01_k».proof.Proof.Kernel.Deal

@[expose] public section

noncomputable section

namespace Cert.Proof.Kernel

open Cert.Kernel Cert.Kernel.Gen

open Idealize.ShloMosaic
open Idealize.ShloMosaic.ValueIdx (ix2)
open Idealize.ShloMosaic.SparseCore (S V T)
open Idealize.ShloMosaic.SparseCore.Cfg (HIx Pay)
open Idealize.ShloMosaic.Transfers (MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

theorem owe_eq (c : Thread nD τ) (O : CellTallies nD τ sig (HIx 2)) (W : Waits sig (HIx 2)) :
    (Owe c O W : sProp 𝕄) = iprop(∃ W', ⌜∀ p ∈ W', p ∈ W ∨ p.2 = none⌝ ∗ owes c O W') := rfl

/-- A wait recorded before is one the call allows. -/
theorem waits_weaken {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  iframe HA HB HC
  iexists W'; isplitr
  · ipureintro; exact fun p hp => (hW p hp).imp_right .inl
  iexact HO

/-! ## Routing -/

/-- A routing task's rows, once in place, hold what the placed rows do. -/
theorem placed_mine (d : Dev nD) (L : grid0.Coords) (hok : (args m d).Ok) {f : S8192x768.Idx → Elt F .f32}
    (h : Route.Placed (Route.own (args m d).te (Route.wid L)) (Route.xBlk L (args m d).hidden) f 6 6) :
    ∀ z ∈ mine (args m d).te (Route.wid L), f z = (args m d).xs z := by
  intro z hz
  obtain ⟨n, hn, e⟩ := mem_mine.mp hz
  have hw := Route.wid_lt L
  have hc : (z 1).val < 768 := (z 1).isLt
  have hrow : ∀ k, k = n → (Route.own (args m d).te (Route.wid L) k).toNat = (z 0).val := fun k hk => by
    rw [hk, Route.own_toNat (Args.te_lt hok) _ _ (by omega), e]
  have hx : (args m d).xs z = (args m d).hidden (ix2 (n0 := 2048) (n1 := 768) ⟨(128 * Route.wid L + n) / 2, by omega⟩ (z 1)) :=
    placed_row (Args.te_lt hok) _ _ (by omega) z e.symm
  rw [hx]
  have hb : f z = Route.xBlk L (args m d).hidden (ix2 (n0 := 64) (n1 := 768) ⟨n / 2, by omega⟩ (z 1)) := by
    rcases Nat.even_or_odd' n with ⟨k, hk | hk⟩
    · have := (h ⟨k, by omega⟩ z).1 (hrow _ hk.symm).symm (by omega)
      rw [this]; congr 2; exact Fin.ext (by show k = n / 2; omega)
    · have := (h ⟨k, by omega⟩ z).2 (hrow _ hk.symm).symm (by omega)
      rw [this]; congr 2; exact Fin.ext (by show k = n / 2; omega)
  rw [hb, Route.xBlk]
  refine congrArg _ (funext fun (a : Fin 2) => ?_)
  match a with
  | 0 => exact Fin.ext (show (64 * Route.wid L + n / 2) % 2048 = (128 * Route.wid L + n) / 2 by omega)
  | 1 => rfl

theorem route_body (d : Dev nD) (L : grid0.Coords) (hF : (K (F := F)).Facts) (hok : (args m d).Ok) (O : CellTallies nD τ sig (HIx 2)) (W : Waits sig (HIx 2))
    (hO : ∀ g, O g none = 0) :
    iprop(levAts (K (F := F)).L (K (F := F)).lev ∗ emp ∗ routed m d (Route.wid L) (m (xsLoc d)) (m (dLoc d)) (m (beLoc d))
        ∗ scopedBufs (Route.thr d L) ∗ scopedSems0 (Route.thr d L) ∗ owes (Route.thr d L) O W)
      ⊢ wp (M := 𝕄) frame (wpE (defs₀ (F := F)) 𝒱₀ (Route.thr d L) none) Set.univ (Route.task d L) fun _ =>
          iprop(routed m d (Route.wid L) (args m d).xs (Route.dest (args m d).te) (Route.blocks (args m d).te)
            ∗ scopedBufs (Route.thr d L) ∗ scopedSems0 (Route.thr d L) ∗ ∃ W', ⌜∀ p ∈ W', p ∈ W ∨ p.2 = none⌝ ∗ owes (Route.thr d L) O W') := by
  have hw := Route.wid_lt L
  have hown : ∀ n < 128, (Route.own (args m d).te (Route.wid L) n).toNat = Route.row (args m d).te (128 * Route.wid L + n) := fun n hn =>
    Route.own_toNat (Args.te_lt hok) _ _ (by omega)
  rw [(K (F := F)).scopedBufs_V hF d (Route.cV L) (Route.jV L), SparseCore.Cfg.scopedSems0_V (Val := Elt F) d (Route.cV L) (Route.jV L), Route.sems_split d L, Route.bufs_split d L]
  unfold routed
  rw [← set_dSl]
  iintro ⟨#Hlv, -, ⟨Ht, Hx, Hxs, Hd, Hb⟩, ⟨⟨⟨%j0, H0⟩, ⟨%j1, H1⟩, ⟨%j2, H2⟩, ⟨%j3, H3⟩, ⟨%j4, H4⟩, ⟨%j5, H5⟩⟩, Hbs⟩, ⟨Hs, Hr⟩, HO⟩
  ihave Hm := (show levAts (K (F := F)).L (K (F := F)).lev ⊢ MayWaits (Route.thr d L) (default : HIx 2) O from
    (K (F := F)).mayWaits_none (thr := Route.thr d L) hO) $$ Hlv
  iapply (wp_wand_r Idealize.ShloMosaic.frame (wpE (defs₀ (F := F)) 𝒱₀ (Route.thr d L) none) Set.univ)
  isplitl [Hm Ht Hx Hxs Hd Hb H0 H1 H2 H3 H4 H5 Hs HO]
  · iapply (Route.task_wp d L (W := W) (q := part (Route.wid L)) (args m d).te (args m d).hidden (m (xsLoc d)) (m (dLoc d)) (m (beLoc d)) (mine (args m d).te (Route.wid L))
      (fun n hn => by rw [hown n hn]; have := Route.row_lt (Args.te_lt hok) (show 128 * Route.wid L + n < 4096 by omega); omega)
      (fun n k hn hk e => by
        rw [hown n hn, hown k hk] at e
        have := Route.row_inj (Args.te_lt hok) (show 128 * Route.wid L + n < 4096 by omega) (show 128 * Route.wid L + k < 4096 by omega) e
        omega)
      (fun n hn z hz => mem_mine.mpr ⟨n, hn, by rw [hz, hown n hn]⟩) j0 j1 j2 j3 j4 j5)
    iframe Hm
    isplitl [HO]
    · iapply (Entails.of_eq (owe_eq (Route.thr d L) O W).symm)
      iexists W; isplitr; · ipureintro; exact fun p hp => .inl hp
      iexact HO
    isplitl [Ht Hx Hxs Hd Hb]
    · isplitl [Ht]; · iexact Ht
      isplitl [Hx]; · iexact Hx
      isplitl [Hxs]; · iexact Hxs
      isplitl [Hd]; · iexact Hd
      iapply (Entails.of_eq (show atFirst (Route.wid L) (beLoc d ↦{fullShare} m (beLoc d) : sProp 𝕄) = Route.first d L (m (beLoc d)) from rfl)); iexact Hb
    iframe H0 H1 H2 H3 H4 H5
    iexact Hs
  iintro %u ⟨HO, ⟨Ht, Hx, ⟨%f, %hf, Hxs⟩, Hd, Hb⟩, Hbs', Hs⟩
  isplitl [Ht Hx Hxs Hd Hb]
  · isplitl [Ht]; · iexact Ht
    isplitl [Hx]; · iexact Hx
    isplitl [Hxs]
    · iapply (Entails.of_eq (pointsTo_congr (ℓ := xsLoc d) (q := fullShare) (placed_mine m d L hok hf))); iexact Hxs
    isplitl [Hd]; · iexact Hd
    iapply (Entails.of_eq (show Route.first d L (Route.blocks (args m d).te) = atFirst (Route.wid L) (beLoc d ↦{fullShare} Route.blocks (args m d).te : sProp 𝕄) from rfl)); iexact Hb
  isplitl [Hbs' Hbs]
  · isplitl [Hbs'] <;> iassumption
  isplitl [Hs Hr]
  · isplitl [Hs] <;> iassumption
  iapply (Entails.of_eq (owe_eq (Route.thr d L) O W)); iexact HO

/-! ## Combining -/

theorem combine_body (d : Dev nD) (L : grid2.Coords) (hF : (K (F := F)).Facts) (hok : (args m d).Ok) (O : CellTallies nD τ sig (HIx 2)) (W : Waits sig (HIx 2))
    (hO : ∀ g, O g none = 0) :
    iprop(levAts (K (F := F)).L (K (F := F)).lev ∗ emp ∗ combined m d (Comb.wid L) (m (oLoc d))
        ∗ scopedBufs (Comb.thr d L) ∗ scopedSems0 (Comb.thr d L) ∗ owes (Comb.thr d L) O W)
      ⊢ wp (M := 𝕄) frame (wpE (defs₀ (F := F)) 𝒱₀ (Comb.thr d L) none) Set.univ (Comb.task d L) fun _ => iprop(combined m d (Comb.wid L) (args m d).out
            ∗ scopedBufs (Comb.thr d L) ∗ scopedSems0 (Comb.thr d L) ∗ ∃ W', ⌜∀ p ∈ W', p ∈ W ∨ p.2 = none⌝ ∗ owes (Comb.thr d L) O W') := by
  rw [(K (F := F)).scopedBufs_V hF d (Comb.cV L) (Comb.jV L), SparseCore.Cfg.scopedSems0_V (Val := Elt F) d (Comb.cV L) (Comb.jV L), Comb.sems_split d L, Comb.bufs_split d L]
  unfold combined
  rw [← set_oSl]
  iintro ⟨#Hlv, -, ⟨⟨%G, %hG, Hy⟩, Hd, Hw, Ho⟩, ⟨⟨⟨%j0, H0⟩, ⟨%j1, H1⟩, ⟨%j2, H2⟩, ⟨%j3, H3⟩, ⟨%j4, H4⟩, ⟨%j5, H5⟩⟩, Hb⟩, ⟨Hs, Hr⟩, HO⟩
  ihave Hm := (show levAts (K (F := F)).L (K (F := F)).lev ⊢ MayWaits (Comb.thr d L) (default : HIx 2) O from
    (K (F := F)).mayWaits_none (thr := Comb.thr d L) hO) $$ Hlv
  iapply (wp_wand_r Idealize.ShloMosaic.frame (wpE (defs₀ (F := F)) 𝒱₀ (Comb.thr d L) none) Set.univ)
  isplitl [Hm Hy Hd Hw Ho H0 H1 H2 H3 H4 H5 Hs HO]
  · iapply (Comb.task_wp d L (W := W) (q := part (Comb.wid L)) G (Route.dest (args m d).te) (args m d).ew (m (oLoc d))
      (fun x => by rw [Route.dest_toNat (Args.te_lt hok)]; have := Route.row_lt (Args.te_lt hok) (show (x 0).val < 4096 from (x 0).isLt); omega) j0 j1 j2 j3 j4 j5)
    iframe Hm
    isplitl [HO]
    · iapply (Entails.of_eq (owe_eq (Comb.thr d L) O W).symm)
      iexists W; isplitr; · ipureintro; exact fun p hp => .inl hp
      iexact HO
    isplitl [Hy Hd Hw Ho]
    · isplitl [Hy]; · iexact Hy
      isplitl [Hd]; · iexact Hd
      isplitl [Hw]; · iexact Hw
      iexact Ho
    iframe H0 H1 H2 H3 H4 H5
    iexact Hs
  rw [Args.comb_agrees hok hG]
  iintro %u ⟨HO, ⟨Hy, Hd, Hw, Ho⟩, Hbs, Hs⟩
  isplitl [Hy Hd Hw Ho]
  · isplitl [Hy]
    · iexists G; isplitr; · ipureintro; exact hG
      iexact Hy
    isplitl [Hd]; · iexact Hd
    isplitl [Hw]; · iexact Hw
    iexact Ho
  isplitl [Hbs Hb]
  · isplitl [Hbs] <;> iassumption
  isplitl [Hs Hr]
  · isplitl [Hs] <;> iassumption
  iapply (Entails.of_eq (owe_eq (Comb.thr d L) O W)); iexact HO

/-! ## As the launch asks for them -/

/-- The coordinates of subcore `s` of SparseCore `c`. -/
def coords0 (c : Fin (grid0.bound 0)) (s : Fin (grid0.bound 1)) : grid0.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

theorem defs₀_route (c : Fin τ.nSC) (s : Fin τ.nSub) :
    defs₀ (F := F) (.scVector c s) 0 ()
      = SparseCore.onTile hcore0 hsub0 (fun c s => cc0__routing_body (coords0 c s) Route.teV (Memref.isWhole_whole _) Route.xV (Memref.isWhole_whole _) Route.xsV (Memref.isWhole_whole _)
          Route.dV (Memref.isWhole_whole _) Route.beV (Memref.isWhole_whole _) Route.aT (Memref.isWhole_whole _) Route.aD (Memref.isWhole_whole _) Route.aE (Memref.isWhole_whole _)
          Route.aO (Memref.isWhole_whole _) Route.aX (Memref.isWhole_whole _) Route.aB (Memref.isWhole_whole _) cc0_scratch6 cc0_scratch7 cc0_scoped0 cc0_scoped1 cc0_scoped2) ⟨⟩ c s := rfl

theorem defs₀_combine (c : Fin τ.nSC) (s : Fin τ.nSub) :
    defs₀ (F := F) (.scVector c s) 2 ()
      = SparseCore.onTile hcore2 hsub2 (fun c s => cc2__combine_body (coords2 c s) Comb.yV (Memref.isWhole_whole _) Comb.dV (Memref.isWhole_whole _) Comb.wV (Memref.isWhole_whole _)
          Comb.oV (Memref.isWhole_whole _) Comb.aD (Memref.isWhole_whole _) Comb.aW (Memref.isWhole_whole _) Comb.aE (Memref.isWhole_whole _) Comb.aO (Memref.isWhole_whole _)
          Comb.aA (Memref.isWhole_whole _) Comb.aB (Memref.isWhole_whole _) cc2_scratch6 cc2_scoped0 cc2_scoped1 cc2_scoped2) ⟨⟩ c s := rfl

set_option maxRecDepth 16384 in
theorem tileObl0 (hF : (K (F := F)).Facts) (hok : ∀ d, (args m d).Ok) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_route]; simp only [SparseCore.onTile, hci, and_self, ↓reduceDIte]
  exact (route_body m d (coords0 ⟨_, hci.1⟩ ⟨_, hci.2⟩) hF (hok d) O W hO).trans (wp_mono frame _ _ fun _ => waits_weaken)

set_option maxRecDepth 16384 in
theorem tileObl1 (hF : (K (F := F)).Facts) (hok : ∀ d, (args m d).Ok) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_combine]; simp only [SparseCore.onTile, hci, and_self, ↓reduceDIte]
  exact (combine_body m d (coords2 ⟨_, hci.1⟩ ⟨_, hci.2⟩) hF (hok d) O W hO).trans (wp_mono frame _ _ fun _ => waits_weaken)

end Cert.Proof.Kernel

end
-- ==== Proof.Kernel.Host.lean ====
/-
  The operations of @main between the calls, each from the arrays it reads and writes to those arrays with the result in place; and the TensorCore call.
-/
module

public import proofs.«01_k».proof.Proof.Kernel.Tasks

@[expose] public section

noncomputable section

namespace Cert.Proof.Kernel

open Cert.Kernel Cert.Kernel.Gen

open Idealize.ShloMosaic
open Idealize.ShloMosaic.StableHlo (held wp_hlo_within)
open Idealize.ShloMosaic.SparseCore (S V T)
open Idealize.ShloMosaic.SparseCore.Cfg (HIx Pay)
open Idealize.ShloMosaic.Pipeline (RDat pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

/-! ## One operation -/

section One

variable (d : Dev nD) {α : Type}

/-- A buffer of the TensorCore's, as the device's. -/
abbrev dref (b : Ref sig .tc) : DevRef τ sig := Proc.devRef .tc b

/-- The contents of the device's buffers, that of `x` set. -/
def setAt (V : Valuation τ sig (Elt F)) (x : Ref sig .tc) (f : x.ty.Contents (Elt F)) : Valuation τ sig (Elt F) := Function.update V (dref x) f

theorem setAt_same (V : Valuation τ sig (Elt F)) (x : Ref sig .tc) (f : x.ty.Contents (Elt F)) : setAt V x f (dref x) = f := Function.update_self _ _ _
theorem setAt_ne (V : Valuation τ sig (Elt F)) {x y : Ref sig .tc} (h : y ≠ x) (f : x.ty.Contents (Elt F)) : setAt V x f (dref y) = V (dref y) :=
  Function.update_of_ne (StableHlo.devRef_ne_of_ne h) _ _

theorem held_one (V : Valuation τ sig (Elt F)) (y : Ref sig .tc) :
    (held (SparseCore.T d : Thread nD τ) {dref y} V : sProp 𝕄) = ((SparseCore.T d : Thread nD τ).loc y ↦{fullShare} V (dref y)) := bigSep_singleton
theorem held_two (V : Valuation τ sig (Elt F)) {x y : Ref sig .tc} (h : x ≠ y) :
    (held (SparseCore.T d : Thread nD τ) {dref x, dref y} V : sProp 𝕄)
      = iprop(((SparseCore.T d : Thread nD τ).loc x ↦{fullShare} V (dref x)) ∗ ((SparseCore.T d : Thread nD τ).loc y ↦{fullShare} V (dref y))) := by
  unfold held
  rw [SparseCore.bigSep_insert' (by rw [Finset.mem_singleton]; exact StableHlo.devRef_ne_of_ne h), bigSep_singleton]
theorem held_three (V : Valuation τ sig (Elt F)) {x y z : Ref sig .tc} (h : x ≠ y) (h' : x ≠ z) (h'' : y ≠ z) :
    (held (SparseCore.T d : Thread nD τ) {dref x, dref y, dref z} V : sProp 𝕄)
      = iprop(((SparseCore.T d : Thread nD τ).loc x ↦{fullShare} V (dref x)) ∗ ((SparseCore.T d : Thread nD τ).loc y ↦{fullShare} V (dref y))
          ∗ ((SparseCore.T d : Thread nD τ).loc z ↦{fullShare} V (dref z))) := by
  unfold held
  rw [SparseCore.bigSep_insert' (by
      rw [Finset.mem_insert, Finset.mem_singleton]
      exact fun e => e.elim (StableHlo.devRef_ne_of_ne h) (StableHlo.devRef_ne_of_ne h')),
    SparseCore.bigSep_insert' (by rw [Finset.mem_singleton]; exact StableHlo.devRef_ne_of_ne h''), bigSep_singleton]

/-- An operation of no operand: its result in place. -/
theorem host_none (V : Valuation τ sig (Elt F)) {op : HloOp τ sig (Elt F)} {y : Ref sig .tc} {r : y.ty.Contents (Elt F)} (hb : op.bufs = {dref y}) (hf : op.fresh = ∅)
    (hr : ∀ V, op.result V (dref y) = r) (g : y.ty.Contents (Elt F)) {k : ((b : op.writes) → b.1.ty.Contents (Elt F)) → Prog (TpuEff nD τ sig (Elt F) _ .tc) α} {Q : α → sProp 𝕄} :
    iprop(boundary (SparseCore.T d : Thread nD τ) ∗ ((SparseCore.T d : Thread nD τ).loc y ↦{fullShare} g))
      ⊢ iprop(((boundary (SparseCore.T d : Thread nD τ) ∗ ((SparseCore.T d : Thread nD τ).loc y ↦{fullShare} r))
            -∗ wp frame (wpE ((K (F := F)).defs (D (F := F))) 𝒱 (SparseCore.T d) none) Set.univ (k (op.fn fun b => setAt V y g b.1)) Q)
          -∗ wp frame (wpE ((K (F := F)).defs (D (F := F))) 𝒱 (SparseCore.T d) none) Set.univ (hlo rfl op k) Q) := by
  have h := wp_hlo_within (defs := (K (F := F)).defs (D (F := F))) 𝒱 (SparseCore.T d : Thread nD τ) none Set.univ (hp := rfl) (op := op) (k := k) (S := {dref y}) (hb ▸ Finset.Subset.refl _)
    (V := setAt V y g) (Q := Q) hf
  rw [held_one, held_one, setAt_same, hr] at h
  exact h

/-- An operation of one operand. -/
theorem host_one (V : Valuation τ sig (Elt F)) {op : HloOp τ sig (Elt F)} {x y : Ref sig .tc} (hxy : x ≠ y) {r : x.ty.Contents (Elt F) → y.ty.Contents (Elt F)}
    (hb : op.bufs = {dref x, dref y}) (hf : op.fresh = ∅) (hx : ∀ V, op.result V (dref x) = V (dref x)) (hr : ∀ V, op.result V (dref y) = r (V (dref x)))
    (f : x.ty.Contents (Elt F)) (g : y.ty.Contents (Elt F)) {k : ((b : op.writes) → b.1.ty.Contents (Elt F)) → Prog (TpuEff nD τ sig (Elt F) _ .tc) α} {Q : α → sProp 𝕄} :
    iprop(boundary (SparseCore.T d : Thread nD τ) ∗ ((SparseCore.T d : Thread nD τ).loc x ↦{fullShare} f) ∗ ((SparseCore.T d : Thread nD τ).loc y ↦{fullShare} g))
      ⊢ iprop(((boundary (SparseCore.T d : Thread nD τ) ∗ ((SparseCore.T d : Thread nD τ).loc x ↦{fullShare} f) ∗ ((SparseCore.T d : Thread nD τ).loc y ↦{fullShare} r f))
            -∗ wp frame (wpE ((K (F := F)).defs (D (F := F))) 𝒱 (SparseCore.T d) none) Set.univ (k (op.fn fun b => setAt (setAt V x f) y g b.1)) Q)
          -∗ wp frame (wpE ((K (F := F)).defs (D (F := F))) 𝒱 (SparseCore.T d) none) Set.univ (hlo rfl op k) Q) := by
  have h := wp_hlo_within (defs := (K (F := F)).defs (D (F := F))) 𝒱 (SparseCore.T d : Thread nD τ) none Set.univ (hp := rfl) (op := op) (k := k) (S := {dref x, dref y}) (hb ▸ Finset.Subset.refl _)
    (V := setAt (setAt V x f) y g) (Q := Q) hf
  rw [held_two d _ hxy, held_two d _ hxy, hr, hx, setAt_same, setAt_ne _ hxy, setAt_same] at h
  exact h

/-- An operation of two operands. -/
theorem host_two (V : Valuation τ sig (Elt F)) {op : HloOp τ sig (Elt F)} {x z y : Ref sig .tc} (hxz : x ≠ z) (hxy : x ≠ y) (hzy : z ≠ y)
    {r : x.ty.Contents (Elt F) → z.ty.Contents (Elt F) → y.ty.Contents (Elt F)} (hb : op.bufs = {dref x, dref z, dref y}) (hf : op.fresh = ∅)
    (hx : ∀ V, op.result V (dref x) = V (dref x)) (hz : ∀ V, op.result V (dref z) = V (dref z)) (hr : ∀ V, op.result V (dref y) = r (V (dref x)) (V (dref z)))
    (f : x.ty.Contents (Elt F)) (f' : z.ty.Contents (Elt F)) (g : y.ty.Contents (Elt F)) {k : ((b : op.writes) → b.1.ty.Contents (Elt F)) → Prog (TpuEff nD τ sig (Elt F) _ .tc) α} {Q : α → sProp 𝕄} :
    iprop(boundary (SparseCore.T d : Thread nD τ) ∗ ((SparseCore.T d : Thread nD τ).loc x ↦{fullShare} f) ∗ ((SparseCore.T d : Thread nD τ).loc z ↦{fullShare} f')
        ∗ ((SparseCore.T d : Thread nD τ).loc y ↦{fullShare} g))
      ⊢ iprop(((boundary (SparseCore.T d : Thread nD τ) ∗ ((SparseCore.T d : Thread nD τ).loc x ↦{fullShare} f) ∗ ((SparseCore.T d : Thread nD τ).loc z ↦{fullShare} f')
              ∗ ((SparseCore.T d : Thread nD τ).loc y ↦{fullShare} r f f'))
            -∗ wp frame (wpE ((K (F := F)).defs (D (F := F))) 𝒱 (SparseCore.T d) none) Set.univ (k (op.fn fun b => setAt (setAt (setAt V x f) z f') y g b.1)) Q)
          -∗ wp frame (wpE ((K (F := F)).defs (D (F := F))) 𝒱 (SparseCore.T d) none) Set.univ (hlo rfl op k) Q) := by
  have h := wp_hlo_within (defs := (K (F := F)).defs (D (F := F))) 𝒱 (SparseCore.T d : Thread nD τ) none Set.univ (hp := rfl) (op := op) (k := k) (S := {dref x, dref z, dref y}) (hb ▸ Finset.Subset.refl _)
    (V := setAt (setAt (setAt V x f) z f') y g) (Q := Q) hf
  rw [held_three d _ hxz hxy hzy, held_three d _ hxz hxy hzy, hr, hx, hz, setAt_same, setAt_ne _ hxy, setAt_ne _ hzy, setAt_ne _ hxz, setAt_same, setAt_same] at h
  exact h

end One

/-! ## The TensorCore call -/

/-- Its rounds' component. -/
abbrev EP : Emb UP (MT nD τ sig (HIx 2) (Elt F) ℕ UU ℕ) := (Emb.inl : Emb UP (UP × Counters)).trans embR

/-- Nothing is owed outside the handshakes. -/
theorem owes_none (d : Dev nD) (n : ℕ) (g : GSem nD τ sig) : (K (F := F)).Otc d n g none = 0 := by
  by_contra h
  have := (K (F := F)).lev_of_Otc_pos (Nat.pos_of_ne_zero h)
  have e : (K (F := F)).lev g none = 0 := rfl
  omega

section Region

variable [∀ e, Nonempty (Elt F e)] {V : S32.Idx → BitVec 32} (hV : ∀ i, Gemm.of V i < 8)

theorem gemm_run (κ : GSem nD τ sig → ℕ) (d : Dev nD) (n : ℕ) (X : S8192x768.Idx → Elt F .f32) (W1 : S8x768x1536.Idx → Elt F .f32) (W2 : S8x1536x768.Idx → Elt F .f32)
    (B1 : S8x1x1536.Idx → Elt F .f32) (B2 : S8x1x768.Idx → Elt F .f32) (Y : S8192x768.Idx → Elt F .f32)
    (Q : PUnit → sProp 𝕄) :
    iprop((K (F := F)).ctx EH (P m) κ ∗ (K (F := F)).tcSt EH d n ∗ boundary (SparseCore.T d : Thread nD τ)
        ∗ ((SparseCore.T d : Thread nD τ).loc main_v3 ↦{fullShare} V) ∗ Gemm.heldAt X W1 W2 B1 B2 d Y
        ∗ Pipeline.cellsGhost (pin (pcfgs (F := F)) (Gemm.adm hV)) EP 0 d ∗ Pipeline.toksInit (pin (pcfgs (F := F)) (Gemm.adm hV)) EP 0 d
        ∗ ((K (F := F)).tcSt EH d n ∗ boundary (SparseCore.T d : Thread nD τ) ∗ ((SparseCore.T d : Thread nD τ).loc main_v3 ↦{fullShare} V)
            ∗ (∃ G, ⌜Gemm.Good hV X W1 W2 B1 B2 G⌝ ∗ Gemm.heldAt X W1 W2 B1 B2 d G)
            -∗ Q ⟨⟩))
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 2) .tc) PUnit) Q := by
  unfold SparseCore.Cfg.tcSt
  iintro ⟨#Hctx, ⟨HO, Hrest⟩, Hb, Ht, Ha, Hg, Hk, Hwp⟩
  ihave Hlv := (SparseCore.Cfg.ctx_levAts (K := K (F := F)) (EH := EH) (P := P m) κ) $$ Hctx
  have hrun := (RDat.RegionSeg.wp (pcfgs (F := F)) (Gemm.adm hV) (Gemm.rdats hV X W1 W2 B1 B2 Y ((K (F := F)).Otc d n) (8 * SparseCore.Cfg.Blocks.fst (Q := 2) (N := 2) n)) (none : HIx 2)
    (cellOf_inj (Gemm.adm hV)) EP (defs₀ (F := F)) 𝒱₀ (K (F := F)).L (K (F := F)).lev
    (Gemm.region hV X W1 W2 B1 B2 Y ((K (F := F)).Otc d n) (8 * SparseCore.Cfg.Blocks.fst (Q := 2) (N := 2) n) (owes_none d n)) d none (fun u hu => nomatch hu) (fun _ => .ret ⟨⟩) Q)
  rw [show (Gemm.region hV X W1 W2 B1 B2 Y ((K (F := F)).Otc d n) (8 * SparseCore.Cfg.Blocks.fst (Q := 2) (N := 2) n) (owes_none d n)).pre d
      = iprop(((SparseCore.T d : Thread nD τ).loc main_v3 ↦{fullShare} V) ∗ Gemm.heldAt X W1 W2 B1 B2 d Y ∗ Gemm.owing ((K (F := F)).Otc d n) (8 * SparseCore.Cfg.Blocks.fst (Q := 2) (N := 2) n) d) from rfl,
    show (Gemm.region hV X W1 W2 B1 B2 Y ((K (F := F)).Otc d n) (8 * SparseCore.Cfg.Blocks.fst (Q := 2) (N := 2) n) (owes_none d n)).post d
      = iprop(((SparseCore.T d : Thread nD τ).loc main_v3 ↦{fullShare} V) ∗ (∃ G, ⌜Gemm.Good hV X W1 W2 B1 B2 G⌝ ∗ Gemm.heldAt X W1 W2 B1 B2 d G)
          ∗ Gemm.owing ((K (F := F)).Otc d n) (8 * SparseCore.Cfg.Blocks.fst (Q := 2) (N := 2) n) d) from rfl] at hrun
  iapply (hrun.trans ((K (F := F)).wp_liftProg (D (F := F)) 𝒱 (SparseCore.T d) Set.univ none _ Q))
  isplitl [Hwp Hrest]
  · iintro ⟨Hb, Ht, Ha, HO⟩
    rw [wp_ret]
    imodintro
    iapply Hwp
    isplitl [HO Hrest]
    · isplitl [HO] <;> iassumption
    isplitl [Hb]; · iexact Hb
    isplitl [Ht] <;> iassumption
  isplitl [Hb]; · iexact Hb
  isplitl [Ht Ha HO]
  · isplitl [Ht]; · iexact Ht
    isplitl [Ha] <;> iassumption
  isplitl [Hlv]; · iexact Hlv
  isplitl [Hg] <;> iassumption

end Region

end Cert.Proof.Kernel

end
-- ==== Proof.Kernel.Launch.lean ====
/-
  The launch: @main's operations and three calls in order, the ghost state they start from, and the program's run.
-/
module

public import proofs.«01_k».proof.Proof.Kernel.Host

@[expose] public section

noncomputable section

namespace Cert.Proof.Kernel

open Cert.Kernel Cert.Kernel.Gen

open Idealize.ShloMosaic
open Idealize.ShloMosaic.SparseCore (S V T)
open Idealize.ShloMosaic.SparseCore.Cfg (HIx Pay)
open Idealize.ShloMosaic.Pipeline (RDat pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The ghost state -/

/-- The tables the TensorCore call finds, of a memory whose experts are experts. -/
def tables (hok : ∀ d, (args m d).Ok) : (p : Fin 1) → (pcfgs (F := F) p).Adm := Gemm.adm (F := F) (Args.of_lt (hok 0))

def u₀ (hok : ∀ d, (args m d).Ok) : UU :=
  (initOf (K (F := F)).hsCells (K (F := F)).hsToks,
    (initOf (Pipeline.cells (pin (pcfgs (F := F)) (tables m hok)) (cellOf_inj _)) (Pipeline.launchToks (pin (pcfgs (F := F)) (tables m hok)) (cellOf_inj _)), 1))

/-- What @main holds of the TensorCore call's ghost state. -/
def ghost (hok : ∀ d, (args m d).Ok) (d : Dev nD) : sProp 𝕄 :=
  iprop(Pipeline.cellsGhost (pin (pcfgs (F := F)) (tables m hok)) EP 0 d ∗ Pipeline.toksInit (pin (pcfgs (F := F)) (tables m hok)) EP 0 d)

theorem hu₀ (hok : ∀ d, (args m d).Ok) : (ownU (u₀ m hok) : sProp 𝕄)
    ⊢ |={Set.univ}=> iprop(BI.own (EH (initOf (K (F := F)).hsCells (K (F := F)).hsToks)) ∗ (bigSep Finset.univ fun d : Dev nD => ghost m hok d)
        ∗ bigSep Finset.univ fun thr : Thread nD τ => bigSep Finset.univ fun q : Fin 2 => (P m).x q thr) := by
  have e : (bigSep Finset.univ fun thr : Thread nD τ => bigSep Finset.univ fun q : Fin 2 => (P m).x q thr) = (iprop(emp) : sProp 𝕄) :=
    (bigSep_congr fun _ _ => bigSep_emp_const _).trans (bigSep_emp_const _)
  have e' : (bigSep Finset.univ fun d : Dev nD => ghost m hok d)
      = iprop((bigSep Finset.univ fun c : Dev nD => bigSep Finset.univ fun p => Pipeline.cellsGhost (pin (pcfgs (F := F)) (tables m hok)) EP p c)
          ∗ bigSep Finset.univ fun c : Dev nD => bigSep Finset.univ fun p => Pipeline.toksInit (pin (pcfgs (F := F)) (tables m hok)) EP p c) := by
    unfold ghost
    rw [bigSep_sep']
    exact congrArg₂ _
      (bigSep_congr fun c _ => (bigSep_univ_of_subsingleton (Φ := fun p => Pipeline.cellsGhost (pin (pcfgs (F := F)) (tables m hok)) EP p c) (0 : Fin 1)).symm)
      (bigSep_congr fun c _ => (bigSep_univ_of_subsingleton (Φ := fun p => Pipeline.toksInit (pin (pcfgs (F := F)) (tables m hok)) EP p c) (0 : Fin 1)).symm)
  rw [e, e']
  unfold u₀
  iintro Hu
  ihave H := (ownU_pair _ _) $$ Hu
  icases H with ⟨HH, HR⟩
  ihave H := (own_pair_emb embR _ _) $$ HR
  icases H with ⟨HP, -⟩
  imod (Pipeline.fund_ghost (pin (pcfgs (F := F)) (tables m hok)) EP (cellOf_inj _)) $$ HP with ⟨Hg, Hk⟩
  imodintro
  iframe HH
  isplitl [Hg Hk]
  · isplitl [Hg] <;> iassumption
  iempintro

/-! ## The arrays -/

abbrev at_ (d : Dev nD) (b : Ref sig .tc) (f : Buf (Elt F) ((SparseCore.T d : Thread nD τ).loc b)) : sProp 𝕄 := (SparseCore.T d : Thread nD τ).loc b ↦{fullShare} f

/-- A product over a list without repeats, factor by factor. -/
theorem bigSep_list {β : Type} [DecidableEq β] (Φ : β → sProp 𝕄) : ∀ l : List β, l.Nodup → bigSep l.toFinset Φ = l.foldr (fun b R => iprop(Φ b ∗ R)) iprop(emp)
  | [], _ => by rw [List.toFinset_nil, bigSep_empty]; rfl
  | b :: l, h => by
    rw [List.toFinset_cons, SparseCore.bigSep_insert' (by rw [List.mem_toFinset]; exact (List.nodup_cons.mp h).1), bigSep_list Φ l (List.nodup_cons.mp h).2]
    rfl

/-- The TensorCore's arrays. -/
abbrev arrays : List (Ref sig .tc) :=
  [main_arg0, main_arg1, main_arg2, main_arg3, main_arg4, main_arg5, main_arg6, main_v0, main_v1_0, main_v1_1, main_v1_2, main_c, main_v2, main_v3, main_v4, main_v5, main_v6, main_v7, main_v8]

theorem arrays_all : (Finset.univ.filter fun b : Ref sig .tc => ¬ b.isScoped) = arrays.toFinset := by decide
theorem arrays_nodup : arrays.Nodup := by decide

theorem unscopedBufs_eq (d : Dev nD) (W : (b : Ref sig .tc) → Buf (Elt F) ((d.tc : Thread nD τ).loc b)) :
    (unscopedBufs d W : sProp 𝕄)
      = iprop(at_ d main_arg0 (W _) ∗ at_ d main_arg1 (W _) ∗ at_ d main_arg2 (W _) ∗ at_ d main_arg3 (W _) ∗ at_ d main_arg4 (W _) ∗ at_ d main_arg5 (W _) ∗ at_ d main_arg6 (W _)
          ∗ at_ d main_v0 (W _) ∗ at_ d main_v1_0 (W _) ∗ at_ d main_v1_1 (W _) ∗ at_ d main_v1_2 (W _) ∗ at_ d main_c (W _) ∗ at_ d main_v2 (W _) ∗ at_ d main_v3 (W _)
          ∗ at_ d main_v4 (W _) ∗ at_ d main_v5 (W _) ∗ at_ d main_v6 (W _) ∗ at_ d main_v7 (W _) ∗ at_ d main_v8 (W _) ∗ emp) := by
  unfold unscopedBufs
  rw [arrays_all, bigSep_list _ _ arrays_nodup]
  rfl

/-- The arguments, as the launch found them. -/
def argsHeld (d : Dev nD) : sProp 𝕄 :=
  iprop(at_ d main_arg0 (m _) ∗ at_ d main_arg1 (m _) ∗ at_ d main_arg2 (m _) ∗ at_ d main_arg3 (m _) ∗ at_ d main_arg4 (m _) ∗ at_ d main_arg5 (m _) ∗ at_ d main_arg6 (m _))

/-- What the end holds: the result and the arguments. -/
def whole (d : Dev nD) : sProp 𝕄 := iprop((oLoc d ↦{fullShare} (args m d).out) ∗ argsHeld m d)

theorem st0_eq (d : Dev nD) (hok : (args m d).Ok) :
    (bigSep Finset.univ fun c : Fin ((K (F := F)).nCore 0) => (P m).st 0 d c) = routedAll m d (m (xsLoc d)) (m (dLoc d)) (m (beLoc d)) := (routed_eq m d hok _ _ _).symm
theorem dn0_eq (d : Dev nD) (hok : (args m d).Ok) :
    (bigSep Finset.univ fun c : Fin ((K (F := F)).nCore 0) => (P m).dn 0 d c) = routedAll m d (args m d).xs (Route.dest (args m d).te) (Route.blocks (args m d).te) := (routed_eq m d hok _ _ _).symm

/-- The table is what routing wrote. -/
theorem add_zero_table (f : S32.Idx → BitVec 32) :
    (addi (w := 32) (s := S32) f (broadcastInDim (s := S_) S32 ![] bcast_S_S32 (constantI S_ 32 0#32)) : S32.Idx → BitVec 32) = f :=
  funext fun x => BitVec.add_zero _

/-- The operations between routing and the TensorCore call. -/
abbrev opZero : HloOp τ sig (Elt F) := StableHlo.nullary main_c (constantI S_ 32 0#32)
abbrev opFill : HloOp τ sig (Elt F) := StableHlo.unary main_c main_v2 (broadcastInDim S32 ![] bcast_S_S32 : (⟨S_, .i32⟩ : BufTy).Contents (Elt F) → (⟨S32, .i32⟩ : BufTy).Contents (Elt F))
abbrev opAdd : HloOp τ sig (Elt F) := StableHlo.binary main_v1_2 main_v2 main_v3 (addi : (⟨S32, .i32⟩ : BufTy).Contents (Elt F) → (⟨S32, .i32⟩ : BufTy).Contents (Elt F) → (⟨S32, .i32⟩ : BufTy).Contents (Elt F))

include m in
/-- A reshape. -/
theorem host_reshape (d : Dev nD) {x y : Ref sig .tc} (hxy : x ≠ y) (he : x.ty.elt = y.ty.elt) (hn : x.ty.shape.ShapeCasts y.ty.shape)
    (hx : x.space ≠ .host ∧ (dref x).isScoped = false) (hy : y.space ≠ .host ∧ (dref y).isScoped = false)
    (f : x.ty.Contents (Elt F)) (g : y.ty.Contents (Elt F)) {Q : PUnit → sProp 𝕄} :
    iprop(boundary (SparseCore.T d : Thread nD τ) ∗ at_ d x f ∗ at_ d y g)
      ⊢ iprop(((boundary (SparseCore.T d : Thread nD τ) ∗ at_ d x f ∗ at_ d y (fun i => he ▸ shapeCast y.ty.shape f hn i)) -∗ Q ⟨⟩)
          -∗ wp frame (wpE ((K (F := F)).defs (D (F := F))) 𝒱 (SparseCore.T d) none) Set.univ (hlo rfl (StableHlo.reshape x y he hn hx hy) fun _ => .ret ⟨⟩) Q) := by
  have h := host_one d (fun b => m (d, b)) (op := StableHlo.reshape x y he hn hx hy) (x := x) (y := y) (r := fun f i => he ▸ shapeCast y.ty.shape f hn i) hxy rfl rfl
    (fun V => StableHlo.reshape_result_ne _ _ _ _ _ _ V hxy) (fun V => StableHlo.reshape_result _ _ _ _ _ _ V) f g (k := fun _ => .ret ⟨⟩) (Q := Q)
  refine h.trans (wand_mono_left (wand_mono_right ?_))
  rw [wp_ret]
  iintro H; imodintro; iexact H

set_option maxRecDepth 16384 in
/-- @main on the TensorCore. -/
theorem hmain [∀ e, Nonempty (Elt F e)] (hok : ∀ d, (args m d).Ok) (κ : GSem nD τ sig → ℕ) (d : Dev nD) :
    iprop((K (F := F)).ctx EH (P m) κ ∗ (K (F := F)).tcSt EH d 0 ∗ (K (F := F)).tcRes m ρ d ∗ ghost m hok d)
      ⊢ wp frame (wpE ((K (F := F)).defs (D (F := F))) 𝒱 (SparseCore.T d) none) Set.univ (main d)
          fun _ => iprop((K (F := F)).tcSt EH d 2 ∗ whole m d ∗ (K (F := F)).tcEnd d) := by
  have hd : d = 0 := Subsingleton.elim _ _
  subst hd
  unfold SparseCore.Cfg.tcRes SparseCore.Cfg.tcEnd ghost tables
  rw [unscopedBufs_eq]
  simp only [main, wp_bind, wp_pure]
  iintro ⟨#Hctx, Hst, ⟨Hb, ⟨A0, A1, A2, A3, A4, A5, A6, V0, V10, V11, V12, C, V2, V3, V4, V5, V6, V7, V8, -⟩, Hts, -⟩, Hg, Hk⟩
  -- the experts in a row
  iapply (host_reshape m 0 (x := main_arg2) (y := main_v0) (by decide) rfl shapeCasts_S2048x2_S4096 _ _ _ _) $$ [Hb A2 V0]
  · isplitl [Hb]; · iexact Hb
    isplitl [A2] <;> iassumption
  iintro ⟨Hb, A2, V0⟩
  -- routing
  ihave V10 := (Entails.of_eq (rows_split 0 (args m 0).te (m (xsLoc 0)))) $$ V10
  icases V10 with ⟨V10, Vr⟩
  iapply ((K (F := F)).wp_run (D (F := F)) 𝒱 (EH := EH) (P := P m) κ 0 0)
  isplitr; · iexact Hctx
  isplitl [Hst]; · iexact Hst
  isplitl [V0 A0 V10 V11 V12]
  · iapply (Entails.of_eq (st0_eq m 0 (hok 0)).symm)
    unfold routedAll
    isplitl [V0]; · iexact V0
    isplitl [A0]; · iexact A0
    isplitl [V10]; · iexact V10
    isplitl [V11] <;> iassumption
  iintro ⟨Hst, Hdn⟩
  ihave Hdn := (Entails.of_eq (dn0_eq m 0 (hok 0))) $$ Hdn
  icases Hdn with ⟨V0, A0, V10, V11, V12⟩
  ihave Vr := (Entails.of_eq (rows_rest m 0)) $$ Vr
  ihave V10 := (Entails.of_eq (rows_split 0 (args m 0).te (args m 0).xs).symm) $$ [V10 Vr]
  · isplitl [V10] <;> iassumption
  -- the table, and the biases with a unit axis
  iapply (host_none 0 (fun b => m (0, b)) (y := main_c) (r := constantI S_ 32 0#32) (op := opZero) rfl rfl
    (fun V => StableHlo.nullary_result _ _ _ V) (m (0, dref main_c))) $$ [Hb C]
  · isplitl [Hb] <;> iassumption
  iintro ⟨Hb, C⟩
  rw [wp_ret]; imodintro
  iapply (host_one 0 (fun b => m (0, b)) (x := main_c) (y := main_v2) (r := (broadcastInDim S32 ![] bcast_S_S32 : (⟨S_, .i32⟩ : BufTy).Contents (Elt F) → (⟨S32, .i32⟩ : BufTy).Contents (Elt F)))
    (op := opFill) (by decide) rfl rfl
    (fun V => StableHlo.unary_result_ne _ _ _ _ _ V (by decide)) (fun V => StableHlo.unary_result _ _ _ _ _ V) (constantI S_ 32 0#32) (m (0, dref main_v2))) $$ [Hb C V2]
  · isplitl [Hb]; · iexact Hb
    isplitl [C] <;> iassumption
  iintro ⟨Hb, -, V2⟩
  rw [wp_ret]; imodintro
  iapply (host_two 0 (fun b => m (0, b)) (x := main_v1_2) (z := main_v2) (y := main_v3)
    (r := (addi : (⟨S32, .i32⟩ : BufTy).Contents (Elt F) → (⟨S32, .i32⟩ : BufTy).Contents (Elt F) → (⟨S32, .i32⟩ : BufTy).Contents (Elt F)))
    (op := opAdd)
    (by decide) (by decide) (by decide) rfl rfl
    (fun V => StableHlo.binary_result_ne _ _ _ _ _ _ _ V (by decide)) (fun V => StableHlo.binary_result_ne _ _ _ _ _ _ _ V (by decide)) (fun V => StableHlo.binary_result _ _ _ _ _ _ _ V)
    (Route.blocks (args m 0).te) (broadcastInDim S32 ![] bcast_S_S32 (constantI S_ 32 0#32)) (m (0, dref main_v3))) $$ [Hb V12 V2 V3]
  · isplitl [Hb]; · iexact Hb
    isplitl [V12]; · iexact V12
    isplitl [V2] <;> iassumption
  iintro ⟨Hb, -, -, V3⟩
  rw [wp_ret]; imodintro
  ihave V3 := (Entails.of_eq (congrArg (fun f => at_ 0 main_v3 f) (add_zero_table (Route.blocks (args m 0).te)))) $$ V3
  iapply (host_reshape m 0 (x := main_arg5) (y := main_v4) (by decide) rfl shapeCasts_S8x1536_S8x1x1536 _ _ _ _) $$ [Hb A5 V4]
  · isplitl [Hb]; · iexact Hb
    isplitl [A5] <;> iassumption
  iintro ⟨Hb, A5, V4⟩
  iapply (host_reshape m 0 (x := main_arg6) (y := main_v5) (by decide) rfl shapeCasts_S8x768_S8x1x768 _ _ _ _) $$ [Hb A6 V5]
  · isplitl [Hb]; · iexact Hb
    isplitl [A6] <;> iassumption
  iintro ⟨Hb, A6, V5⟩
  -- the experts
  iapply (gemm_run m (Args.of_lt (hok 0)) κ 0 1 (args m 0).xs (args m 0).w1 (args m 0).w2 (args m 0).c1 (args m 0).c2 (m (yLoc 0)))
  isplitr; · iexact Hctx
  isplitl [Hst]; · iexact Hst
  isplitl [Hb]; · iexact Hb
  isplitl [V3]; · iexact V3
  isplitl [V10 A3 A4 V4 V5 V6]
  · isplitl [V10]; · iexact V10
    isplitl [A3]; · iexact A3
    isplitl [A4]; · iexact A4
    isplitl [V4]; · iexact V4
    isplitl [V5]; · iexact V5
    iexact V6
  isplitl [Hg]; · iexact Hg
  isplitl [Hk]; · iexact Hk
  iintro ⟨Hst, Hb, -, %G, %hG, -, A3, A4, -, -, V6⟩
  -- the weights in a row
  iapply (host_reshape m 0 (x := main_arg1) (y := main_v7) (by decide) rfl shapeCasts_S2048x2_S4096 _ _ _ _) $$ [Hb A1 V7]
  · isplitl [Hb]; · iexact Hb
    isplitl [A1] <;> iassumption
  iintro ⟨Hb, A1, V7⟩
  -- combining
  iapply ((K (F := F)).wp_run (D (F := F)) 𝒱 (EH := EH) (P := P m) κ 0 1)
  isplitr; · iexact Hctx
  isplitl [Hst]; · iexact Hst
  isplitl [V6 V11 V7 V8]
  · iapply (show _ ⊢ (bigSep Finset.univ fun c : Fin ((K (F := F)).nCore 1) => (P m).st 1 0 c) from combined_in m 0 G (Args.agrees_of_good (hok 0) hG) (m (oLoc 0)))
    isplitl [V6]; · iexact V6
    isplitl [V11]; · iexact V11
    isplitl [V7]; · iexact V7
    iexact V8
  iintro ⟨Hst, Hdn⟩
  ihave V8 := (show (bigSep Finset.univ fun c : Fin ((K (F := F)).nCore 1) => (P m).dn 1 0 c) ⊢ (oLoc 0 ↦{fullShare} (args m 0).out : sProp 𝕄) from combined_out m 0 (args m 0).out) $$ Hdn
  imodintro
  isplitl [Hst]; · iexact Hst
  unfold whole argsHeld
  isplitr [Hb Hts]
  · isplitl [V8]; · iexact V8
    isplitl [A0]; · iexact A0
    isplitl [A1]; · iexact A1
    isplitl [A2]; · iexact A2
    isplitl [A3]; · iexact A3
    isplitl [A4]; · iexact A4
    isplitl [A5] <;> iassumption
  isplitl [Hb] <;> iassumption

/-! ## The run -/

/-- What the final memory holds. -/
def fq (d : Dev nD) (s' : Phys nD τ sig (Elt F)) : Prop :=
  s'.mem.mem (oLoc d) = (args m d).out
    ∧ ∀ b ∈ [main_arg0, main_arg1, main_arg2, main_arg3, main_arg4, main_arg5, main_arg6], s'.mem.mem ((SparseCore.T d : Thread nD τ).loc b) = m ((SparseCore.T d : Thread nD τ).loc b)

/-- An array held whole is what the memory holds. -/
theorem read_off {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  iframe HSI
  ipureintro
  exact funext fun i => h i (Finset.mem_univ i)

set_option maxRecDepth 16384 in
theorem hfin (d : Dev nD) (s' : Phys nD τ sig (Elt F)) : iprop(whole m d ∗ SI s') ⊢ (⌜fq m d s'⌝ : sProp 𝕄) := by
  unfold whole argsHeld
  iintro ⟨⟨Ho, A0, A1, A2, A3, A4, A5, A6⟩, HS⟩
  ihave H := (read_off (F := F) _ s') $$ [HS Ho]; · iframe HS Ho
  icases H with ⟨%ho, HS⟩
  ihave H := (read_off (F := F) _ s') $$ [HS A0]; · iframe HS A0
  icases H with ⟨%h0, HS⟩
  ihave H := (read_off (F := F) _ s') $$ [HS A1]; · iframe HS A1
  icases H with ⟨%h1, HS⟩
  ihave H := (read_off (F := F) _ s') $$ [HS A2]; · iframe HS A2
  icases H with ⟨%h2, HS⟩
  ihave H := (read_off (F := F) _ s') $$ [HS A3]; · iframe HS A3
  icases H with ⟨%h3, HS⟩
  ihave H := (read_off (F := F) _ s') $$ [HS A4]; · iframe HS A4
  icases H with ⟨%h4, HS⟩
  ihave H := (read_off (F := F) _ s') $$ [HS A5]; · iframe HS A5
  icases H with ⟨%h5, HS⟩
  ihave H := (read_off (F := F) _ s') $$ [HS A6]; · iframe HS A6
  icases H with ⟨%h6, -⟩
  ipureintro
  refine ⟨ho, List.forall_mem_cons.mpr ⟨h0, List.forall_mem_cons.mpr ⟨h1, List.forall_mem_cons.mpr ⟨h2, List.forall_mem_cons.mpr ⟨h3, List.forall_mem_cons.mpr ⟨h4,
    List.forall_mem_cons.mpr ⟨h5, List.forall_mem_cons.mpr ⟨h6, List.forall_mem_nil _⟩⟩⟩⟩⟩⟩⟩⟩

/-- The program's run: the result the entries' outputs summed, the arguments as they were, every semaphore at zero. -/
theorem run_main [∀ e, Nonempty (Elt F e)] (hok : ∀ d, (args m d).Ok) :
    θ_run (Cert.Kernel.defs (F := F)) (Cert.Kernel.threads (F := F)) ⟨m, fun _ => 0, ρ⟩ fun r =>
      (∀ d : Dev nD, r.2.mem (oLoc d) = (args m d).out
        ∧ ∀ b ∈ [main_arg0, main_arg1, main_arg2, main_arg3, main_arg4, main_arg5, main_arg6], r.2.mem ((SparseCore.T d : Thread nD τ).loc b) = m ((SparseCore.T d : Thread nD τ).loc b))
        ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hok | 1 => tileObl1 m facts hok)
    (fun q _ => match q with | 0 => SparseCore.Cfg.VecSplit.of_plain (vecSplit0 m) | 1 => SparseCore.Cfg.VecSplit.of_plain (vecSplit1 m))
    m ρ main (ghost m hok) (whole m) (u₀ m hok) (sep_elim_left.trans (hu₀ m hok)) (hmain m ρ hok) (fq m) (hfin m) _ (fun _ h hz => ⟨h, hz⟩)

end Cert.Proof.Kernel

end
-- ==== Proof.Same.lean ====
/-
  The kernel over exact arithmetic is printed as the kernel itself is, under other names: its body table and its threads are the
  kernel's. What the kernel's run shows at every float instance, it shows of the ideal program.
-/
module

public import proofs.«01_k».proof.Defs
public import proofs.«01_k».proof.Proof.Gen.KernelIdeal
public import proofs.«01_k».proof.Proof.Kernel.Launch

@[expose] public section

noncomputable section

namespace Cert.Proof

open Idealize.ShloMosaic Idealize.SL.Sem

variable {F : FTy → Type} [FloatOps F]

set_option maxRecDepth 8192
set_option maxHeartbeats 4000000

/-- The kernels' functions, by processor and label. -/
theorem bodies_eq : Cert.KernelIdeal.defs₀ (F := F) = Cert.Kernel.defs₀ (F := F) := by
  funext p ℓ a
  match p, ℓ, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector _ _, 1, _ => rfl
  | .scVector _ _, 2, _ => rfl

theorem defs_eq : Cert.KernelIdeal.defs (F := F) = Cert.Kernel.defs (F := F) :=
  congrArg (fun D => (Cert.Kernel.sc (F := F)).defs (Pipeline.defs Cert.Kernel.pcfgs D)) bodies_eq

theorem threads_eq : Cert.KernelIdeal.threads (F := F) = Cert.Kernel.threads (F := F) := rfl

/-- The kernel's run, of the ideal program: its result, its arguments and every semaphore as they were. -/
theorem run_ideal (m : (ℓ : Loc Cert.KernelIdeal.nD Cert.KernelIdeal.τ Cert.KernelIdeal.sig) → Buf (Elt F) ℓ) (ρ : Dev Cert.KernelIdeal.nD → PrngReg)
    [∀ e, Nonempty (Elt F e)] (hok : ∀ d, (Kernel.args (F := F) m d).Ok) :
    θ_run (Cert.KernelIdeal.defs (F := F)) (Cert.KernelIdeal.threads (F := F)) ⟨m, fun _ => 0, ρ⟩ fun r =>
      (∀ d : Dev Cert.Kernel.nD, r.2.mem (Kernel.oLoc d) = (Kernel.args (F := F) m d).out
        ∧ ∀ b ∈ [Cert.Kernel.main_arg0, Cert.Kernel.main_arg1, Cert.Kernel.main_arg2, Cert.Kernel.main_arg3, Cert.Kernel.main_arg4, Cert.Kernel.main_arg5, Cert.Kernel.main_arg6],
          r.2.mem ((SparseCore.T d : Thread Cert.Kernel.nD Cert.Kernel.τ).loc b) = m ((SparseCore.T d : Thread Cert.Kernel.nD Cert.Kernel.τ).loc b))
        ∧ r.2.sem = fun _ => 0 := by
  have h := Kernel.run_main (F := F) m ρ hok
  rw [← defs_eq, ← threads_eq] at h
  exact h

end Cert.Proof

end
-- ==== Proof.Reference.lean ====
/-
  What the reference computes: over the experts, each token's gate of the expert times the expert's output of the token.
-/
module

public import proofs.«01_k».proof.Proof.Gen.ReferenceIdeal.Run
public import Idealize.ShloMosaic.Lib.Pointwise

@[expose] public section

noncomputable section

namespace Cert.Proof.Reference

open Cert.ReferenceIdeal Cert.ReferenceIdeal.Gen
open Idealize.ShloMosaic Idealize.ShloMosaic.StableHlo Idealize.ShloMosaic.TcCoe

/-! ## One expert's term, as the reference spells it -/

section
variable {F : FTy → Type} [FloatOps F]

/-- The hidden layer of expert `e`, before the activation. -/
def hiddenOf (e : ℕ) (h1 : S8x768x1536.Slices ![e, 0, 0] S1x768x1536) (h2 : S8x1536.Slices ![e, 0] S1x1536)
    (x : FVec F S2048x768 .f32) (w1 : FVec F S8x768x1536 .f32) (b1 : FVec F S8x1536 .f32) : FVec F S2048x1536 .f32 :=
  addf (Host.dotGeneral dot_S2048x768_S768x1536_S2048x1536_1_0_0_1_n_n none x (shapeCast _ (extractStridedSlice S1x768x1536 ![e, 0, 0] w1 h1) shapeCasts_S1x768x1536_S768x1536))
    (broadcastInDim S2048x1536 ![0, 1] bcast_S1x1536_S2048x1536_0_1 (broadcastInDim S1x1536 ![1] bcast_S1536_S1x1536_1 (shapeCast _ (extractStridedSlice S1x1536 ![e, 0] b1 h2) shapeCasts_S1x1536_S1536)))

/-- The gate of expert `e` times its output. -/
def termOf (e : ℕ) (h3 : S8x1536x768.Slices ![e, 0, 0] S1x1536x768) (h4 : S8x768.Slices ![e, 0] S1x768) (c : BitVec 32) (h : FVec F S2048x1536 .f32)
    (g : FVec F S2048x2 .f32) (te : IVec S2048x2 32) (w2 : FVec F S8x1536x768 .f32) (b2 : FVec F S8x768 .f32) : FVec F S2048x768 .f32 :=
  mulf (broadcastInDim S2048x768 ![0, 1] bcast_S2048x1_S2048x768_0_1 (broadcastInDim S2048x1 ![0] bcast_S2048_S2048x1_0
      (Host.reduceAdd (mulf g (uitofp .f32 (cmpi .eq te (broadcastInDim S2048x2 ![] bcast_S_S2048x2 (constantI S_ 32 c))))) (constant S_ .f32 0x00000000#32) reducesTo_S2048x2_S2048_d1 h_S_)))
    (addf (Host.dotGeneral dot_S2048x1536_S1536x768_S2048x768_1_0_0_1_n_n none
        (mulf (mulf (broadcastInDim S2048x1536 ![] bcast_S_S2048x1536 (constant S_ .f32 0x3F000000#32)) h)
          (Host.erfc (mulf (Host.negf h) (broadcastInDim S2048x1536 ![] bcast_S_S2048x1536 (constant S_ .f32 0x3F3504F3#32)))))
        (shapeCast _ (extractStridedSlice S1x1536x768 ![e, 0, 0] w2 h3) shapeCasts_S1x1536x768_S1536x768))
      (broadcastInDim S2048x768 ![0, 1] bcast_S1x768_S2048x768_0_1 (broadcastInDim S1x768 ![1] bcast_S768_S1x768_1 (shapeCast _ (extractStridedSlice S1x768 ![e, 0] b2 h4) shapeCasts_S1x768_S768))))

end

/-! ## The same, read at an index over exact arithmetic -/

/-- The hidden layer of expert `e` at token `t`, before the activation. -/
def pre (x : S2048x768.Idx → EReal) (w1 : S8x768x1536.Idx → EReal) (b1 : S8x1536.Idx → EReal) (t : Fin 2048) (e : Fin 8) (f : Fin 1536) : EReal :=
  (∑ k : Fin 768, x (ix2 t k) * w1 (ix3 e k f)) + b1 (ix2 e f)

/-- The activation. -/
def act (h : EReal) : EReal := Ideal.ofBits .f32 0x3F000000#32 * h * (1 + Ideal.erf (h * Ideal.ofBits .f32 0x3F3504F3#32))

/-- Expert `e`'s output of token `t`. -/
def mlp (x : S2048x768.Idx → EReal) (w1 : S8x768x1536.Idx → EReal) (w2 : S8x1536x768.Idx → EReal) (b1 : S8x1536.Idx → EReal) (b2 : S8x768.Idx → EReal)
    (t : Fin 2048) (e : Fin 8) (c : Fin 768) : EReal :=
  (∑ f : Fin 1536, act (pre x w1 b1 t e f) * w2 (ix3 e f c)) + b2 (ix2 e c)

theorem hiddenOf_apply (e : Fin 8) (h1 h2) (x : FVec Ideal S2048x768 .f32) (w1 : FVec Ideal S8x768x1536 .f32) (b1 : FVec Ideal S8x1536 .f32) (t : Fin 2048) (f : Fin 1536) :
    hiddenOf (F := Ideal) e.val h1 h2 x w1 b1 (ix2 t f) = pre x w1 b1 t e f := by
  unfold hiddenOf pre
  pointwise

/-- Whether two words are the same, as a number. -/
theorem same_apply (a c : BitVec 32) : (FloatOps.uitofp (F := Ideal) .f32 (IntOp.cmpi .eq a c) : EReal) = if a = c then 1 else 0 := by
  by_cases h : a = c
  · rw [if_pos h, show IntOp.cmpi .eq a c = 1#1 by subst h; simp [IntOp.cmpi]]
    show (((1#1 : BitVec 1).toNat : ℝ) : EReal) = 1
    simp
  · rw [if_neg h, show IntOp.cmpi .eq a c = 0#1 by simp only [IntOp.cmpi, beq_eq_false_iff_ne.mpr h]; rfl]
    show (((0#1 : BitVec 1).toNat : ℝ) : EReal) = 0
    simp

theorem termOf_apply (e : Fin 8) (h3 h4) (c : BitVec 32) (h : FVec Ideal S2048x1536 .f32) (g : FVec Ideal S2048x2 .f32) (te : IVec S2048x2 32)
    (w2 : FVec Ideal S8x1536x768 .f32) (b2 : FVec Ideal S8x768 .f32) (t : Fin 2048) (k : Fin 768) :
    termOf (F := Ideal) e.val h3 h4 c h g te w2 b2 (ix2 t k)
      = (∑ p : Fin 2, g (ix2 t p) * (if te (ix2 t p) = c then 1 else 0)) * ((∑ f : Fin 1536, act (h (ix2 t f)) * w2 (ix3 e f k)) + b2 (ix2 e k)) := by
  unfold termOf act
  pointwise
  simp only [same_apply, neg_mul, Ideal.erfc_neg]

/-! ## The whole -/

/-- The reference's result at token `t`, column `k`. -/
def value (x : S2048x768.Idx → EReal) (g : S2048x2.Idx → EReal) (te : S2048x2.Idx → BitVec 32) (w1 : S8x768x1536.Idx → EReal) (w2 : S8x1536x768.Idx → EReal)
    (b1 : S8x1536.Idx → EReal) (b2 : S8x768.Idx → EReal) (t : Fin 2048) (k : Fin 768) : EReal :=
  ∑ e : Fin 8, (∑ p : Fin 2, g (ix2 t p) * (if te (ix2 t p) = BitVec.ofNat 32 e.val then 1 else 0)) * mlp x w1 w2 b1 b2 t e k

section
variable (x : FVec Ideal S2048x768 .f32) (g : FVec Ideal S2048x2 .f32) (te : IVec S2048x2 32) (w1 : FVec Ideal S8x768x1536 .f32) (w2 : FVec Ideal S8x1536x768 .f32)
  (b1 : FVec Ideal S8x1536 .f32) (b2 : FVec Ideal S8x768 .f32)

/-- An expert's term, of the arguments. -/
abbrev termAt (e : ℕ) (h1 : S8x768x1536.Slices ![e, 0, 0] S1x768x1536) (h2 : S8x1536.Slices ![e, 0] S1x1536) (h3 : S8x1536x768.Slices ![e, 0, 0] S1x1536x768)
    (h4 : S8x768.Slices ![e, 0] S1x768) : FVec Ideal S2048x768 .f32 :=
  termOf (F := Ideal) e h3 h4 (BitVec.ofNat 32 e) (hiddenOf (F := Ideal) e h1 h2 x w1 b1) g te w2 b2

theorem termAt_apply (e : Fin 8) (h1 h2 h3 h4) (t : Fin 2048) (k : Fin 768) :
    termAt x g te w1 w2 b1 b2 e.val h1 h2 h3 h4 (ix2 t k)
      = (∑ p : Fin 2, g (ix2 t p) * (if te (ix2 t p) = BitVec.ofNat 32 e.val then 1 else 0)) * mlp x w1 w2 b1 b2 t e k := by
  unfold termAt
  rw [termOf_apply]
  simp only [hiddenOf_apply]
  rfl

/-- All of the terms. -/
def terms : FVec Ideal S2048x768 .f32 :=
  addf (addf (addf (addf (addf (addf (addf (addf (broadcastInDim S2048x768 ![] bcast_S_S2048x768 (constant S_ .f32 0x00000000#32))
    (termAt x g te w1 w2 b1 b2 0 slices_S8x768x1536_S1x768x1536_0_0_0 slices_S8x1536_S1x1536_0_0 slices_S8x1536x768_S1x1536x768_0_0_0 slices_S8x768_S1x768_0_0))
    (termAt x g te w1 w2 b1 b2 1 slices_S8x768x1536_S1x768x1536_1_0_0 slices_S8x1536_S1x1536_1_0 slices_S8x1536x768_S1x1536x768_1_0_0 slices_S8x768_S1x768_1_0))
    (termAt x g te w1 w2 b1 b2 2 slices_S8x768x1536_S1x768x1536_2_0_0 slices_S8x1536_S1x1536_2_0 slices_S8x1536x768_S1x1536x768_2_0_0 slices_S8x768_S1x768_2_0))
    (termAt x g te w1 w2 b1 b2 3 slices_S8x768x1536_S1x768x1536_3_0_0 slices_S8x1536_S1x1536_3_0 slices_S8x1536x768_S1x1536x768_3_0_0 slices_S8x768_S1x768_3_0))
    (termAt x g te w1 w2 b1 b2 4 slices_S8x768x1536_S1x768x1536_4_0_0 slices_S8x1536_S1x1536_4_0 slices_S8x1536x768_S1x1536x768_4_0_0 slices_S8x768_S1x768_4_0))
    (termAt x g te w1 w2 b1 b2 5 slices_S8x768x1536_S1x768x1536_5_0_0 slices_S8x1536_S1x1536_5_0 slices_S8x1536x768_S1x1536x768_5_0_0 slices_S8x768_S1x768_5_0))
    (termAt x g te w1 w2 b1 b2 6 slices_S8x768x1536_S1x768x1536_6_0_0 slices_S8x1536_S1x1536_6_0 slices_S8x1536x768_S1x1536x768_6_0_0 slices_S8x768_S1x768_6_0))
    (termAt x g te w1 w2 b1 b2 7 slices_S8x768x1536_S1x768x1536_7_0_0 slices_S8x1536_S1x1536_7_0 slices_S8x1536x768_S1x1536x768_7_0_0 slices_S8x768_S1x768_7_0)

/-- The terms' sum at an index. -/
theorem terms_apply (t : Fin 2048) (k : Fin 768) : terms x g te w1 w2 b1 b2 (ix2 t k) = value x g te w1 w2 b1 b2 t k := by
  unfold terms value
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact (congrArg₂ (· + ·) Ideal.ofBits_zero_f32 (termAt_apply x g te w1 w2 b1 b2 0 _ _ _ _ t k)).trans (zero_add _)
  · exact termAt_apply x g te w1 w2 b1 b2 1 _ _ _ _ t k
  · exact termAt_apply x g te w1 w2 b1 b2 2 _ _ _ _ t k
  · exact termAt_apply x g te w1 w2 b1 b2 3 _ _ _ _ t k
  · exact termAt_apply x g te w1 w2 b1 b2 4 _ _ _ _ t k
  · exact termAt_apply x g te w1 w2 b1 b2 5 _ _ _ _ t k
  · exact termAt_apply x g te w1 w2 b1 b2 6 _ _ _ _ t k
  · exact termAt_apply x g te w1 w2 b1 b2 7 _ _ _ _ t k

end

/-- The result is the terms' sum. -/
theorem result_eq (V : Valuation τ sig (Elt Ideal)) :
    Value.res_out0 V = terms (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) := rfl

end Cert.Proof.Reference

end
-- ==== Proof.Algebra.lean ====
/-
  The kernel's result and the reference's are one function of finite arguments: a token's two entries hold its experts' outputs of it,
  which the sum over the experts picks out by their gates.
-/
module

public import proofs.«01_k».proof.Proof.Reference
public import proofs.«01_k».proof.Proof.Kernel.Total

@[expose] public section

noncomputable section

namespace Cert.Proof.Algebra

open Cert.Kernel Cert.Kernel.Gen
open Idealize.ShloMosaic
open Cert.Proof.Reference (pre act mlp value)
open Cert.Proof.Kernel (Args pt outputs placed)
open Cert.Proof.Kernel.Gemm (gelu expert rowsOf slab)

/-! ## A block's rows through an expert -/

theorem hidden_apply (x : FVec Ideal S512x768 .f32) (w1 : FVec Ideal S1x768x1536 .f32) (b1 : FVec Ideal S1x1x1536 .f32) (r : Fin 512) (f : Fin 1536) :
    Kernel.Gemm.hidden (F := Ideal) x w1 b1 (ix2 r f) = (∑ k : Fin 768, x (ix2 r k) * w1 (ix3 0 k f)) + b1 (ix3 0 0 f) := by
  unfold Kernel.Gemm.hidden
  pointwise

theorem expert_apply (x : FVec Ideal S512x768 .f32) (w1 : FVec Ideal S1x768x1536 .f32) (w2 : FVec Ideal S1x1536x768 .f32) (b1 : FVec Ideal S1x1x1536 .f32)
    (b2 : FVec Ideal S1x1x768 .f32) (r : Fin 512) (c : Fin 768) :
    expert (F := Ideal) x w1 w2 b1 b2 (ix2 r c) = (∑ f : Fin 1536, act ((∑ k : Fin 768, x (ix2 r k) * w1 (ix3 0 k f)) + b1 (ix3 0 0 f)) * w2 (ix3 0 f c)) + b2 (ix3 0 0 c) := by
  unfold expert gelu act
  pointwise
  simp only [hidden_apply]
  rfl

/-! ## An entry's row -/

section
variable (A : Args Ideal)

/-- The output that the kernel leaves in an entry's row: the entry's expert's of the entry's token. -/
theorem ys_row (h : A.Ok) {p : ℕ} (hp : p < 4096) (z : S8192x768.Idx) (hz : (z 0).val = Kernel.Route.row A.te p) (e : Fin 8) (he : e.val = Kernel.Route.ex A.te p) :
    A.ys z = mlp A.hidden A.w1 A.w2 A.b1 A.b2 ⟨p / 2, by omega⟩ e (z 1) := by
  have hte := Args.te_lt h
  let i : Fin 16 := ⟨(z 0).val / 512, by have h : (z 0).val < 8192 := (z 0).isLt; omega⟩
  let r : Fin 512 := ⟨(z 0).val % 512, Nat.mod_lt _ (by decide)⟩
  have hb : Kernel.Gemm.of (Kernel.Route.blocks A.te) (pt i) = e.val := (Kernel.Route.blocks_row hte hp i (by show (z 0).val / 512 = _; rw [hz])).trans he.symm
  have hx : ∀ k : Fin 768, rowsOf A.xs (pt i) (ix2 r k) = A.hidden (ix2 ⟨p / 2, by omega⟩ k) := fun k => by
    refine Kernel.placed_row hte A.hidden A.rows hp _ ?_
    show 512 * ((z 0).val / 512) + (z 0).val % 512 = _
    omega
  have key : ∀ (n : ℕ) (hn : n < 8) (c : Fin 768), n = e.val → expert (F := Ideal) (rowsOf A.xs (pt i)) (slab A.w1 n hn) (slab A.w2 n hn) (slab A.c1 n hn) (slab A.c2 n hn) (ix2 r c)
      = mlp A.hidden A.w1 A.w2 A.b1 A.b2 ⟨p / 2, by omega⟩ e c := by
    intro n hn c en
    subst en
    have h1 : ∀ f : Fin 1536, slab A.c1 e.val hn (ix3 0 0 f) = A.b1 (ix2 e f) := fun f => by
      show (shapeCast S8x1x1536 A.b1 shapeCasts_S8x1536_S8x1x1536) (ix3 e 0 f) = _
      pointwise
    have h2 : slab A.c2 e.val hn (ix3 0 0 c) = A.b2 (ix2 e c) := by
      show (shapeCast S8x1x768 A.b2 shapeCasts_S8x768_S8x1x768) (ix3 e 0 c) = _
      pointwise
    refine (expert_apply _ _ _ _ _ r c).trans (congrArg₂ (· + ·) (Finset.sum_congr rfl fun f _ => congrArg₂ (· * ·) (congrArg act ?_) rfl) h2)
    exact congrArg₂ (· + ·) (Finset.sum_congr rfl fun k _ => congrArg₂ (· * ·) (hx k) rfl) (h1 f)
  unfold Args.ys outputs
  exact key _ _ _ (by rw [hb]; exact Nat.mod_eq_of_lt e.isLt)

end

/-! ## Real numbers -/

/-- Of an extended real, that it is a real. -/
def IsReal (x : EReal) : Prop := ∃ r : ℝ, x = r

theorem IsReal.add {x y : EReal} : IsReal x → IsReal y → IsReal (x + y) := by
  rintro ⟨a, rfl⟩ ⟨b, rfl⟩
  exact ⟨a + b, by push_cast; rfl⟩

theorem IsReal.mul {x y : EReal} : IsReal x → IsReal y → IsReal (x * y) := by
  rintro ⟨a, rfl⟩ ⟨b, rfl⟩
  exact ⟨a * b, by push_cast; rfl⟩

theorem IsReal.zero : IsReal 0 := ⟨0, by simp⟩
theorem IsReal.one : IsReal 1 := ⟨1, by simp⟩

theorem IsReal.sum {ι : Type} (s : Finset ι) (f : ι → EReal) (h : ∀ i, IsReal (f i)) : IsReal (∑ i ∈ s, f i) :=
  Finset.sum_induction f IsReal (fun _ _ => IsReal.add) IsReal.zero fun i _ => h i

theorem IsReal.ite {c : Prop} [Decidable c] : IsReal (if c then 1 else 0) := by
  split
  · exact .one
  · exact .zero

/-- Reals distribute. -/
theorem IsReal.add_mul {x y z : EReal} : IsReal x → IsReal y → IsReal z → (x + y) * z = x * z + y * z := by
  rintro ⟨a, rfl⟩ ⟨b, rfl⟩ ⟨c, rfl⟩
  norm_cast
  exact _root_.add_mul a b c

/-- The words for one half and the reciprocal of the root of two denote reals. -/
theorem half_real : IsReal (Ideal.ofBits .f32 0x3F000000#32) := by
  simp only [Ideal.ofBits, Ideal.ieee]
  norm_num
  exact ⟨_, rfl⟩

theorem scale_real : IsReal (Ideal.ofBits .f32 0x3F3504F3#32) := by
  simp only [Ideal.ofBits, Ideal.ieee]
  norm_num
  exact ⟨_, rfl⟩

theorem act_real {h : EReal} (hh : IsReal h) : IsReal (act h) := by
  refine (half_real.mul hh).mul (IsReal.one.add ?_)
  obtain ⟨r, hr⟩ := hh.mul scale_real
  rw [hr]
  exact ⟨_, Ideal.erf_coe r⟩

theorem mlp_real {x : S2048x768.Idx → EReal} {w1 : S8x768x1536.Idx → EReal} {w2 : S8x1536x768.Idx → EReal} {b1 : S8x1536.Idx → EReal} {b2 : S8x768.Idx → EReal}
    (hx : ∀ i, IsReal (x i)) (hw1 : ∀ i, IsReal (w1 i)) (hw2 : ∀ i, IsReal (w2 i)) (hb1 : ∀ i, IsReal (b1 i)) (hb2 : ∀ i, IsReal (b2 i))
    (t : Fin 2048) (e : Fin 8) (c : Fin 768) : IsReal (mlp x w1 w2 b1 b2 t e c) :=
  (IsReal.sum _ _ fun f => (act_real ((IsReal.sum _ _ fun k => (hx _).mul (hw1 _)).add (hb1 _))).mul (hw2 _)).add (hb2 _)

/-! ## The sum over the experts -/

/-- One entry's part of the sum over the experts is its expert's. -/
theorem pick (c : BitVec 32) (e : Fin 8) (he : c.toNat = e.val) (g : EReal) (Y : Fin 8 → EReal) :
    ∑ i : Fin 8, g * (if c = BitVec.ofNat 32 i.val then 1 else 0) * Y i = g * Y e := by
  have hc : ∀ i : Fin 8, c = BitVec.ofNat 32 i.val ↔ i = e := fun i => by
    constructor
    · intro h
      have h' := congrArg BitVec.toNat h
      rw [BitVec.toNat_ofNat] at h'
      exact Fin.ext (by omega)
    · rintro rfl
      apply BitVec.eq_of_toNat_eq
      rw [BitVec.toNat_ofNat]
      omega
  rw [Finset.sum_eq_single e]
  · rw [if_pos ((hc e).2 rfl), mul_one]
  · intro i _ hi
    rw [if_neg (fun h => hi ((hc i).1 h)), mul_zero, zero_mul]
  · intro h
    exact absurd (Finset.mem_univ e) h

theorem value_eq {x : S2048x768.Idx → EReal} {g : S2048x2.Idx → EReal} {te : S2048x2.Idx → BitVec 32} {w1 : S8x768x1536.Idx → EReal}
    {w2 : S8x1536x768.Idx → EReal} {b1 : S8x1536.Idx → EReal} {b2 : S8x768.Idx → EReal} (hg : ∀ i, IsReal (g i))
    (hm : ∀ t e c, IsReal (mlp x w1 w2 b1 b2 t e c)) (t : Fin 2048) (c : Fin 768) (e0 e1 : Fin 8) (h0 : (te (ix2 t 0)).toNat = e0.val) (h1 : (te (ix2 t 1)).toNat = e1.val) :
    value x g te w1 w2 b1 b2 t c = g (ix2 t 0) * mlp x w1 w2 b1 b2 t e0 c + g (ix2 t 1) * mlp x w1 w2 b1 b2 t e1 c := by
  unfold value
  simp only [Fin.sum_univ_two]
  rw [Finset.sum_congr rfl fun e _ => IsReal.add_mul ((hg _).mul .ite) ((hg _).mul .ite) (hm t e c), Finset.sum_add_distrib,
    pick _ e0 h0 _ fun e => mlp x w1 w2 b1 b2 t e c, pick _ e1 h1 _ fun e => mlp x w1 w2 b1 b2 t e c]

/-! ## The kernel's result -/

section
variable (A : Args Ideal)

/-- What the kernel gathers for an entry: its expert's output of its token, times its weight. -/
theorem part (h : A.Ok) (t : Fin 2048) (q : Fin 2) (c : Fin 768) (e : Fin 8) (he : (A.experts (ix2 t q)).toNat = e.val) (x : S4096.Idx) (hx : (x 0).val = 2 * t.val + q.val) :
    FloatOps.mulf (φ := .f32) (A.ew x) (Kernel.Comb.rowAt A.ys (Kernel.Route.dest A.te x) c) = A.gates (ix2 t q) * mlp A.hidden A.w1 A.w2 A.b1 A.b2 t e c := by
  have hte := Args.te_lt h
  have hp : (x 0).val < 4096 := (x 0).isLt
  have hr := Kernel.Route.row_lt hte hp
  have hf : ∀ {α : Type} (y : S2048x2.Idx → α), (shapeCast S4096 y shapeCasts_S2048x2_S4096) x = y (ix2 t q) := by
    intro α y
    exact congrArg y (Shape.reshapeEquiv_eq_of_vals shapeCasts_S2048x2_S4096 x (ix2 t q) _ _ (rowMajor_val2 _ 2 rfl) (rowMajor_val1 x) (show t.val * 2 + q.val = (x 0).val by omega))
  have ex : x = ValueIdx.ix1 (n := 4096) ⟨(x 0).val % 4096, Nat.mod_lt _ (by decide)⟩ := funext fun (a : Fin 1) =>
    match a with
    | 0 => Fin.ext (show (x 0).val = (x 0).val % 4096 by omega)
  have hy := ys_row A h hp (ix2 (n0 := 8192) (n1 := 768) ⟨(Kernel.Route.dest A.te x).toNat % 8192, Nat.mod_lt _ (by decide)⟩ c)
    (by show (Kernel.Route.dest A.te x).toNat % 8192 = _
        rw [Kernel.Route.dest_toNat hte]; omega) e (by
      rw [← he, ← hf A.experts]
      exact congrArg (fun y => (A.te y).toNat) ex)
  refine congrArg₂ (· * ·) (hf A.gates) (hy.trans ?_)
  congr 1
  exact Fin.ext (show (x 0).val / 2 = t.val by omega)

/-- The kernel's result of finite arguments is the reference's. -/
theorem out_eq (h : A.Ok) (hx : ∀ i, IsReal (A.hidden i)) (hg : ∀ i, IsReal (A.gates i)) (hw1 : ∀ i, IsReal (A.w1 i)) (hw2 : ∀ i, IsReal (A.w2 i))
    (hb1 : ∀ i, IsReal (A.b1 i)) (hb2 : ∀ i, IsReal (A.b2 i)) :
    A.out = Reference.terms A.hidden A.gates A.experts A.w1 A.w2 A.b1 A.b2 := by
  funext z
  obtain ⟨t, c, rfl⟩ : ∃ (t : Fin 2048) (c : Fin 768), z = ix2 t c := ⟨z 0, z 1, funext fun (a : Fin 2) => match a with | 0 => rfl | 1 => rfl⟩
  rw [Reference.terms_apply]
  refine Eq.trans ?_ (value_eq hg (mlp_real hx hw1 hw2 hb1 hb2) t c ⟨_, h (ix2 t 0)⟩ ⟨_, h (ix2 t 1)⟩ rfl rfl).symm
  exact congrArg₂ (· + ·) (part A h t 0 c _ rfl (ValueIdx.ix1 _) rfl) (part A h t 1 c _ rfl (ValueIdx.ix1 _) rfl)

end

end Cert.Proof.Algebra

end
-- ==== Proof.Precondition.lean ====
/-
  The preconditions, read: every token's experts are experts, and every float argument is a real.
-/
module

public import proofs.«01_k».proof.Proof.Gen.Pre_experts_in_range
public import proofs.«01_k».proof.Proof.Gen.Pre_finite_and_in_range
public import proofs.«01_k».proof.Proof.Algebra
public import Idealize.ShloMosaic.Lib.ReduceAll
public import Idealize.ShloMosaic.Lib.WordCmp

@[expose] public section

namespace Cert.Proof

open Idealize.ShloMosaic Idealize.ShloMosaic.WordCmp
open Algebra (IsReal)

/-- Two comparisons, of every expert number, say that it is below eight. -/
theorem expert_lt (c : BitVec 32) (h : IntOp.andi (IntOp.cmpi .sge c 0#32) (IntOp.cmpi .slt c (BitVec.ofNat 32 8)) = 1#1) : c.toNat < 8 := by
  rw [andi_sge_zero_slt_ofNat (by decide), ofBool_decide_eq_one_iff] at h
  exact h

theorem both_one : ∀ a b : BitVec 1, IntOp.andi a b = 1#1 → a = 1#1 ∧ b = 1#1 := by decide

/-- The word of the infinity. -/
theorem top_word : Ideal.ofBits .f32 0x7F800000#32 = ⊤ := by simp [Ideal.ofBits, Ideal.ieee]

/-- A magnitude below the infinity is a real's. -/
theorem real_of_lt (x : EReal) (h : FloatOps.cmpf (F := Ideal) (φ := .f32) .olt (FloatOps.hostAbsf (F := Ideal) (φ := .f32) x) (Ideal.ofBits .f32 0x7F800000#32) = 1#1) : IsReal x := by
  rw [top_word] at h
  have h' : BitVec.ofBool (decide (max x (-x) < ⊤)) = 1#1 := h
  rw [ofBool_decide_eq_one_iff, max_lt_iff] at h'
  induction x using EReal.rec with
  | bot => exact absurd h'.2 (by simp)
  | top => exact absurd h'.1 (by simp)
  | coe r => exact ⟨r, rfl⟩

theorem experts_of_pre {F : FTy → Type} [FloatOps F] (x : FVec F Pre_experts_in_range.S2048x768 .f32) (g : FVec F Pre_experts_in_range.S2048x2 .f32) (te : IVec Pre_experts_in_range.S2048x2 32)
    (w1 : FVec F Pre_experts_in_range.S8x768x1536 .f32) (w2 : FVec F Pre_experts_in_range.S8x1536x768 .f32) (b1 : FVec F Pre_experts_in_range.S8x1536 .f32) (b2 : FVec F Pre_experts_in_range.S8x768 .f32)
    (h : Pre_experts_in_range.fn (F := F) x g te w1 w2 b1 b2 = fun _ => 1#1) (i : Pre_experts_in_range.S2048x2.Idx) : (te i).toNat < 8 := by
  have : Subsingleton Pre_experts_in_range.S_.Idx := ⟨fun _ _ => funext fun a => a.elim0⟩
  exact expert_lt _ (Host.reduce_andi_all _ _ _ _ _ (congrFun h (fun a => a.elim0)) i)

/-- What `finite_and_in_range` says of the arguments. -/
structure Good (x : Pre_finite_and_in_range.S2048x768.Idx → EReal) (g : Pre_finite_and_in_range.S2048x2.Idx → EReal) (te : Pre_finite_and_in_range.S2048x2.Idx → BitVec 32)
    (w1 : Pre_finite_and_in_range.S8x768x1536.Idx → EReal) (w2 : Pre_finite_and_in_range.S8x1536x768.Idx → EReal) (b1 : Pre_finite_and_in_range.S8x1536.Idx → EReal)
    (b2 : Pre_finite_and_in_range.S8x768.Idx → EReal) : Prop where
  hte : ∀ i, (te i).toNat < 8
  hx : ∀ i, IsReal (x i)
  hg : ∀ i, IsReal (g i)
  hw1 : ∀ i, IsReal (w1 i)
  hw2 : ∀ i, IsReal (w2 i)
  hb1 : ∀ i, IsReal (b1 i)
  hb2 : ∀ i, IsReal (b2 i)

theorem good_of_pre (x : FVec Ideal Pre_finite_and_in_range.S2048x768 .f32) (g : FVec Ideal Pre_finite_and_in_range.S2048x2 .f32) (te : IVec Pre_finite_and_in_range.S2048x2 32)
    (w1 : FVec Ideal Pre_finite_and_in_range.S8x768x1536 .f32) (w2 : FVec Ideal Pre_finite_and_in_range.S8x1536x768 .f32) (b1 : FVec Ideal Pre_finite_and_in_range.S8x1536 .f32)
    (b2 : FVec Ideal Pre_finite_and_in_range.S8x768 .f32)
    (h : Pre_finite_and_in_range.fn (F := Ideal) x g te w1 w2 b1 b2 = fun _ => 1#1) : Good x g te w1 w2 b1 b2 := by
  have : Subsingleton Pre_finite_and_in_range.S_.Idx := ⟨fun _ _ => funext fun a => a.elim0⟩
  have h5 := congrFun h (fun a => a.elim0)
  obtain ⟨h4, r6⟩ := both_one _ _ h5
  obtain ⟨h3, r5⟩ := both_one _ _ h4
  obtain ⟨h2, r4⟩ := both_one _ _ h3
  obtain ⟨h1, r3⟩ := both_one _ _ h2
  obtain ⟨h0, r1⟩ := both_one _ _ h1
  obtain ⟨rt, r0⟩ := both_one _ _ h0
  exact ⟨fun i => expert_lt _ (Host.reduce_andi_all _ _ _ _ _ rt i), fun i => real_of_lt _ (Host.reduce_andi_all _ _ _ _ _ r0 i), fun i => real_of_lt _ (Host.reduce_andi_all _ _ _ _ _ r1 i),
    fun i => real_of_lt _ (Host.reduce_andi_all _ _ _ _ _ r3 i), fun i => real_of_lt _ (Host.reduce_andi_all _ _ _ _ _ r4 i), fun i => real_of_lt _ (Host.reduce_andi_all _ _ _ _ _ r5 i),
    fun i => real_of_lt _ (Host.reduce_andi_all _ _ _ _ _ r6 i)⟩

end Cert.Proof

end
-- ==== Proof.lean ====
/-
  The certificate: the kernel's two programs run, the reference runs, and the ideal kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_experts_in_range
public import proofs.«01_k».proof.Proof.Gen.Pre_finite_and_in_range
public import proofs.«01_k».proof.Proof.Same
public import proofs.«01_k».proof.Proof.Precondition

@[expose] public section

noncomputable section

namespace Cert.Proof

open Idealize.ShloMosaic Idealize.SL.Sem

/-- What holds of each of the arguments, one by one. -/
theorem seven {α : Type} {a0 a1 a2 a3 a4 a5 a6 : α} {P : α → Prop} (h : ∀ b ∈ [a0, a1, a2, a3, a4, a5, a6], P b) : P a0 ∧ P a1 ∧ P a2 ∧ P a3 ∧ P a4 ∧ P a5 ∧ P a6 := by
  simpa using h

theorem ok_kernel (m : (ℓ : Loc Cert.Kernel.nD Cert.Kernel.τ Cert.Kernel.sig) → Buf (Elt Bits) ℓ) (h : Cert.Pre_Kernel m) (d : Dev Cert.Kernel.nD) :
    (Kernel.args (F := Bits) m d).Ok := fun x => experts_of_pre _ _ _ _ _ _ _ (h d) x

theorem ok_ideal (m : (ℓ : Loc Cert.KernelIdeal.nD Cert.KernelIdeal.τ Cert.KernelIdeal.sig) → Buf (Elt Ideal) ℓ) (h : Cert.Pre_KernelIdeal m) (d : Dev Cert.KernelIdeal.nD) :
    (Kernel.args (F := Ideal) m d).Ok := fun x => experts_of_pre _ _ _ _ _ _ _ (h d) x

theorem good_ideal (m : (ℓ : Loc Cert.KernelIdeal.nD Cert.KernelIdeal.τ Cert.KernelIdeal.sig) → Buf (Elt Ideal) ℓ) (h : Cert.Pre_KernelIdeal_finite_and_in_range m) (d : Dev Cert.KernelIdeal.nD) :
    Good (Kernel.args (F := Ideal) m d).hidden (Kernel.args (F := Ideal) m d).gates (Kernel.args (F := Ideal) m d).experts (Kernel.args (F := Ideal) m d).w1
      (Kernel.args (F := Ideal) m d).w2 (Kernel.args (F := Ideal) m d).b1 (Kernel.args (F := Ideal) m d).b2 := good_of_pre _ _ _ _ _ _ _ (h d)

/-- The kernel as written: it runs, its arguments and every semaphore as they were. -/
theorem frame_kernel : Cert.quiescent_Kernel := fun m ρ hpre =>
  (θ_run Cert.Kernel.defs _ _).mono (fun _ h => ⟨fun c => seven (h.1 c).2, h.2⟩) (Kernel.run_main (F := Bits) m ρ (ok_kernel m hpre))

/-- The kernel over exact arithmetic likewise, -/
theorem frame_ideal : Cert.quiescent_KernelIdeal := fun m ρ hpre =>
  (θ_run Cert.KernelIdeal.defs _ _).mono (fun _ h => ⟨fun c => seven (h.1 c).2, h.2⟩) (run_ideal (F := Ideal) m ρ (ok_ideal m hpre))

/-- of finite arguments too. -/
theorem frame_ideal_finite : Cert.quiescent_KernelIdeal_pre_finite_and_in_range := fun m ρ hpre =>
  (θ_run Cert.KernelIdeal.defs _ _).mono (fun _ h => ⟨fun c => seven (h.1 c).2, h.2⟩) (run_ideal (F := Ideal) m ρ fun d => (good_ideal m hpre d).hte)

/-- The reference over exact arithmetic likewise: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_and_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same finite arguments the ideal kernel and the reference end with the same result. -/
theorem algebraic : Cert.algebraic_KernelIdeal_ReferenceIdeal_pre_finite_and_in_range := by
  intro m ρ m' ρ' hpre hagree
  refine ⟨fun c => (Kernel.args (F := Ideal) m c).out,
    (θ_run Cert.KernelIdeal.defs _ _).mono (fun _ h c => ⟨(h.1 c).1, seven (h.1 c).2⟩) (run_ideal (F := Ideal) m ρ fun d => (good_ideal m hpre d).hte), ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6⟩ := hagree c
  have g := good_ideal m hpre c
  refine (Reference.result_eq _).trans (Eq.trans ?_ (Algebra.out_eq _ g.hte g.hx g.hg g.hw1 g.hw2 g.hb1 g.hb2).symm)
  have key : Reference.terms (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      = Reference.terms (Kernel.args (F := Ideal) m c).hidden (Kernel.args (F := Ideal) m c).gates (Kernel.args (F := Ideal) m c).experts (Kernel.args (F := Ideal) m c).w1
        (Kernel.args (F := Ideal) m c).w2 (Kernel.args (F := Ideal) m c).b1 (Kernel.args (F := Ideal) m c).b2 := by
    rw [e0, e1, e2, e3, e4, e5, e6]
    rfl
  exact key

theorem claim : Cert.Claim :=
  ⟨Cert.Kernel.Gen.facts, Cert.KernelIdeal.Gen.facts, Cert.ReferenceIdeal.Gen.facts, Cert.Pre_experts_in_range.Gen.facts, Cert.Pre_finite_and_in_range.Gen.facts,
    frame_kernel, frame_ideal, frame_ideal_finite, frame_reference, frame_reference_finite, trivial, algebraic⟩

end Cert.Proof

end
